-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v66) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x4096 : Shape := ⟨2, ![8192, 4096]⟩
abbrev S8192x1024 : Shape := ⟨2, ![8192, 1024]⟩
abbrev S16x257 : Shape := ⟨2, ![16, 257]⟩
abbrev S8192x2048 : Shape := ⟨2, ![8192, 2048]⟩
abbrev S_ : Shape := ⟨0, ![]⟩

class Facts : Prop where
  slices_S8192x4096_S8192x2048_0_0 : S8192x4096.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S8192x4096 .f32) (main_arg1 : FVec F S8192x1024 .f32) (main_arg2 : FVec F S16x257 .f32) : IVec S_ 1 :=
  let main_v0 : FVec F S8192x2048 .f32 := (extractStridedSlice S8192x2048 ![0, 0] · slices_S8192x4096_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S16x257 .f32 := Host.absf main_arg2
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  main_v9
-- ==== Kernel.lean ====
abbrev S8192x4096 : Shape := ⟨2, ![8192, 4096]⟩
abbrev S8192x1024 : Shape := ⟨2, ![8192, 1024]⟩
abbrev S16x257 : Shape := ⟨2, ![16, 257]⟩
abbrev S1023 : Shape := ⟨1, ![1023]⟩
abbrev S256x1 : Shape := ⟨2, ![256, 1]⟩
abbrev S1x768 : Shape := ⟨2, ![1, 768]⟩
abbrev S_ : Shape := ⟨0, ![]⟩
abbrev S1023x1 : Shape := ⟨2, ![1023, 1]⟩
abbrev S1 : Shape := ⟨1, ![1]⟩
abbrev S1x1 : Shape := ⟨2, ![1, 1]⟩
abbrev S16x1023 : Shape := ⟨2, ![16, 1023]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x768 : Shape := ⟨2, ![256, 768]⟩
abbrev S1x256x768 : Shape := ⟨3, ![1, 256, 768]⟩
abbrev S256x128 : Shape := ⟨2, ![256, 128]⟩
abbrev S8192x128 : Shape := ⟨2, ![8192, 128]⟩
abbrev S2x256x768 : Shape := ⟨3, ![2, 256, 768]⟩
abbrev S8704x128 : Shape := ⟨2, ![8704, 128]⟩
abbrev S512x128 : Shape := ⟨2, ![512, 128]⟩
abbrev S768x128 : Shape := ⟨2, ![768, 128]⟩
abbrev S256 : Shape := ⟨1, ![256]⟩

abbrev nBuf : Space → Nat
  | .hbm => 61
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S16x257, .f32⟩
  | .hbm, ⟨3, _⟩ => ⟨S1023, .i32⟩
  | .hbm, ⟨4, _⟩ => ⟨S256x1, .i32⟩
  | .hbm, ⟨5, _⟩ => ⟨S1x768, .i32⟩
  | .hbm, ⟨6, _⟩ => ⟨S_, .i32⟩
  | .hbm, ⟨7, _⟩ => ⟨S1023, .i32⟩
  | .hbm, ⟨8, _⟩ => ⟨S1023, .i1⟩
  | .hbm, ⟨9, _⟩ => ⟨S_, .i32⟩
  | .hbm, ⟨10, _⟩ => ⟨S1023, .i32⟩
  | .hbm, ⟨11, _⟩ => ⟨S1023, .i32⟩
  | .hbm, ⟨12, _⟩ => ⟨S1023, .i32⟩
  | .hbm, ⟨13, _⟩ => ⟨S1023x1, .i32⟩
  | .hbm, ⟨14, _⟩ => ⟨S1, .i32⟩
  | .hbm, ⟨15, _⟩ => ⟨S_, .i32⟩
  | .hbm, ⟨16, _⟩ => ⟨S1023x1, .i32⟩
  | .hbm, ⟨17, _⟩ => ⟨S1023x1, .i1⟩
  | .hbm, ⟨18, _⟩ => ⟨S1x1, .i32⟩
  | .hbm, ⟨19, _⟩ => ⟨S1023x1, .i32⟩
  | .hbm, ⟨20, _⟩ => ⟨S1023x1, .i1⟩
  | .hbm, ⟨21, _⟩ => ⟨S1023x1, .i1⟩
  | .hbm, ⟨22, _⟩ => ⟨S_, .i1⟩
  | .hbm, ⟨23, _⟩ => ⟨S1023, .i1⟩
  | .hbm, ⟨24, _⟩ => ⟨S16x1023, .f32⟩
  | .hbm, ⟨25, _⟩ => ⟨S16x1023, .i1⟩
  | .hbm, ⟨26, _⟩ => ⟨S_, .f32⟩
  | .hbm, ⟨27, _⟩ => ⟨S16x1023, .f32⟩
  | .hbm, ⟨28, _⟩ => ⟨S16x1023, .f32⟩
  | .hbm, ⟨29, _⟩ => ⟨S_, .i32⟩
  | .hbm, ⟨30, _⟩ => ⟨S_, .f32⟩
  | .hbm, ⟨31, _⟩ => ⟨S16x1024, .f32⟩
  | .hbm, ⟨32, _⟩ => ⟨S1x16x1x1024, .f32⟩
  | .hbm, ⟨33, _⟩ => ⟨S1x16x256x1024, .f32⟩
  | .hbm, ⟨34, _⟩ => ⟨S16x262144, .f32⟩
  | .hbm, ⟨35, _⟩ => ⟨S16x261888, .f32⟩
  | .hbm, ⟨36, _⟩ => ⟨S16x256x1023, .f32⟩
  | .hbm, ⟨37, _⟩ => ⟨S16x256x768, .f32⟩
  | .hbm, ⟨38, _⟩ => ⟨S256x768, .i32⟩
  | .hbm, ⟨39, _⟩ => ⟨S256x768, .i32⟩
  | .hbm, ⟨40, _⟩ => ⟨S256x768, .i1⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x768, .i32⟩
  | .hbm, ⟨45, _⟩ => ⟨S256x768, .i32⟩
  | .hbm, ⟨46, _⟩ => ⟨S256x768, .i1⟩
  | .hbm, ⟨47, _⟩ => ⟨S256x768, .i1⟩
  | .hbm, ⟨48, _⟩ => ⟨S_, .f32⟩
  | .hbm, ⟨49, _⟩ => ⟨S_, .f32⟩
  | .hbm, ⟨50, _⟩ => ⟨S256x768, .f32⟩
  | .hbm, ⟨51, _⟩ => ⟨S256x768, .f32⟩
  | .hbm, ⟨52, _⟩ => ⟨S256x768, .f32⟩
  | .hbm, ⟨53, _⟩ => ⟨S256x768, .f32⟩
  | .hbm, ⟨54, _⟩ => ⟨S1x256x768, .f32⟩
  | .hbm, ⟨55, _⟩ => ⟨S16x256x768, .f32⟩
  | .hbm, ⟨56, _⟩ => ⟨S16x256x768, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S16x256x768, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S2x256x768, .f32⟩
  | .local _ .vmem, ⟨7, _⟩ => ⟨S2x256x768, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S2x256x768, .f32⟩
  | .local _ .vmem, ⟨17, _⟩ => ⟨S2x256x768, .f32⟩
  | .local _ .vmem, ⟨18, _⟩ => ⟨S8704x128, .bf16⟩
  | .local _ .vmem, ⟨19, _⟩ => ⟨S8704x128, .bf16⟩
  | .local _ .vmem, ⟨20, _⟩ => ⟨S8704x128, .f32⟩
  | .local _ .vmem, ⟨21, _⟩ => ⟨S8704x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_c_2 : Ref sig .tc := ⟨.hbm, 29, rfl⟩
abbrev main_call1_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22_0 : Ref sig .tc := ⟨.hbm, 57, rfl⟩
abbrev main_v22_1 : Ref sig .tc := ⟨.hbm, 58, rfl⟩
abbrev main_v22_2 : Ref sig .tc := ⟨.hbm, 59, rfl⟩
abbrev main_v22_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  let c0_4 : Index := 0#32
  ![v9.toNat, 0]
def k0_cond2 (i : grid0.Coords) : BitVec 1 :=
  let arg1 : BitVec 32 := BitVec.ofNat 32 (i 1).val
  let c31_i32 : BitVec 32 := 31#32
  let v163 : BitVec 1 := Scalar.cmpi .eq arg1 c31_i32
  let v164 : BitVec 32 := Scalar.extui v163
  let c0_i32_67 : BitVec 32 := 0#32
  let v165 : BitVec 1 := Scalar.cmpi .ne v164 c0_i32_67
  v165

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x4096 : Shape := ⟨2, ![8192, 4096]⟩
abbrev S8192x1024 : Shape := ⟨2, ![8192, 1024]⟩
abbrev S16x257 : Shape := ⟨2, ![16, 257]⟩
abbrev S8192x16x64 : Shape := ⟨3, ![8192, 16, 64]⟩
abbrev S_ : Shape := ⟨0, ![]⟩
abbrev S512x16x64 : Shape := ⟨3, ![512, 16, 64]⟩
abbrev S8704x16x64 : Shape := ⟨3, ![8704, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128x64x16x64 : Shape := ⟨4, ![128, 64, 16, 64]⟩
abbrev S136x64x16x64 : Shape := ⟨4, ![136, 64, 16, 64]⟩
abbrev S128x576x16x64 : Shape := ⟨4, ![128, 576, 16, 64]⟩
abbrev S128x16x64x576 : Shape := ⟨4, ![128, 16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩

abbrev nBuf : Space → Nat
  | .hbm => 254
  | .vmem => 0
  | .smem => 0
  | _ => 0

abbrev hbmTy0_0 (i : Nat) : BufTy := match i % 128 with
  | 0 => ⟨S8192x4096, .f32⟩
  | 1 => ⟨S8192x1024, .f32⟩
  | 2 => ⟨S16x257, .f32⟩
  | 3 => ⟨S8192x1024, .f32⟩
  | 4 => ⟨S8192x1024, .f32⟩
  | 5 => ⟨S8192x1024, .f32⟩
  | 6 => ⟨S8192x1024, .f32⟩
  | 7 => ⟨S8192x16x64, .f32⟩
  | 8 => ⟨S8192x16x64, .f32⟩
  | 9 => ⟨S8192x16x64, .f32⟩
  | 10 => ⟨S_, .f32⟩
  | 11 => ⟨S512x16x64, .f32⟩
  | 12 => ⟨S8704x16x64, .f32⟩
  | 13 => ⟨S_, .f32⟩
  | 14 => ⟨S512x16x64, .f32⟩
  | 15 => ⟨S_, .f32⟩
  | 16 => ⟨S512x16x64, .f32⟩
  | 17 => ⟨S8704x16x64, .f32⟩
  | 18 => ⟨S_, .f32⟩
  | 19 => ⟨S512x16x64, .f32⟩
  | 20 => ⟨S64, .i32⟩
  | 21 => ⟨S64x1, .i32⟩
  | 22 => ⟨S576, .i32⟩
  | 23 => ⟨S1x576, .i32⟩
  | 24 => ⟨S64x576, .i32⟩
  | 25 => ⟨S64x576, .i32⟩
  | 26 => ⟨S64x576, .i32⟩
  | 27 => ⟨S_, .i32⟩
  | 28 => ⟨S64x576, .i32⟩
  | 29 => ⟨S64x576, .i32⟩
  | 30 => ⟨S_, .i32⟩
  | 31 => ⟨S_, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i32⟩
  | 41 => ⟨S_, .i32⟩
  | 42 => ⟨S64x576, .i32⟩
  | 43 => ⟨S64x576, .i1⟩
  | 44 => ⟨S_, .i32⟩
  | 45 => ⟨S64x576, .i32⟩
  | 46 => ⟨S64x576, .i32⟩
  | 47 => ⟨S64x576, .i32⟩
  | 48 => ⟨S64x576x1, .i32⟩
  | 49 => ⟨S16x64x576, .f32⟩
  | 50 => ⟨S128x64x16x64, .f32⟩
  | 51 => ⟨S136x64x16x64, .f32⟩
  | 52 => ⟨S128x64x16x64, .f32⟩
  | 53 => ⟨S128x64x16x64, .f32⟩
  | 54 => ⟨S128x64x16x64, .f32⟩
  | 55 => ⟨S128x64x16x64, .f32⟩
  | 56 => ⟨S128x64x16x64, .f32⟩
  | 57 => ⟨S128x64x16x64, .f32⟩
  | 58 => ⟨S128x64x16x64, .f32⟩
  | 59 => ⟨S128x64x16x64, .f32⟩
  | 60 => ⟨S128x64x16x64, .f32⟩
  | 61 => ⟨S128x576x16x64, .f32⟩
  | 62 => ⟨S136x64x16x64, .f32⟩
  | 63 => ⟨S128x64x16x64, .f32⟩
  | 64 => ⟨S128x64x16x64, .f32⟩
  | 65 => ⟨S128x64x16x64, .f32⟩
  | 66 => ⟨S128x64x16x64, .f32⟩
  | 67 => ⟨S128x64x16x64, .f32⟩
  | 68 => ⟨S128x64x16x64, .f32⟩
  | 69 => ⟨S128x64x16x64, .f32⟩
  | 70 => ⟨S128x64x16x64, .f32⟩
  | 71 => ⟨S128x64x16x64, .f32⟩
  | 72 => ⟨S128x576x16x64, .f32⟩
  | 73 => ⟨S128x16x64x576, .f32⟩
  | 74 => ⟨S_, .f32⟩
  | 75 => ⟨S128x16x64x576, .f32⟩
  | 76 => ⟨S128x16x64x576, .f32⟩
  | 77 => ⟨S1x16x64x576, .f32⟩
  | 78 => ⟨S128x16x64x576, .f32⟩
  | 79 => ⟨S128x16x64x576, .f32⟩
  | 80 => ⟨S128, .i32⟩
  | 81 => ⟨S128x1, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i32⟩
  | 88 => ⟨S576, .i32⟩
  | 89 => ⟨S1x576, .i32⟩
  | 90 => ⟨S128x576, .i32⟩
  | 91 => ⟨S128x576, .i32⟩
  | 92 => ⟨S128x576, .i32⟩
  | 93 => ⟨S_, .i32⟩
  | 94 => ⟨S128x576, .i32⟩
  | 95 => ⟨S128x576, .i1⟩
  | 96 => ⟨S128x1x1x576, .i1⟩
  | 97 => ⟨S_, .f32⟩
  | 98 => ⟨S_, .f32⟩
  | 99 => ⟨S128x16x64x576, .i1⟩
  | 100 => ⟨S128x16x64x576, .f32⟩
  | 101 => ⟨S128x16x64x576, .f32⟩
  | 102 => ⟨S_, .f32⟩
  | 103 => ⟨S128x16x64x576, .f32⟩
  | 104 => ⟨S_, .f32⟩
  | 105 => ⟨S128x16x64, .f32⟩
  | 106 => ⟨S128x16x64x1, .f32⟩
  | 107 => ⟨S128x16x64x576, .f32⟩
  | 108 => ⟨S128x16x64x576, .i1⟩
  | 109 => ⟨S128x16x64x576, .f32⟩
  | 110 => ⟨S_, .f32⟩
  | 111 => ⟨S128x16x64, .f32⟩
  | 112 => ⟨S_, .f32⟩
  | 113 => ⟨S128x16x64, .f32⟩
  | 114 => ⟨S128x16x64, .f32⟩
  | 115 => ⟨S_, .f32⟩
  | 116 => ⟨S128x16x64, .f32⟩
  | 117 => ⟨S128x16x64, .i1⟩
  | 118 => ⟨S_, .f32⟩
  | 119 => ⟨S128x16x64, .f32⟩
  | 120 => ⟨S128x16x64, .i1⟩
  | 121 => ⟨S_, .f32⟩
  | 122 => ⟨S128x16x64, .f32⟩
  | 123 => ⟨S_, .f32⟩
  | 124 => ⟨S128x16x64, .f32⟩
  | 125 => ⟨S_, .f32⟩
  | 126 => ⟨S128x16x64, .f32⟩
  | 127 => ⟨S128x16x64, .f32⟩
  | _ => ⟨S8192x4096, .f32⟩

abbrev hbmTy0_1 (i : Nat) : BufTy := match i % 128 with
  | 0 => ⟨S128x16x64, .f32⟩
  | 1 => ⟨S128x16x64x1, .f32⟩
  | 2 => ⟨S128x16x64x576, .f32⟩
  | 3 => ⟨S128x16x64x576, .f32⟩
  | 4 => ⟨S128x16x64x576, .f32⟩
  | 5 => ⟨S_, .f32⟩
  | 6 => ⟨S128x16x64, .f32⟩
  | 7 => ⟨S128x16x64x1, .f32⟩
  | 8 => ⟨S128x16x64x576, .f32⟩
  | 9 => ⟨S128x16x64x576, .f32⟩
  | 10 => ⟨S128x16x64x1, .f32⟩
  | 11 => ⟨S_, .f32⟩
  | 12 => ⟨S128x16x64x1, .f32⟩
  | 13 => ⟨S128x16x64x1, .f32⟩
  | 14 => ⟨S128x16x64x64, .f32⟩
  | 15 => ⟨S128x64x16x64, .f32⟩
  | 16 => ⟨S8192x1024, .f32⟩
  | 17 => ⟨S128x64x16x64, .f32⟩
  | 18 => ⟨S128x16x64x64, .f32⟩
  | 19 => ⟨S128x16x64x576, .f32⟩
  | 20 => ⟨S128x16x64x576, .f32⟩
  | 21 => ⟨S128x576x16x64, .f32⟩
  | 22 => ⟨S128x16x64x576, .f32⟩
  | 23 => ⟨S128x16x64x576, .f32⟩
  | 24 => ⟨S128x16x64x576, .f32⟩
  | 25 => ⟨S_, .f32⟩
  | 26 => ⟨S128x16x64, .f32⟩
  | 27 => ⟨S128x16x64x1, .f32⟩
  | 28 => ⟨S128x16x64x1, .f32⟩
  | 29 => ⟨S128x16x64x576, .f32⟩
  | 30 => ⟨S128x16x64x576, .f32⟩
  | 31 => ⟨S_, .f32⟩
  | 32 => ⟨S128x16x64, .f32⟩
  | 33 => ⟨S128x16x64x576, .f32⟩
  | 34 => ⟨S128x16x64x576, .f32⟩
  | 35 => ⟨S128x16x64x576, .f32⟩
  | 36 => ⟨S_, .f32⟩
  | 37 => ⟨S128x16x64x576, .f32⟩
  | 38 => ⟨S128x16x64x576, .f32⟩
  | 39 => ⟨S_, .f32⟩
  | 40 => ⟨S128x16x64x576, .f32⟩
  | 41 => ⟨S128x16x64x576, .f32⟩
  | 42 => ⟨S128x16x576x64, .f32⟩
  | 43 => ⟨S128x576x16x64, .f32⟩
  | 44 => ⟨S128x16x64x64, .f32⟩
  | 45 => ⟨S128x64x16x64, .f32⟩
  | 46 => ⟨S128x64x16x64, .f32⟩
  | 47 => ⟨S128x64x16x64, .f32⟩
  | 48 => ⟨S128x64x16x64, .f32⟩
  | 49 => ⟨S128x64x16x64, .f32⟩
  | 50 => ⟨S128x64x16x64, .f32⟩
  | 51 => ⟨S128x64x16x64, .f32⟩
  | 52 => ⟨S128x64x16x64, .f32⟩
  | 53 => ⟨S128x64x16x64, .f32⟩
  | 54 => ⟨S128x64x16x64, .f32⟩
  | 55 => ⟨S_, .f32⟩
  | 56 => ⟨S136x64x16x64, .f32⟩
  | 57 => ⟨S_, .f32⟩
  | 58 => ⟨S136x64x16x64, .f32⟩
  | 59 => ⟨S136x64x16x64, .f32⟩
  | 60 => ⟨S_, .f32⟩
  | 61 => ⟨S136x64x16x64, .f32⟩
  | 62 => ⟨S136x64x16x64, .f32⟩
  | 63 => ⟨S_, .f32⟩
  | 64 => ⟨S136x64x16x64, .f32⟩
  | 65 => ⟨S136x64x16x64, .f32⟩
  | 66 => ⟨S_, .f32⟩
  | 67 => ⟨S136x64x16x64, .f32⟩
  | 68 => ⟨S136x64x16x64, .f32⟩
  | 69 => ⟨S_, .f32⟩
  | 70 => ⟨S136x64x16x64, .f32⟩
  | 71 => ⟨S136x64x16x64, .f32⟩
  | 72 => ⟨S_, .f32⟩
  | 73 => ⟨S136x64x16x64, .f32⟩
  | 74 => ⟨S136x64x16x64, .f32⟩
  | 75 => ⟨S_, .f32⟩
  | 76 => ⟨S136x64x16x64, .f32⟩
  | 77 => ⟨S136x64x16x64, .f32⟩
  | 78 => ⟨S_, .f32⟩
  | 79 => ⟨S136x64x16x64, .f32⟩
  | 80 => ⟨S136x64x16x64, .f32⟩
  | 81 => ⟨S8704x16x64, .f32⟩
  | 82 => ⟨S128x64x16x64, .f32⟩
  | 83 => ⟨S128x64x16x64, .f32⟩
  | 84 => ⟨S128x64x16x64, .f32⟩
  | 85 => ⟨S128x64x16x64, .f32⟩
  | 86 => ⟨S128x64x16x64, .f32⟩
  | 87 => ⟨S128x64x16x64, .f32⟩
  | 88 => ⟨S128x64x16x64, .f32⟩
  | 89 => ⟨S128x64x16x64, .f32⟩
  | 90 => ⟨S128x64x16x64, .f32⟩
  | 91 => ⟨S_, .f32⟩
  | 92 => ⟨S136x64x16x64, .f32⟩
  | 93 => ⟨S_, .f32⟩
  | 94 => ⟨S136x64x16x64, .f32⟩
  | 95 => ⟨S136x64x16x64, .f32⟩
  | 96 => ⟨S_, .f32⟩
  | 97 => ⟨S136x64x16x64, .f32⟩
  | 98 => ⟨S136x64x16x64, .f32⟩
  | 99 => ⟨S_, .f32⟩
  | 100 => ⟨S136x64x16x64, .f32⟩
  | 101 => ⟨S136x64x16x64, .f32⟩
  | 102 => ⟨S_, .f32⟩
  | 103 => ⟨S136x64x16x64, .f32⟩
  | 104 => ⟨S136x64x16x64, .f32⟩
  | 105 => ⟨S_, .f32⟩
  | 106 => ⟨S136x64x16x64, .f32⟩
  | 107 => ⟨S136x64x16x64, .f32⟩
  | 108 => ⟨S_, .f32⟩
  | 109 => ⟨S136x64x16x64, .f32⟩
  | 110 => ⟨S136x64x16x64, .f32⟩
  | 111 => ⟨S_, .f32⟩
  | 112 => ⟨S136x64x16x64, .f32⟩
  | 113 => ⟨S136x64x16x64, .f32⟩
  | 114 => ⟨S_, .f32⟩
  | 115 => ⟨S136x64x16x64, .f32⟩
  | 116 => ⟨S136x64x16x64, .f32⟩
  | 117 => ⟨S8704x16x64, .f32⟩
  | 118 => ⟨S8192x16x64, .f32⟩
  | 119 => ⟨S512x16x64, .f32⟩
  | 120 => ⟨S8192x16x64, .f32⟩
  | 121 => ⟨S512x16x64, .f32⟩
  | 122 => ⟨S8192x16x64, .f32⟩
  | 123 => ⟨S8192x1024, .f32⟩
  | 124 => ⟨S8192x1024, .f32⟩
  | 125 => ⟨S8192x1024, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_9 : Ref sig .tc := ⟨.hbm, 82, rfl⟩
abbrev main_v63 : Ref sig .tc := ⟨.hbm, 83, rfl⟩
abbrev main_v64 : Ref sig .tc := ⟨.hbm, 84, rfl⟩
abbrev main_c_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_12 : Ref sig .tc := ⟨.hbm, 97, rfl⟩
abbrev main_call1_v0 : Ref sig .tc := ⟨.hbm, 98, rfl⟩
abbrev main_v75_1 : Ref sig .tc := ⟨.hbm, 99, rfl⟩
abbrev main_call1_v2 : Ref sig .tc := ⟨.hbm, 100, rfl⟩
abbrev main_v75_0 : Ref sig .tc := ⟨.hbm, 101, rfl⟩
abbrev main_call1_cst : Ref sig .tc := ⟨.hbm, 102, rfl⟩
abbrev main_v75_2 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_23 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_24 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_call2_cst : Ref sig .tc := ⟨.hbm, 164, rfl⟩
abbrev main_call2_v0 : Ref sig .tc := ⟨.hbm, 165, rfl⟩
abbrev main_v124 : Ref sig .tc := ⟨.hbm, 166, rfl⟩
abbrev main_cst_25 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_26 : Ref sig .tc := ⟨.hbm, 183, rfl⟩
abbrev main_v140 : Ref sig .tc := ⟨.hbm, 184, rfl⟩
abbrev main_cst_27 : Ref sig .tc := ⟨.hbm, 185, rfl⟩
abbrev main_v141 : Ref sig .tc := ⟨.hbm, 186, rfl⟩
abbrev main_v142 : Ref sig .tc := ⟨.hbm, 187, rfl⟩
abbrev main_cst_28 : Ref sig .tc := ⟨.hbm, 188, rfl⟩
abbrev main_v143 : Ref sig .tc := ⟨.hbm, 189, rfl⟩
abbrev main_v144 : Ref sig .tc := ⟨.hbm, 190, rfl⟩
abbrev main_cst_29 : Ref sig .tc := ⟨.hbm, 191, rfl⟩
abbrev main_v145 : Ref sig .tc := ⟨.hbm, 192, rfl⟩
abbrev main_v146 : Ref sig .tc := ⟨.hbm, 193, rfl⟩
abbrev main_cst_30 : Ref sig .tc := ⟨.hbm, 194, rfl⟩
abbrev main_v147 : Ref sig .tc := ⟨.hbm, 195, rfl⟩
abbrev main_v148 : Ref sig .tc := ⟨.hbm, 196, rfl⟩
abbrev main_cst_31 : Ref sig .tc := ⟨.hbm, 197, rfl⟩
abbrev main_v149 : Ref sig .tc := ⟨.hbm, 198, rfl⟩
abbrev main_v150 : Ref sig .tc := ⟨.hbm, 199, rfl⟩
abbrev main_cst_32 : Ref sig .tc := ⟨.hbm, 200, rfl⟩
abbrev main_v151 : Ref sig .tc := ⟨.hbm, 201, rfl⟩
abbrev main_v152 : Ref sig .tc := ⟨.hbm, 202, rfl⟩
abbrev main_cst_33 : Ref sig .tc := ⟨.hbm, 203, rfl⟩
abbrev main_v153 : Ref sig .tc := ⟨.hbm, 204, rfl⟩
abbrev main_v154 : Ref sig .tc := ⟨.hbm, 205, rfl⟩
abbrev main_cst_34 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_35 : Ref sig .tc := ⟨.hbm, 219, rfl⟩
abbrev main_v167 : Ref sig .tc := ⟨.hbm, 220, rfl⟩
abbrev main_cst_36 : Ref sig .tc := ⟨.hbm, 221, rfl⟩
abbrev main_v168 : Ref sig .tc := ⟨.hbm, 222, rfl⟩
abbrev main_v169 : Ref sig .tc := ⟨.hbm, 223, rfl⟩
abbrev main_cst_37 : Ref sig .tc := ⟨.hbm, 224, rfl⟩
abbrev main_v170 : Ref sig .tc := ⟨.hbm, 225, rfl⟩
abbrev main_v171 : Ref sig .tc := ⟨.hbm, 226, rfl⟩
abbrev main_cst_38 : Ref sig .tc := ⟨.hbm, 227, rfl⟩
abbrev main_v172 : Ref sig .tc := ⟨.hbm, 228, rfl⟩
abbrev main_v173 : Ref sig .tc := ⟨.hbm, 229, rfl⟩
abbrev main_cst_39 : Ref sig .tc := ⟨.hbm, 230, rfl⟩
abbrev main_v174 : Ref sig .tc := ⟨.hbm, 231, rfl⟩
abbrev main_v175 : Ref sig .tc := ⟨.hbm, 232, rfl⟩
abbrev main_cst_40 : Ref sig .tc := ⟨.hbm, 233, rfl⟩
abbrev main_v176 : Ref sig .tc := ⟨.hbm, 234, rfl⟩
abbrev main_v177 : Ref sig .tc := ⟨.hbm, 235, rfl⟩
abbrev main_cst_41 : Ref sig .tc := ⟨.hbm, 236, rfl⟩
abbrev main_v178 : Ref sig .tc := ⟨.hbm, 237, rfl⟩
abbrev main_v179 : Ref sig .tc := ⟨.hbm, 238, rfl⟩
abbrev main_cst_42 : Ref sig .tc := ⟨.hbm, 239, rfl⟩
abbrev main_v180 : Ref sig .tc := ⟨.hbm, 240, rfl⟩
abbrev main_v181 : Ref sig .tc := ⟨.hbm, 241, rfl⟩
abbrev main_cst_43 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S8x1024x512 : Shape := ⟨3, ![8, 1024, 512]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8x1024x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S8x1024x512, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S8x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x8x512, .f32⟩
  | .hbm, ⟨9, _⟩ => ⟨S1024x4096, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S4096x1024, .f32⟩
  | .hbm, ⟨38, _⟩ => ⟨S1024x4096, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S1024x8x512, .f32⟩
  | .hbm, ⟨68, _⟩ => ⟨S8x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2560 : Shape := ⟨2, ![1024, 2560]⟩
abbrev S8192x128 : Shape := ⟨2, ![8192, 128]⟩
abbrev S8192x512 : Shape := ⟨2, ![8192, 512]⟩
abbrev S256x1024 : Shape := ⟨2, ![256, 1024]⟩
abbrev S256x128 : Shape := ⟨2, ![256, 128]⟩
abbrev S256x512 : Shape := ⟨2, ![256, 512]⟩
abbrev S256x2560 : Shape := ⟨2, ![256, 2560]⟩
abbrev S256 : Shape := ⟨1, ![256]⟩
abbrev S256x1 : Shape := ⟨2, ![256, 1]⟩
abbrev S1024 : Shape := ⟨1, ![1024]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1024x2560, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x2560, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S1x1024 : Shape := ⟨2, ![1, 1024]⟩
abbrev S1024x2560 : Shape := ⟨2, ![1024, 2560]⟩
abbrev S8192x128 : Shape := ⟨2, ![8192, 128]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S2560x1024 : Shape := ⟨2, ![2560, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S8192x512, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2560, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x2560, .f32⟩
  | .hbm, ⟨41, _⟩ => ⟨S2560x1024, .f32⟩
  | .hbm, ⟨42, _⟩ => ⟨S1024x2560, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .f32⟩
  | .local _ .vmem, ⟨4, _⟩ => ⟨S512x4096, .f32⟩
  | .local _ .vmem, ⟨5, _⟩ => ⟨S512x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x1024 : Shape := ⟨2, ![8192, 1024]⟩
abbrev S1x1024 : Shape := ⟨2, ![1, 1024]⟩
abbrev S8x1024x512 : Shape := ⟨3, ![8, 1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x8x512, .f32⟩
  | .hbm, ⟨21, _⟩ => ⟨S1024x4096, .f32⟩
  | .hbm, ⟨22, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x128x1024 : Shape := ⟨3, ![8, 128, 1024]⟩
abbrev S1024x1024 : Shape := ⟨2, ![1024, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8x128x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S8192x4096 : Shape := ⟨2, ![8192, 4096]⟩
abbrev S8x128x1024 : Shape := ⟨3, ![8, 128, 1024]⟩
abbrev S1024x1024 : Shape := ⟨2, ![1024, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8x128x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S256x2048 : Shape := ⟨2, ![256, 2048]⟩
abbrev S8x1024x256 : Shape := ⟨3, ![8, 1024, 256]⟩
abbrev S8x128x1024 : Shape := ⟨3, ![8, 128, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S256x2048, .f32⟩
  | .hbm, ⟨3, _⟩ => ⟨S8x1024x256, .f32⟩
  | .hbm, ⟨4, _⟩ => ⟨S8x128x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x2048, .f32⟩
  | .local _ .vmem, ⟨4, _⟩ => ⟨S8x1024x256, .f32⟩
  | .local _ .vmem, ⟨5, _⟩ => ⟨S8x128x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x1024 : Shape := ⟨2, ![8192, 1024]⟩
abbrev S1x1024 : Shape := ⟨2, ![1, 1024]⟩
abbrev S256x2048 : Shape := ⟨2, ![256, 2048]⟩
abbrev S8x1024x256 : Shape := ⟨3, ![8, 1024, 256]⟩
abbrev S8x128x1024 : Shape := ⟨3, ![8, 128, 1024]⟩
abbrev S1024 : Shape := ⟨1, ![1024]⟩
abbrev S1024x8x256 : Shape := ⟨3, ![1024, 8, 256]⟩
abbrev S1024x2048 : Shape := ⟨2, ![1024, 2048]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S256x2048, .f32⟩
  | .hbm, ⟨3, _⟩ => ⟨S8x1024x256, .f32⟩
  | .hbm, ⟨4, _⟩ => ⟨S8x128x1024, .f32⟩
  | .hbm, ⟨5, _⟩ => ⟨S1024, .f32⟩
  | .hbm, ⟨6, _⟩ => ⟨S1024x8x256, .f32⟩
  | .hbm, ⟨7, _⟩ => ⟨S1024x2048, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S256x1024, .f32⟩
  | .hbm, ⟨29, _⟩ => ⟨S256x1024, .f32⟩
  | .hbm, ⟨30, _⟩ => ⟨S8192x4x256, .f32⟩
  | .hbm, ⟨31, _⟩ => ⟨S256x4x256, .f32⟩
  | .hbm, ⟨32, _⟩ => ⟨S256x4x256, .f32⟩
  | .hbm, ⟨33, _⟩ => ⟨S4x8192x256, .f32⟩
  | .hbm, ⟨34, _⟩ => ⟨S_, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .f32⟩
  | .local _ .vmem, ⟨4, _⟩ => ⟨S512x2560, .f32⟩
  | .local _ .vmem, ⟨5, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S8192x1024 : Shape := ⟨2, ![8192, 1024]⟩
abbrev S8192x4096 : Shape := ⟨2, ![8192, 4096]⟩
abbrev S8x128x1024 : Shape := ⟨3, ![8, 128, 1024]⟩
abbrev S512x1024 : Shape := ⟨2, ![512, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8x128x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S8192x4096 : Shape := ⟨2, ![8192, 4096]⟩
abbrev S8x128x1024 : Shape := ⟨3, ![8, 128, 1024]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8x128x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel9.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S1x512 : Shape := ⟨2, ![1, 512]⟩
abbrev S8x64x512 : Shape := ⟨3, ![8, 64, 512]⟩
abbrev S8x128x1024 : Shape := ⟨3, ![8, 128, 1024]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x2560, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x64x512, .f32⟩
  | .hbm, ⟨11, _⟩ => ⟨S8x128x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S8x64x512, .f32⟩
  | .local _ .vmem, ⟨20, _⟩ => ⟨S8x128x1024, .f32⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S1x512 : Shape := ⟨2, ![1, 512]⟩
abbrev S8x64x512 : Shape := ⟨3, ![8, 64, 512]⟩
abbrev S8x128x1024 : Shape := ⟨3, ![8, 128, 1024]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x2560, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x64x512, .f32⟩
  | .hbm, ⟨11, _⟩ => ⟨S8x128x1024, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S512x512, .f32⟩
  | .hbm, ⟨19, _⟩ => ⟨S512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S512, .f32⟩
  | .hbm, ⟨61, _⟩ => ⟨S512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x512, .f32⟩
  | .hbm, ⟨84, _⟩ => ⟨S8192x512, .f32⟩
  | .hbm, ⟨85, _⟩ => ⟨S1x512, .f32⟩
  | .hbm, ⟨86, _⟩ => ⟨S8192x512, .f32⟩
  | .hbm, ⟨87, _⟩ => ⟨S8192x512, .f32⟩
  | .hbm, ⟨88, _⟩ => ⟨S1x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S_, .f32⟩
  | .hbm, ⟨103, _⟩ => ⟨S8192x512, .f32⟩
  | .hbm, ⟨104, _⟩ => ⟨S8192x512, .f32⟩
  | .hbm, ⟨105, _⟩ => ⟨S_, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S8192x1024, .f32⟩
  | .hbm, ⟨111, _⟩ => ⟨S1024x1024, .f32⟩
  | .hbm, ⟨112, _⟩ => ⟨S8192x1024, .f32⟩
  | .hbm, ⟨113, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v60 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩

abbrev nD : Nat := 1
abbrev τ : Topo := Topo.v7x

variable {F : FTy → Type} [FloatOps F]
-- ==== Proof.Row.lean ====
/-
  One row of the attention's softmax and its gradient, over the extended reals. A row is a function `x` on the key
  positions below `N`; a masked key carries the score `-∞`. Nothing here mentions a program.
-/
module

public import Idealize.ShloMosaic.PureOps.Ideal
public import Mathlib.Data.EReal.Inv
public import Mathlib.Algebra.BigOperators.Fin

@[expose] public section

noncomputable section

open Idealize.ShloMosaic

namespace Cert.Attn

/-- A value that is a real number. -/
def IsReal (x : EReal) : Prop := x ≠ ⊤ ∧ x ≠ ⊥

theorem IsReal.exists {x : EReal} (h : IsReal x) : ∃ r : ℝ, x = (r : EReal) := by
  induction x using EReal.rec with
  | bot => exact absurd rfl h.2
  | top => exact absurd rfl h.1
  | coe r => exact ⟨r, rfl⟩

theorem isReal_coe (r : ℝ) : IsReal (r : EReal) := ⟨EReal.coe_ne_top r, EReal.coe_ne_bot r⟩

theorem IsReal.add {x y : EReal} (hx : IsReal x) (hy : IsReal y) : IsReal (x + y) := by
  obtain ⟨r, rfl⟩ := hx.exists
  obtain ⟨s, rfl⟩ := hy.exists
  rw [← EReal.coe_add]
  exact isReal_coe _

theorem IsReal.mul {x y : EReal} (hx : IsReal x) (hy : IsReal y) : IsReal (x * y) := by
  obtain ⟨r, rfl⟩ := hx.exists
  obtain ⟨s, rfl⟩ := hy.exists
  rw [← EReal.coe_mul]
  exact isReal_coe _

/-- A finite sum of real numbers is one. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_coe 0
  | insert a s ha ih =>
    rw [Finset.sum_insert ha]
    exact (h a (Finset.mem_insert_self a s)).add (ih fun i hi => h i (Finset.mem_insert_of_mem hi))

/-- A nonnegative real factor moves into a finite sum of extended reals. -/
theorem mul_sum_of_real {ι : Type*} {c : EReal} (h0 : 0 ≤ c) (h1 : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 h1, ih]

/-! ## Windows -/

/-- A sum over a window of a function that vanishes outside it is the sum over everything. -/
theorem sum_window {M : Type*} [AddCommMonoid M] (f : ℕ → M) (a L N : ℕ) (h : a + L ≤ N)
    (hz : ∀ t, t < a ∨ a + L ≤ t → f t = 0) : ∑ k : Fin L, f (a + (k : ℕ)) = ∑ t ∈ Finset.range N, f t := by
  rw [Fin.sum_univ_eq_sum_range (fun k => f (a + k)) L]
  have e : ∑ k ∈ Finset.range L, f (a + k) = ∑ t ∈ Finset.Ico a (a + L), f t := by
    rw [Finset.sum_Ico_eq_sum_range]; simp
  rw [e]
  refine Finset.sum_subset (fun t ht => ?_) fun t _ ht => hz t ?_
  · rw [Finset.mem_Ico] at ht; rw [Finset.mem_range]; omega
  · rw [Finset.mem_Ico] at ht; omega

/-- A maximum over a window of a function that is `-∞` outside it is the maximum over everything. -/
theorem fold_max_window (f : ℕ → EReal) (a L N : ℕ) (h : a + L ≤ N)
    (hz : ∀ t, t < a ∨ a + L ≤ t → f t = ⊥) :
    Finset.fold max ⊥ (fun k : Fin L => f (a + (k : ℕ))) Finset.univ = (Finset.range N).sup f := by
  have e : Finset.fold max ⊥ (fun k : Fin L => f (a + (k : ℕ))) Finset.univ = Finset.univ.sup fun k : Fin L => f (a + (k : ℕ)) := rfl
  rw [e]
  apply le_antisymm
  · refine Finset.sup_le fun k _ => Finset.le_sup (f := f) ?_
    rw [Finset.mem_range]; omega
  · refine Finset.sup_le fun t ht => ?_
    by_cases hw : t < a ∨ a + L ≤ t
    · rw [hz t hw]; exact bot_le
    · have : f t = (fun k : Fin L => f (a + (k : ℕ))) ⟨t - a, by omega⟩ := by
        show f t = f (a + (t - a)); congr 1; omega
      rw [this]
      exact Finset.le_sup (f := fun k : Fin L => f (a + (k : ℕ))) (Finset.mem_univ _)

/-! ## A row -/

/-- The exponential of a score less the row's maximum. -/
def expo (N : ℕ) (x : ℕ → EReal) (t : ℕ) : EReal := Ideal.exp (x t - (Finset.range N).sup x)

/-- The row's sum of exponentials. -/
def total (N : ℕ) (x : ℕ → EReal) : EReal := ∑ t ∈ Finset.range N, expo N x t

/-- The softmax of the row. -/
def prob (N : ℕ) (x : ℕ → EReal) (t : ℕ) : EReal := expo N x t * (total N x)⁻¹

/-- The gradient of the row's scores, from the gradient `g` of its softmax. -/
def dscore (N : ℕ) (x g : ℕ → EReal) (t : ℕ) : EReal :=
  prob N x t * (g t - ∑ u ∈ Finset.range N, prob N x u * g u)

theorem expo_bot {N : ℕ} {x : ℕ → EReal} {t : ℕ} (h : x t = ⊥) : expo N x t = 0 := by
  rw [expo, h, EReal.bot_sub]; rfl

theorem prob_bot {N : ℕ} {x : ℕ → EReal} {t : ℕ} (h : x t = ⊥) : prob N x t = 0 := by
  rw [prob, expo_bot h, zero_mul]

theorem dscore_bot {N : ℕ} {x g : ℕ → EReal} {t : ℕ} (h : x t = ⊥) : dscore N x g t = 0 := by
  rw [dscore, prob_bot h, zero_mul]

/-- The scores of a row with no `+∞` and a key that is not masked. -/
structure Good (N : ℕ) (x : ℕ → EReal) : Prop where
  top : ∀ t, x t ≠ ⊤
  some : ∃ t, t < N ∧ x t ≠ ⊥

theorem Good.sup_isReal {N : ℕ} {x : ℕ → EReal} (h : Good N x) : IsReal ((Finset.range N).sup x) := by
  obtain ⟨t, ht, hx⟩ := h.some
  have hle : x t ≤ (Finset.range N).sup x := Finset.le_sup (Finset.mem_range.mpr ht)
  refine ⟨?_, fun hb => hx (le_bot_iff.mp (hb ▸ hle))⟩
  obtain ⟨u, _, hu⟩ := Finset.exists_mem_eq_sup (Finset.range N) ⟨t, Finset.mem_range.mpr ht⟩ x
  rw [hu]
  exact h.top u

/-- An exponential of the row is a nonnegative real. -/
theorem Good.expo_real {N : ℕ} {x : ℕ → EReal} (h : Good N x) (t : ℕ) : ∃ r : ℝ, 0 ≤ r ∧ expo N x t = (r : EReal) := by
  by_cases hb : x t = ⊥
  · exact ⟨0, le_refl _, by rw [expo_bot hb]; rfl⟩
  · obtain ⟨M, hM⟩ := h.sup_isReal.exists
    obtain ⟨y, hy⟩ := IsReal.exists ⟨h.top t, hb⟩
    refine ⟨Real.exp (y - M), (Real.exp_pos _).le, ?_⟩
    rw [expo, hM, hy, ← EReal.coe_sub]
    rfl

/-- The row's sum of exponentials is a positive real. -/
theorem Good.total_real {N : ℕ} {x : ℕ → EReal} (h : Good N x) : ∃ r : ℝ, 0 < r ∧ total N x = (r : EReal) := by
  choose r hr0 hr using h.expo_real
  obtain ⟨t, ht, hx⟩ := h.some
  refine ⟨∑ u ∈ Finset.range N, r u, ?_, ?_⟩
  · refine Finset.sum_pos' (fun u _ => hr0 u) ⟨t, Finset.mem_range.mpr ht, ?_⟩
    obtain ⟨M, hM⟩ := h.sup_isReal.exists
    obtain ⟨y, hy⟩ := IsReal.exists ⟨h.top t, hx⟩
    have e : ((r t : ℝ) : EReal) = ((Real.exp (y - M) : ℝ) : EReal) := by
      rw [← hr t, expo, hM, hy, ← EReal.coe_sub]; rfl
    rw [EReal.coe_eq_coe_iff.mp e]
    exact Real.exp_pos _
  · rw [total]
    have : ∀ s : Finset ℕ, ∑ u ∈ s, expo N x u = ((∑ u ∈ s, r u : ℝ) : EReal) := by
      intro s
      induction s using Finset.induction_on with
      | empty => simp
      | insert a s ha ih => rw [Finset.sum_insert ha, Finset.sum_insert ha, ih, hr a, EReal.coe_add]
    exact this _

/-- The quotient by a positive real is the product with its inverse. -/
theorem div_eq {y : EReal} {r : ℝ} (hr : 0 < r) (hy : y = (r : EReal)) (x : EReal) : Ideal.div x y = x * ((r⁻¹ : ℝ) : EReal) := by
  have h0 : y ≠ 0 := by
    rw [hy]; intro h
    exact hr.ne' (EReal.coe_eq_coe_iff.mp h)
  rw [Ideal.div, if_neg h0, hy, ← EReal.coe_inv]

theorem Good.div_total {N : ℕ} {x : ℕ → EReal} (h : Good N x) (y : EReal) : Ideal.div y (total N x) = y * (total N x)⁻¹ := by
  obtain ⟨r, hr, e⟩ := h.total_real
  rw [div_eq hr e, e, ← EReal.coe_inv]

/-- The reciprocal of the sum, computed first. -/
theorem Good.mul_recip {N : ℕ} {x : ℕ → EReal} (h : Good N x) (t : ℕ) :
    expo N x t * Ideal.div 1 (total N x) = prob N x t := by
  rw [h.div_total, one_mul, prob]

/-- The quotient of an exponential by the sum. -/
theorem Good.div_eq_prob {N : ℕ} {x : ℕ → EReal} (h : Good N x) (t : ℕ) :
    Ideal.div (expo N x t) (total N x) = prob N x t := by
  rw [h.div_total, prob]

/-- The gradient of the quotient of exponentials `e / S`, differentiated as a quotient: the two paths through the
    numerator and through the sum, and the exponential's own derivative. It is the gradient of the scores. -/
theorem Good.quotient_grad {N : ℕ} {x : ℕ → EReal} (h : Good N x) (g : ℕ → EReal) (t : ℕ) :
    (Ideal.div (g t) (total N x)
        + -(∑ u ∈ Finset.range N, g u * Ideal.div 1 (total N x * total N x) * expo N x u)) * expo N x t
      = dscore N x g t := by
  obtain ⟨r, hr, e⟩ := h.total_real
  have hss : total N x * total N x = ((r * r : ℝ) : EReal) := by rw [e, EReal.coe_mul]
  have hu0 : (0 : EReal) ≤ ((r⁻¹ : ℝ) : EReal) := by exact_mod_cast (inv_pos.mpr hr).le
  have hut : ((r⁻¹ : ℝ) : EReal) ≠ ⊤ := EReal.coe_ne_top _
  have hp : ∀ u, prob N x u = expo N x u * ((r⁻¹ : ℝ) : EReal) := fun u => by rw [prob, e, ← EReal.coe_inv]
  have hS : ∑ u ∈ Finset.range N, g u * Ideal.div 1 (total N x * total N x) * expo N x u
      = ((r⁻¹ : ℝ) : EReal) * ∑ u ∈ Finset.range N, prob N x u * g u := by
    rw [mul_sum_of_real hu0 hut]
    refine Finset.sum_congr rfl fun u _ => ?_
    rw [div_eq (mul_pos hr hr) hss, one_mul, mul_inv, EReal.coe_mul, hp]
    ac_rfl
  rw [dscore, hS, div_eq hr e, hp, sub_eq_add_neg, mul_comm (g t), ← mul_neg,
    ← EReal.left_distrib_of_nonneg_of_ne_top hu0 hut]
  ac_rfl

end Cert.Attn
-- ==== Proof.Spec.lean ====
/-
  What the two programs compute, written once over plain functions of row and column numbers: `X` the array of queries,
  keys, values and gates (8192 by 4096), `G` the gradient of the attention's result (8192 by 1024), `B` the table of
  relative biases (16 by 257). Key positions are those of the array padded in front by 512 rows of zeros, so key `t` is
  row `t - 512`. A query `n` attends to the keys of its own chunk of 64 and of the eight chunks before it.
-/
module

public import proofs.«01_k».proof.Proof.Row
public import Idealize.ShloMosaic.Lib.Pointwise

@[expose] public section

noncomputable section

open Idealize.ShloMosaic

namespace Cert.Attn

/-- The scale of the scores, one eighth, as both programs write it. -/
def scale : EReal := Ideal.ofBits .f32 0x3E000000#32

theorem scale_eq : scale = ((1 / 8 : ℝ) : EReal) := by
  simp [scale, Ideal.ofBits, Ideal.ieee, -EReal.coe_mul]
  norm_num

theorem scale_nonneg : 0 ≤ scale := by rw [scale_eq]; exact_mod_cast (by norm_num : (0 : ℝ) ≤ 1 / 8)

theorem scale_ne_top : scale ≠ ⊤ := by rw [scale_eq]; exact EReal.coe_ne_top _

theorem scale_isReal : IsReal scale := by rw [scale_eq]; exact isReal_coe _

/-- The word of the smallest float is `-∞`. -/
theorem ofBits_neg_inf : Ideal.ofBits .f32 0xFF800000#32 = ⊥ := by
  simp [Ideal.ofBits, Ideal.ieee]

/-- The word of the infinity is `+∞`. -/
theorem ofBits_inf : Ideal.ofBits .f32 0x7F800000#32 = ⊤ := by
  simp [Ideal.ofBits, Ideal.ieee]

/-- An array of two axes as a function of two numbers. -/
def nat2 {a b : ℕ} (A : (⟨2, ![a, b]⟩ : Shape).Idx → EReal) (n c : ℕ) : EReal :=
  if h : n < a ∧ c < b then A (ix2 ⟨n, h.1⟩ ⟨c, h.2⟩) else 0

theorem nat2_apply {a b : ℕ} (A : (⟨2, ![a, b]⟩ : Shape).Idx → EReal) (n : Fin a) (c : Fin b) :
    A (ix2 n c) = nat2 A n c := by
  rw [nat2, dif_pos ⟨n.isLt, c.isLt⟩]

/-- The array with 512 rows of zeros in front. -/
def padded (X : ℕ → ℕ → EReal) (t c : ℕ) : EReal := if t < 512 then 0 else X (t - 512) c

/-- Query `n` sees key `t`: a key of the array, in the nine chunks that end with the query's own. -/
def Live (n t : ℕ) : Prop := 512 ≤ t ∧ n / 64 * 64 ≤ t ∧ t < n / 64 * 64 + 576

instance (n t : ℕ) : Decidable (Live n t) := by unfold Live; infer_instance

/-- The number of the bias of query `n` and key `t`: their distance clipped to 128 on both sides. -/
def rel (n t : ℕ) : ℕ := min (n + 640 - t) 256

/-- The score of head `h`, query `n`, key `t`. -/
def score (X B : ℕ → ℕ → EReal) (h n t : ℕ) : EReal :=
  if Live n t then
    (∑ d : Fin 64, X n (64 * h + (d : ℕ)) * padded X t (1024 + 64 * h + (d : ℕ))) * scale + B h (rel n t)
  else ⊥

/-- The softmax weight. -/
def weight (X B : ℕ → ℕ → EReal) (h n t : ℕ) : EReal := prob 8704 (score X B h n) t

/-- The gradient of the weight: the gradient of the result against the value. -/
def dweight (X G : ℕ → ℕ → EReal) (h n t : ℕ) : EReal :=
  ∑ d : Fin 64, G n (64 * h + (d : ℕ)) * padded X t (2048 + 64 * h + (d : ℕ))

/-- The gradient of the score. -/
def ds (X G B : ℕ → ℕ → EReal) (h n t : ℕ) : EReal := dscore 8704 (score X B h n) (dweight X G h n) t

/-- The gradient of the queries at row `n`, column `c` (head `c / 64`). -/
def gradQ (X G B : ℕ → ℕ → EReal) (n c : ℕ) : EReal :=
  (∑ t ∈ Finset.range 8704, ds X G B (c / 64) n t * padded X t (1024 + c)) * scale

/-- The gradient of the keys at row `s`. -/
def gradK (X G B : ℕ → ℕ → EReal) (s c : ℕ) : EReal :=
  ∑ n ∈ Finset.range 8192, ds X G B (c / 64) n (s + 512) * (X n c * scale)

/-- The gradient of the values at row `s`. -/
def gradV (X G B : ℕ → ℕ → EReal) (s c : ℕ) : EReal :=
  ∑ n ∈ Finset.range 8192, weight X B (c / 64) n (s + 512) * G n c

theorem score_dead {X B : ℕ → ℕ → EReal} {h n t : ℕ} (hl : ¬Live n t) : score X B h n t = ⊥ := if_neg hl

theorem weight_dead {X B : ℕ → ℕ → EReal} {h n t : ℕ} (hl : ¬Live n t) : weight X B h n t = 0 := prob_bot (score_dead hl)

theorem ds_dead {X G B : ℕ → ℕ → EReal} {h n t : ℕ} (hl : ¬Live n t) : ds X G B h n t = 0 := dscore_bot (score_dead hl)

/-- The queries, the keys and the biases are real numbers. -/
structure Reals (X B : ℕ → ℕ → EReal) : Prop where
  x : ∀ n c, c < 2048 → IsReal (X n c)
  b : ∀ h r, IsReal (B h r)

theorem Reals.padded {X B : ℕ → ℕ → EReal} (H : Reals X B) (t c : ℕ) (hc : c < 2048) : IsReal (padded X t c) := by
  unfold Attn.padded
  split
  · exact isReal_coe 0
  · exact H.x _ _ hc

/-- Where those are real, every row of scores has no `+∞` and a key that is not masked: the query's own. -/
theorem Reals.good {X B : ℕ → ℕ → EReal} (H : Reals X B) {h n : ℕ} (hh : h < 16) (hn : n < 8192) : Good 8704 (score X B h n) := by
  have hr : ∀ t, Live n t → IsReal (score X B h n t) := by
    intro t ht
    rw [score, if_pos ht]
    refine ((isReal_sum _ _ fun d _ => ?_).mul scale_isReal).add (H.b _ _)
    have := d.isLt
    exact (H.x _ _ (by omega)).mul (H.padded _ _ (by omega))
  refine ⟨fun t => ?_, n + 512, by omega, (hr _ ?_).2⟩
  · by_cases ht : Live n t
    · exact (hr t ht).1
    · rw [score_dead ht]; exact bot_ne_top
  · unfold Live; omega

end Cert.Attn
-- ==== Proof.Block.lean ====
/-
  What the kernel's body computes at one grid point, 256 queries against the window of 768 keys that begins 512 rows
  before them, for the two heads of one pair: the softmax weights, the gradient of the scores, the block of query
  gradients, and the additions to the windows of key and value gradients. Each is stated over the rows of `Spec.lean`.
-/
module

public import proofs.«01_k».proof.Proof.Spec
public import proofs.«01_k».proof.Proof.Gen.KernelIdeal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.KernelIdeal.Block

open Cert.KernelIdeal Cert.KernelIdeal.Gen Cert.Attn

/-- The lane's head, 0 or 1, as the body computes it. -/
theorem lane_word (q : Fin 256) (l : Fin 128) : k0_pay10 (ix2 q l) = if (l : ℕ) < 64 then 0#32 else 1#32 := by
  pointwise [k0_pay10]
  revert l
  decide +kernel

/-- The row of key positions. -/
abbrev lanes : IVec S1x768 32 := iota .tc S1x768 32 [1] iota_S1x768_d1_w32

/-- The mask row: `-∞` on the positions before the array's first row. -/
theorem mask_row (i : ℕ) (hi : i < 32) (w : Fin 768) :
    k0_pay11 (F := Ideal) (BitVec.ofNat 32 (256 * i)) lanes 512#32 (ix2 0 w) = if 512 ≤ 256 * i + w then (0 : EReal) else ⊥ := by
  have hw := w.isLt
  have hm : (Named.named κ "mask" 0xF149F2CA#32 : Ideal .f32) = ⊥ := IdealRules.named_const.ideal_named_scalar _ _ _ _ rfl
  pointwise [k0_pay11]
  rw [hm]
  have hc : IntOp.cmpi CmpIPredicate.sge (BitVec.ofNat 32 (w : ℕ)) (Scalar.subi 512#32 (BitVec.ofNat 32 (256 * i)))
      = if 512 ≤ 256 * i + w then 1#1 else 0#1 := by
    clear hm
    simp only [IntOp.cmpi, Scalar.subi, IntOp.subi]
    have e1 : (BitVec.ofNat 32 (w : ℕ)).toInt = w := by
      rw [BitVec.toInt_eq_toNat_of_lt (by rw [BitVec.toNat_ofNat]; omega), BitVec.toNat_ofNat]; omega
    have e2 : (512#32 - BitVec.ofNat 32 (256 * i)).toInt = 512 - 256 * (i : ℤ) := by
      interval_cases i <;> rfl
    rw [BitVec.sle_eq_decide, e1, e2]
    by_cases h : 512 ≤ 256 * i + (w : ℕ)
    · rw [if_pos h, decide_eq_true (by omega)]; rfl
    · rw [if_neg h, decide_eq_false (by omega)]; rfl
  rw [hc]
  split <;> rfl

/-- What a point's body reads: `x0`, `x4` its 256 rows of queries and of result gradients, `kb`, `vb` its windows of the
    padded keys and values, `b0`, `b1` its two heads' biases with the band's mask, `v4` the window's first row. -/
structure Reads (X G B : ℕ → ℕ → EReal) (i j : ℕ) (x0 x4 : Vec Ideal S256x128 .f32) (kb vb : Vec Ideal S768x128 .bf16)
    (b0 b1 : Vec Ideal S1x256x768 .f32) : Prop where
  hi : i < 32
  hj : j < 8
  real : Reals X B
  q : ∀ (q : Fin 256) (l : Fin 128), x0 (ix2 q l) = X (256 * i + q) (128 * j + l)
  g : ∀ (q : Fin 256) (l : Fin 128), x4 (ix2 q l) = G (256 * i + q) (128 * j + l)
  k : ∀ (w : Fin 768) (l : Fin 128), kb (ix2 w l) = padded X (256 * i + w) (1024 + 128 * j + l)
  v : ∀ (w : Fin 768) (l : Fin 128), vb (ix2 w l) = padded X (256 * i + w) (2048 + 128 * j + l)
  b0 : ∀ (q : Fin 256) (w : Fin 768), b0 (ix3 0 q w) =
    B (2 * j) (min ((q : ℕ) + 640 - w) 256) + (if (q : ℕ) / 64 * 64 ≤ w ∧ (w : ℕ) < q / 64 * 64 + 576 then 0 else ⊥)
  b1 : ∀ (q : Fin 256) (w : Fin 768), b1 (ix3 0 q w) =
    B (2 * j + 1) (min ((q : ℕ) + 640 - w) 256) + (if (q : ℕ) / 64 * 64 ≤ w ∧ (w : ℕ) < q / 64 * 64 + 576 then 0 else ⊥)

/-- A sum over the 128 lanes of products masked to the first head is the sum over its 64 lanes. -/
theorem sum_lo (f g : Fin 128 → EReal) :
    ∑ l : Fin 128, (if (l : ℕ) < 64 then f l else 0) * g l = ∑ d : Fin 64, f ⟨d, by omega⟩ * g ⟨d, by omega⟩ := by
  rw [show (∑ l : Fin 128, (if (l : ℕ) < 64 then f l else 0) * g l)
    = ∑ l : Fin (64 + 64), (if (l : ℕ) < 64 then f l else 0) * g l from rfl, Fin.sum_univ_add]
  rw [Finset.sum_congr rfl fun d _ => by
    show _ = f ⟨d, by omega⟩ * g ⟨d, by omega⟩
    rw [if_pos (show ((Fin.castAdd 64 d : Fin (64 + 64)) : ℕ) < 64 from d.isLt)]; rfl]
  rw [Finset.sum_eq_zero (s := Finset.univ) (f := fun d : Fin 64 => (if ((Fin.natAdd 64 d : Fin (64 + 64)) : ℕ) < 64 then f (Fin.natAdd 64 d) else 0) * g (Fin.natAdd 64 d)), add_zero]
  intro d _
  rw [if_neg (by rw [Fin.val_natAdd]; omega), zero_mul]

/-- The same for the second head. -/
theorem sum_hi (f g : Fin 128 → EReal) :
    ∑ l : Fin 128, (if (l : ℕ) < 64 then 0 else f l) * g l = ∑ d : Fin 64, f ⟨64 + d, by omega⟩ * g ⟨64 + d, by omega⟩ := by
  rw [show (∑ l : Fin 128, (if (l : ℕ) < 64 then 0 else f l) * g l)
    = ∑ l : Fin (64 + 64), (if (l : ℕ) < 64 then 0 else f l) * g l from rfl, Fin.sum_univ_add]
  rw [Finset.sum_congr (s₂ := Finset.univ) (f := fun d : Fin 64 => (if ((Fin.natAdd 64 d : Fin (64 + 64)) : ℕ) < 64 then 0 else f (Fin.natAdd 64 d)) * g (Fin.natAdd 64 d)) rfl fun d _ => by
    show _ = f ⟨64 + d, by omega⟩ * g ⟨64 + d, by omega⟩
    rw [if_neg (by rw [Fin.val_natAdd]; omega)]; rfl]
  rw [Finset.sum_eq_zero (s := Finset.univ) (f := fun d : Fin 64 => (if ((Fin.castAdd 64 d : Fin (64 + 64)) : ℕ) < 64 then 0 else f (Fin.castAdd 64 d)) * g (Fin.castAdd 64 d)), zero_add]
  intro d _
  rw [if_pos (show ((Fin.castAdd 64 d : Fin (64 + 64)) : ℕ) < 64 from d.isLt), zero_mul]

/-- The queries scaled, on the first head's lanes. -/
theorem lo_query (x0 : Vec Ideal S256x128 .f32) (q : Fin 256) (l : Fin 128) :
    k0_pay14 (F := Ideal) (k0_pay9 x0) k0_pay10 (ix2 q l) = if (l : ℕ) < 64 then x0 (ix2 q l) * scale else 0 := by
  pointwise [k0_pay14, k0_pay9]
  rw [lane_word]
  split <;> rfl

/-- The queries scaled, on the second head's lanes. -/
theorem hi_query (x0 : Vec Ideal S256x128 .f32) (q : Fin 256) (l : Fin 128) :
    k0_pay23 (F := Ideal) (k0_pay9 x0) k0_pay10 (ix2 q l) = if (l : ℕ) < 64 then 0 else x0 (ix2 q l) * scale := by
  pointwise [k0_pay23, k0_pay9]
  rw [lane_word]
  split <;> rfl

/-- The result's gradient on the first head's lanes. -/
theorem lo_grad (x4 : Vec Ideal S256x128 .f32) (q : Fin 256) (l : Fin 128) :
    k0_pay15 (F := Ideal) x4 k0_pay10 (ix2 q l) = if (l : ℕ) < 64 then x4 (ix2 q l) else 0 := by
  pointwise [k0_pay15]
  rw [lane_word]
  split <;> rfl

/-- The result's gradient on the second head's lanes. -/
theorem hi_grad (x4 : Vec Ideal S256x128 .f32) (q : Fin 256) (l : Fin 128) :
    k0_pay24 (F := Ideal) x4 k0_pay10 (ix2 q l) = if (l : ℕ) < 64 then 0 else x4 (ix2 q l) := by
  pointwise [k0_pay24]
  rw [lane_word]
  split <;> rfl

variable {X G B : ℕ → ℕ → EReal} {i j : ℕ} {x0 x4 : Vec Ideal S256x128 .f32} {kb vb : Vec Ideal S768x128 .bf16}
  {b0 b1 : Vec Ideal S1x256x768 .f32}

/-- A key is live exactly where the band's mask and the mask row both let it through. -/
theorem live_iff (i q w : ℕ) (hq : q < 256) : Live (256 * i + q) (256 * i + w) ↔
    (q / 64 * 64 ≤ w ∧ w < q / 64 * 64 + 576) ∧ 512 ≤ 256 * i + w := by
  unfold Live
  omega

/-- The bias, the band's mask and the mask row added to a product give the score. -/
theorem masked_score (i h q w : ℕ) (hq : q < 256) (s : EReal)
    (hs : s = (∑ d : Fin 64, X (256 * i + q) (64 * h + (d : ℕ)) * padded X (256 * i + w) (1024 + 64 * h + (d : ℕ))) * scale) :
    s + (B h (min (q + 640 - w) 256) + (if q / 64 * 64 ≤ w ∧ w < q / 64 * 64 + 576 then 0 else ⊥))
        + (if 512 ≤ 256 * i + w then 0 else ⊥) = score X B h (256 * i + q) (256 * i + w) := by
  rw [score]
  by_cases h1 : q / 64 * 64 ≤ w ∧ w < q / 64 * 64 + 576
  · by_cases h2 : 512 ≤ 256 * i + w
    · rw [if_pos h1, if_pos h2, if_pos ((live_iff i q w hq).mpr ⟨h1, h2⟩), add_zero, add_zero, hs, rel]
      congr 2
      omega
    · rw [if_neg h2, if_neg (fun h => h2 ((live_iff i q w hq).mp h).2), EReal.add_bot]
  · rw [if_neg h1, if_neg (fun h => h1 ((live_iff i q w hq).mp h).1), EReal.add_bot, EReal.add_bot, EReal.bot_add]

/-- A row of 768 values that are the scores of the window's keys: its exponentials and their sum are the row's. -/
theorem row_expo (x : ℕ → EReal) (a : ℕ) (ha : a + 768 ≤ 8704) (hz : ∀ t, t < a ∨ a + 768 ≤ t → x t = ⊥)
    (w : Fin 768) (f : Fin 768 → EReal) (hf : ∀ w, f w = x (a + w)) :
    Ideal.exp (f w - Finset.fold max (Ideal.ofBits .f32 0xFF800000#32) f Finset.univ) = expo 8704 x (a + w) := by
  obtain rfl : f = fun w : Fin 768 => x (a + (w : ℕ)) := funext hf
  rw [ofBits_neg_inf, fold_max_window x a 768 8704 ha hz, expo]

theorem row_total (x : ℕ → EReal) (a : ℕ) (ha : a + 768 ≤ 8704) (hz : ∀ t, t < a ∨ a + 768 ≤ t → x t = ⊥) :
    ∑ w : Fin 768, expo 8704 x (a + w) = total 8704 x :=
  sum_window (expo 8704 x) a 768 8704 ha fun t ht => expo_bot (hz t ht)

/-- Outside the window the scores are masked. -/
theorem score_outside (i h q t : ℕ) (hq : q < 256) (ht : t < 256 * i ∨ 256 * i + 768 ≤ t) : score X B h (256 * i + q) t = ⊥ :=
  score_dead (by unfold Live; omega)

variable (R : Reads X G B i j x0 x4 kb vb b0 b1)
include R

/-- The first head's scores. -/
theorem score0 (q : Fin 256) (w : Fin 768) :
    ∑ l : Fin 128, k0_pay14 (F := Ideal) (k0_pay9 x0) k0_pay10 (ix2 q l) * kb (ix2 w l) + b0 (ix3 0 q w)
        + k0_pay11 (F := Ideal) (BitVec.ofNat 32 (256 * i)) lanes 512#32 (ix2 0 w)
      = score X B (2 * j) (256 * i + q) (256 * i + w) := by
  rw [mask_row i R.hi, R.b0]
  refine masked_score i (2 * j) q w q.isLt _ ?_
  simp only [lo_query]
  rw [sum_lo, mul_comm _ scale, mul_sum_of_real scale_nonneg scale_ne_top]
  refine Finset.sum_congr rfl fun d _ => ?_
  rw [R.q, R.k]
  dsimp only
  rw [show 128 * j + (d : ℕ) = 64 * (2 * j) + d by omega, show 1024 + 128 * j + (d : ℕ) = 1024 + 64 * (2 * j) + d by omega]
  ac_rfl

/-- The second head's scores. -/
theorem score1 (q : Fin 256) (w : Fin 768) :
    ∑ l : Fin 128, k0_pay23 (F := Ideal) (k0_pay9 x0) k0_pay10 (ix2 q l) * kb (ix2 w l) + b1 (ix3 0 q w)
        + k0_pay11 (F := Ideal) (BitVec.ofNat 32 (256 * i)) lanes 512#32 (ix2 0 w)
      = score X B (2 * j + 1) (256 * i + q) (256 * i + w) := by
  rw [mask_row i R.hi, R.b1]
  refine masked_score i (2 * j + 1) q w q.isLt _ ?_
  simp only [hi_query]
  rw [sum_hi, mul_comm _ scale, mul_sum_of_real scale_nonneg scale_ne_top]
  refine Finset.sum_congr rfl fun d _ => ?_
  rw [R.q, R.k]
  dsimp only
  rw [show 128 * j + (64 + (d : ℕ)) = 64 * (2 * j + 1) + d by omega,
    show 1024 + 128 * j + (64 + (d : ℕ)) = 1024 + 64 * (2 * j + 1) + d by omega]
  ac_rfl

theorem good (q : Fin 256) (h : ℕ) (hh : h < 16) : Good 8704 (score X B h (256 * i + q)) :=
  R.real.good hh (by have := R.hi; have := q.isLt; omega)

/-- The first head's softmax weights. -/
theorem weight0 (q : Fin 256) (w : Fin 768) :
    k0_pay16 (F := Ideal) (BitVec.ofNat 32 (256 * i)) (k0_pay9 x0) kb k0_pay10 lanes 512#32 b0 (ix2 q w)
      = weight X B (2 * j) (256 * i + q) (256 * i + w) := by
  have hi := R.hi
  have hj := R.hj
  have hz := fun t ht => score_outside (X := X) (B := B) i (2 * j) q t q.isLt ht
  pointwise [k0_pay16]
  simp only [row_expo _ (256 * i) (by omega) hz _ _ (score0 R q)]
  rw [row_total _ _ (by omega) hz, (good R q (2 * j) (by omega)).mul_recip, weight]

/-- The second head's exponentials. -/
theorem expo1 (q : Fin 256) (w : Fin 768) :
    k0_pay26 (F := Ideal) (k0_pay9 x0) kb k0_pay10 (k0_pay11 (F := Ideal) (BitVec.ofNat 32 (256 * i)) lanes 512#32) b1 (ix2 q w)
      = expo 8704 (score X B (2 * j + 1) (256 * i + q)) (256 * i + w) := by
  have hi := R.hi
  have hz := fun t ht => score_outside (X := X) (B := B) i (2 * j + 1) q t q.isLt ht
  pointwise [k0_pay26]
  exact row_expo _ (256 * i) (by omega) hz _ _ (score1 R q)

/-- The sum of the second head's exponentials. -/
theorem total1 (q : Fin 256) :
    k0_pay27 (F := Ideal) (k0_pay9 x0) kb k0_pay10 (k0_pay11 (F := Ideal) (BitVec.ofNat 32 (256 * i)) lanes 512#32) b1 (ix2 q 0)
      = total 8704 (score X B (2 * j + 1) (256 * i + q)) := by
  have hi := R.hi
  have hz := fun t ht => score_outside (X := X) (B := B) i (2 * j + 1) q t q.isLt ht
  pointwise [k0_pay27]
  simp only [expo1 R]
  exact row_total _ _ (by omega) hz

/-- The second head's softmax weights. -/
theorem weight1 {e : FVec Ideal S256x768 .f32} {t : FVec Ideal S256x1 .f32}
    (he : e = k0_pay26 (F := Ideal) (k0_pay9 x0) kb k0_pay10 (k0_pay11 (F := Ideal) (BitVec.ofNat 32 (256 * i)) lanes 512#32) b1)
    (ht : t = k0_pay27 (F := Ideal) (k0_pay9 x0) kb k0_pay10 (k0_pay11 (F := Ideal) (BitVec.ofNat 32 (256 * i)) lanes 512#32) b1)
    (q : Fin 256) (w : Fin 768) :
    k0_pay28 (F := Ideal) e t (ix2 q w) = weight X B (2 * j + 1) (256 * i + q) (256 * i + w) := by
  have hj := R.hj
  subst he ht
  pointwise [k0_pay28]
  rw [expo1 R, total1 R, (good R q (2 * j + 1) (by omega)).mul_recip, weight]

/-- The gradient of the first head's weights. -/
theorem dweight0 (q : Fin 256) (w : Fin 768) :
    ∑ l : Fin 128, k0_pay15 (F := Ideal) x4 k0_pay10 (ix2 q l) * vb (ix2 w l) = dweight X G (2 * j) (256 * i + q) (256 * i + w) := by
  simp only [lo_grad]
  rw [sum_lo, dweight]
  refine Finset.sum_congr rfl fun d _ => ?_
  rw [R.g, R.v]
  dsimp only
  rw [show 128 * j + (d : ℕ) = 64 * (2 * j) + d by omega, show 2048 + 128 * j + (d : ℕ) = 2048 + 64 * (2 * j) + d by omega]

/-- The gradient of the second head's weights. -/
theorem dweight1 (q : Fin 256) (w : Fin 768) :
    k0_pay25 (F := Ideal) x4 vb k0_pay10 (ix2 q w) = dweight X G (2 * j + 1) (256 * i + q) (256 * i + w) := by
  pointwise [k0_pay25]
  simp only [hi_grad]
  rw [sum_hi, dweight]
  refine Finset.sum_congr rfl fun d _ => ?_
  rw [R.g, R.v]
  dsimp only
  rw [show 128 * j + (64 + (d : ℕ)) = 64 * (2 * j + 1) + d by omega,
    show 2048 + 128 * j + (64 + (d : ℕ)) = 2048 + 64 * (2 * j + 1) + d by omega]

omit R in
/-- A sum over the window of weights times anything is the sum over every key. -/
theorem sum_weight (i h q : ℕ) (hi : i < 32) (hq : q < 256) (g : ℕ → EReal) :
    ∑ w : Fin 768, weight X B h (256 * i + q) (256 * i + (w : ℕ)) * g (256 * i + w)
      = ∑ t ∈ Finset.range 8704, weight X B h (256 * i + q) t * g t :=
  sum_window (fun t => weight X B h (256 * i + q) t * g t) (256 * i) 768 8704 (by omega) fun t ht => by
    show weight X B h (256 * i + q) t * g t = 0
    rw [weight_dead (by unfold Live; omega), zero_mul]

/-- The first head's gradient of the scores. -/
theorem ds0 (q : Fin 256) (w : Fin 768) :
    k0_pay17 (F := Ideal) (BitVec.ofNat 32 (256 * i)) (k0_pay9 x0) x4 kb vb k0_pay10 lanes 512#32 b0 (ix2 q w)
      = ds X G B (2 * j) (256 * i + q) (256 * i + w) := by
  pointwise [k0_pay17]
  simp only [weight0 R, dweight0 R]
  rw [sum_weight i _ _ R.hi q.isLt (dweight X G (2 * j) (256 * i + q))]
  rfl

variable {e : FVec Ideal S256x768 .f32} {t : FVec Ideal S256x1 .f32}

/-- The second head's gradient of the scores. -/
theorem ds1 (he : e = k0_pay26 (F := Ideal) (k0_pay9 x0) kb k0_pay10 (k0_pay11 (F := Ideal) (BitVec.ofNat 32 (256 * i)) lanes 512#32) b1)
    (ht : t = k0_pay27 (F := Ideal) (k0_pay9 x0) kb k0_pay10 (k0_pay11 (F := Ideal) (BitVec.ofNat 32 (256 * i)) lanes 512#32) b1)
    (q : Fin 256) (w : Fin 768) :
    k0_pay29 (F := Ideal) (k0_pay25 x4 vb k0_pay10) e t (ix2 q w) = ds X G B (2 * j + 1) (256 * i + q) (256 * i + w) := by
  pointwise [k0_pay29]
  simp only [weight1 R he ht, dweight1 R]
  rw [sum_weight i _ _ R.hi q.isLt (dweight X G (2 * j + 1) (256 * i + q))]
  rfl

/-- The block of query gradients. -/
theorem gradQ_block (he : e = k0_pay26 (F := Ideal) (k0_pay9 x0) kb k0_pay10 (k0_pay11 (F := Ideal) (BitVec.ofNat 32 (256 * i)) lanes 512#32) b1)
    (ht : t = k0_pay27 (F := Ideal) (k0_pay9 x0) kb k0_pay10 (k0_pay11 (F := Ideal) (BitVec.ofNat 32 (256 * i)) lanes 512#32) b1)
    (q : Fin 256) (l : Fin 128) :
    k0_pay32 (F := Ideal) kb k0_pay10
        (k0_pay20 kb (k0_pay17 (BitVec.ofNat 32 (256 * i)) (k0_pay9 x0) x4 kb vb k0_pay10 lanes 512#32 b0))
        (k0_pay25 x4 vb k0_pay10) e t (ix2 q l)
      = gradQ X G B (256 * i + q) (128 * j + l) := by
  have hi := R.hi
  have key : ∀ h, ∑ w : Fin 768, ds X G B h (256 * i + q) (256 * i + (w : ℕ)) * padded X (256 * i + w) (1024 + (128 * j + l))
      = ∑ t ∈ Finset.range 8704, ds X G B h (256 * i + q) t * padded X t (1024 + (128 * j + l)) := fun h =>
    sum_window (fun t => ds X G B h (256 * i + q) t * padded X t (1024 + (128 * j + l))) (256 * i) 768 8704 (by omega) fun t ht => by
      show ds X G B h (256 * i + q) t * _ = 0
      rw [ds_dead (by have := q.isLt; unfold Live; omega), zero_mul]
  pointwise [k0_pay32, k0_pay31, k0_pay20, k0_pay19]
  simp only [ds0 R, ds1 R he ht, R.k, lane_word, Nat.add_assoc 1024, key]
  rw [gradQ]
  by_cases hl : (l : ℕ) < 64
  · rw [if_pos hl, show (128 * j + (l : ℕ)) / 64 = 2 * j by omega]; rfl
  · rw [if_neg hl, show (128 * j + (l : ℕ)) / 64 = 2 * j + 1 by omega]; rfl

/-- What the point adds to its window of key gradients. -/
theorem gradK_block (he : e = k0_pay26 (F := Ideal) (k0_pay9 x0) kb k0_pay10 (k0_pay11 (F := Ideal) (BitVec.ofNat 32 (256 * i)) lanes 512#32) b1)
    (ht : t = k0_pay27 (F := Ideal) (k0_pay9 x0) kb k0_pay10 (k0_pay11 (F := Ideal) (BitVec.ofNat 32 (256 * i)) lanes 512#32) b1)
    (acc : Vec Ideal S768x128 .f32) (w : Fin 768) (l : Fin 128) :
    k0_pay33 (F := Ideal) (k0_pay21 k0_pay12 (k0_pay14 (k0_pay9 x0) k0_pay10)
        (k0_pay17 (BitVec.ofNat 32 (256 * i)) (k0_pay9 x0) x4 kb vb k0_pay10 lanes 512#32 b0))
        (k0_pay23 (k0_pay9 x0) k0_pay10) (k0_pay25 x4 vb k0_pay10) e t acc (ix2 w l)
      = acc (ix2 w l) + ∑ q : Fin 256, ds X G B ((128 * j + l) / 64) (256 * i + q) (256 * i + w) * (X (256 * i + q) (128 * j + l) * scale) := by
  pointwise [k0_pay33, k0_pay31, k0_pay21, k0_pay19, k0_pay12]
  simp only [ds0 R, ds1 R he ht, lo_query, hi_query, R.q]
  congr 1
  by_cases hl : (l : ℕ) < 64
  · simp only [if_pos hl, show (128 * j + (l : ℕ)) / 64 = 2 * j by omega, mul_zero, Finset.sum_const_zero, add_zero]
  · simp only [if_neg hl, show (128 * j + (l : ℕ)) / 64 = 2 * j + 1 by omega, mul_zero, Finset.sum_const_zero, zero_add]

/-- What the point adds to its window of value gradients. -/
theorem gradV_block (he : e = k0_pay26 (F := Ideal) (k0_pay9 x0) kb k0_pay10 (k0_pay11 (F := Ideal) (BitVec.ofNat 32 (256 * i)) lanes 512#32) b1)
    (ht : t = k0_pay27 (F := Ideal) (k0_pay9 x0) kb k0_pay10 (k0_pay11 (F := Ideal) (BitVec.ofNat 32 (256 * i)) lanes 512#32) b1)
    (acc : Vec Ideal S768x128 .f32) (w : Fin 768) (l : Fin 128) :
    k0_pay34 (F := Ideal) (k0_pay22 k0_pay13 (k0_pay15 x4 k0_pay10)
        (k0_pay16 (BitVec.ofNat 32 (256 * i)) (k0_pay9 x0) kb k0_pay10 lanes 512#32 b0))
        (k0_pay24 x4 k0_pay10) e t acc (ix2 w l)
      = acc (ix2 w l) + ∑ q : Fin 256, weight X B ((128 * j + l) / 64) (256 * i + q) (256 * i + w) * G (256 * i + q) (128 * j + l) := by
  pointwise [k0_pay34, k0_pay22, k0_pay13]
  simp only [weight0 R, weight1 R he ht, lo_grad, hi_grad, R.g]
  congr 1
  by_cases hl : (l : ℕ) < 64
  · simp only [if_pos hl, show (128 * j + (l : ℕ)) / 64 = 2 * j by omega, mul_zero, Finset.sum_const_zero, add_zero]
  · simp only [if_neg hl, show (128 * j + (l : ℕ)) / 64 = 2 * j + 1 by omega, mul_zero, Finset.sum_const_zero, zero_add]

end Cert.KernelIdeal.Block
-- ==== Proof.Bias.lean ====
/-
  The bias matrix that the host prepares for the kernel, element by element: row q of the tile against column w of its
  window holds the bias table's entry of their distance, clipped at 128 on both sides, plus the band mask.
-/
module

public import proofs.«01_k».proof.Proof.Spec
public import proofs.«01_k».proof.Proof.Gen.KernelIdeal.Frame
public import Idealize.ShloMosaic.Lib.Pipeline.ValueKit
public import Idealize.ShloMosaic.Lib.StableHlo.ReadAt
public import Idealize.ShloMosaic.Lib.Routing.OpsOne

@[expose] public section
set_option maxRecDepth 16384
noncomputable section
open Idealize.ShloMosaic Idealize.ShloMosaic.TcCoe Idealize.SL.Sem
namespace Cert.KernelIdeal.Bias
open Cert.KernelIdeal Cert.KernelIdeal.Gen Cert.Attn

/-- The table of clipped distances, read along the skewed row: place `x` stands for the distance `767 - x`. -/
theorem distance_table : ∀ x : Fin 1023, lit0 x = BitVec.ofNat 32 (min (895 - x) 256) := by decide +kernel

/-- Row `q` of the tile lies in chunk `q / 64` of it, eight chunks after the window's first. -/
theorem row_chunk : ∀ q : Fin 256, lit1 q = BitVec.ofNat 32 (q / 64 + 8) := by decide +kernel

/-- Column `w` of the window lies in chunk `w / 64` of it. -/
theorem column_chunk : ∀ w : Fin 768, lit2 w = BitVec.ofNat 32 (w / 64) := by decide +kernel

/-- A column of a table taken at a position: the position is the start index, read signed and clamped. -/
theorem gather_column (x : (⟨2, ![16, 257]⟩ : Shape).Idx → EReal) (idx : IVec ⟨2, ![1023, 1]⟩ 32) (h : Fin 16)
    (p : Fin 1023) :
    Host.gather gather_S16x257_S1023x1_S16x1023_0_1_n_n_1_1_161 x idx (ix2 h p)
      = x (ix2 h ⟨min (idx (ix2 p 0)).toInt.toNat 256, by omega⟩) := by
  unfold Host.gather
  congr 1
  funext a
  refine Fin.ext ?_
  have ha : a = 0 ∨ a = 1 := by
    match a with
    | ⟨0, _⟩ => exact Or.inl rfl
    | ⟨1, _⟩ => exact Or.inr rfl
  show (gather_S16x257_S1023x1_S16x1023_0_1_n_n_1_1_161).start (ix2 h p) idx a
      + (gather_S16x257_S1023x1_S16x1023_0_1_n_n_1_1_161).batchCoord (ix2 h p) a
      + (gather_S16x257_S1023x1_S16x1023_0_1_n_n_1_1_161).offCoord (ix2 h p) a = _
  rw [GatherDims.batchCoord_eq_zero _ _ _ List.not_mem_nil]
  rcases ha with rfl | rfl
  · unfold GatherDims.start
    rw [dif_neg (by decide)]
    unfold GatherDims.offCoord
    rw [dif_pos (by decide)]
    simp
  · rw [GatherDims.offCoord_eq_zero _ _ _ (by decide)]
    unfold GatherDims.start
    rw [dif_pos (by decide)]
    simp only [Nat.add_zero]
    have hsi : (gather_S16x257_S1023x1_S16x1023_0_1_n_n_1_1_161).siIdx (ix2 h p)
        ⟨List.idxOf (1 : Fin 2) (gather_S16x257_S1023x1_S16x1023_0_1_n_n_1_1_161).startIndexMap,
          List.idxOf_lt_length_iff.2 (by decide)⟩ = ix2 p 0 := by
      funext b; refine Fin.ext ?_
      match b with
      | ⟨0, _⟩ => rfl
      | ⟨1, _⟩ => rfl
    rw [hsi]
    rfl

/-- An entry of a table of 1023 words, read through its array. -/
theorem read_table (f : Fin 1023 → BitVec 32) (x : Fin 1023) : f (S1023.rowMajor (ix1 x)) = f x :=
  congrArg f (Fin.ext (Shape.rowMajor_val_one _))

/-- An entry of a column of 256 words, read through its array. -/
theorem read_column (f : Fin 256 → BitVec 32) (x : Fin 256) : f (S256x1.rowMajor (ix2 x 0)) = f x :=
  congrArg f (Fin.ext ((Shape.rowMajor_val_two _).trans (by simp)))

/-- An entry of a row of 768 words, read through its array. -/
theorem read_row (f : Fin 768 → BitVec 32) (x : Fin 768) : f (S1x768.rowMajor (ix2 0 x)) = f x :=
  congrArg f (Fin.ext ((Shape.rowMajor_val_two _).trans (by simp)))

/-- The clipped distance's word at a place of the skewed row. -/
theorem word_distance (x : Fin 1023) :
    lit0 (S1023.rowMajor (ix1 x)) = BitVec.ofNat 32 (min (895 - x) 256) := (read_table lit0 x).trans (distance_table x)

/-- The word of a row's chunk. -/
theorem word_row (q : Fin 256) :
    lit1 (S256x1.rowMajor (ix2 q 0)) = BitVec.ofNat 32 (q / 64 + 8) := (read_column lit1 q).trans (row_chunk q)

/-- The word of a column's chunk. -/
theorem word_column (w : Fin 768) :
    lit2 (S1x768.rowMajor (ix2 0 w)) = BitVec.ofNat 32 (w / 64) := (read_row lit2 w).trans (column_chunk w)

/-- The test of the band: the column's chunk lies from eight chunks before the row's up to the row's own. -/
theorem band_test (q : Fin 256) (w : Fin 768) (a b : BitVec 32) (ha : a = BitVec.ofNat 32 (w / 64))
    (hb : b = BitVec.ofNat 32 (q / 64 + 8)) :
    (Scalar.select (IntOp.andi (IntOp.cmpi CmpIPredicate.sle a b) (IntOp.cmpi CmpIPredicate.sge a (IntOp.subi b 8#32)))
      (0 : EReal) (Ideal.ofBits FTy.f32 4286578688#32))
      = if q.val / 64 * 64 ≤ w ∧ w < q.val / 64 * 64 + 576 then 0 else ⊥ := by
  have key : ∀ i : Fin 12, ∀ j : Fin 4,
      IntOp.andi (IntOp.cmpi CmpIPredicate.sle (BitVec.ofNat 32 i) (BitVec.ofNat 32 (j + 8)))
          (IntOp.cmpi CmpIPredicate.sge (BitVec.ofNat 32 i) (IntOp.subi (BitVec.ofNat 32 (j + 8)) 8#32))
        = if j.val ≤ i ∧ i.val ≤ j + 8 then 1#1 else 0#1 := by decide
  have k := key ⟨w / 64, by omega⟩ ⟨q / 64, by omega⟩
  simp only at k
  rw [ha, hb, k, show (4286578688#32 : BitVec 32) = 0xFF800000#32 from rfl, ofBits_neg_inf]
  by_cases hc : q.val / 64 ≤ w / 64 ∧ w.val / 64 ≤ q / 64 + 8
  · rw [if_pos hc, if_pos (by omega)]
    simp [Scalar.select]
  · rw [if_neg hc, if_neg (by omega)]
    simp [Scalar.select]

/-- A position that is not negative is not wrapped round. -/
theorem wrap_word (t : BitVec 32) (n : Nat) (hn : n ≤ 256) (ht : t = BitVec.ofNat 32 n) :
    Scalar.select (IntOp.cmpi CmpIPredicate.slt t 0#32) (IntOp.addi t 257#32) t = BitVec.ofNat 32 n := by
  have key : ∀ n : Fin 257, Scalar.select (IntOp.cmpi CmpIPredicate.slt (BitVec.ofNat 32 n) 0#32)
      (IntOp.addi (BitVec.ofNat 32 n) 257#32) (BitVec.ofNat 32 n) = BitVec.ofNat 32 n := by decide +kernel
  rw [ht]
  exact key ⟨n, by omega⟩

/-- A position inside the table passes the range check. -/
theorem range_word {ι : Type} [Fintype ι] (t : BitVec 32) (n : Nat) (hn : n ≤ 256) (ht : t = BitVec.ofNat 32 n)
    (y z : EReal) :
    Scalar.select (Finset.fold IntOp.andi (1#1) (fun _ : ι => IntOp.andi (IntOp.cmpi CmpIPredicate.sge t 0#32)
      (IntOp.cmpi CmpIPredicate.sle t 256#32)) Finset.univ) y z = y := by
  have key : ∀ n : Fin 257, IntOp.andi (IntOp.cmpi CmpIPredicate.sge (BitVec.ofNat 32 n) 0#32)
      (IntOp.cmpi CmpIPredicate.sle (BitVec.ofNat 32 n) 256#32) = 1#1 := by decide +kernel
  rw [ht]
  have k := key ⟨n, by omega⟩
  simp only at k
  have hf : ∀ S : Finset ι, Finset.fold IntOp.andi (1#1 : BitVec 1) (fun _ : ι => (1#1 : BitVec 1)) S = 1#1 := by
    classical
    intro S
    induction S using Finset.induction_on with
    | empty => rfl
    | insert a S ha ih => rw [Finset.fold_insert ha, ih]; rfl
  rw [k, hf]
  simp [Scalar.select]

/-- The entry of the table at a word that holds a position inside it. -/
theorem entry (A : (⟨2, ![16, 257]⟩ : Shape).Idx → EReal) (h : Fin 16) (t : BitVec 32) (n : Nat) (hn : n ≤ 256)
    (ht : t = BitVec.ofNat 32 n) (hlt : min t.toInt.toNat 256 < 257) :
    A (ix2 h ⟨min t.toInt.toNat 256, hlt⟩) = nat2 A h n := by
  subst ht
  have key : ∀ n : Fin 257, min (BitVec.ofNat 32 n).toInt.toNat 256 = n := by decide +kernel
  have k := key ⟨n, by omega⟩
  simp only at k
  refine (nat2_apply A _ _).trans ?_
  congr 2

variable (m : (ℓ : Loc nD τ sig) → Buf (Elt Ideal) ℓ) (c : Dev nD)

/-- The bias matrix that the kernel reads, element by element. -/
theorem bias (h : Fin 16) (q : Fin 256) (w : Fin 768) : (V m c main_v21 (ix3 h q w) : EReal)
    = nat2 (m (c.tc.loc main_arg2)) h (min (q + 640 - w) 256)
      + if q.val / 64 * 64 ≤ w ∧ w < q.val / 64 * 64 + 576 then 0 else ⊥ := by
  have hp : (255 + (q.val * 1023 + w.val)) % 1024 = 255 - q.val + w.val := by
    rw [show 255 + (q.val * 1023 + w.val) = 1024 * q.val + (255 - q.val + w.val) by omega, Nat.mul_add_mod,
      Nat.mod_eq_of_lt (by omega)]
  have hlt : (255 + (q.val * 1023 + w.val)) % 1024 < 1023 := by omega
  unfold V
  after_reads_at
  have add : ∀ a b x y : EReal, a = x → b = y → a + b = x + y := fun _ _ _ _ h h' => by rw [h, h']
  apply add
  · rw [dif_pos hlt]
    have hn : min (q.val + 640 - w) 256 ≤ 256 := by omega
    have hd : lit0 (S1023.rowMajor (ix1 ⟨(255 + (q.val * 1023 + w.val)) % 1024, hlt⟩))
        = BitVec.ofNat 32 (min (q + 640 - w) 256) := by
      refine (word_distance ⟨(255 + (q.val * 1023 + w.val)) % 1024, hlt⟩).trans ?_
      show BitVec.ofNat 32 (min (895 - (255 + (q.val * 1023 + w.val)) % 1024) 256) = _
      rw [hp]
      congr 2
      omega
    refine (range_word _ _ hn (wrap_word _ _ hn hd) _ _).trans ?_
    refine (gather_column _ _ _ _).trans ?_
    refine entry _ _ _ _ hn ?_ _
    pointwise
    exact wrap_word _ _ hn hd
  · rw [id_eq]
    pointwise
    exact band_test q w _ _ (word_column w) (word_row q)
end Cert.KernelIdeal.Bias
-- ==== Proof.Point.lean ====
/-
  What the kernel holds after each grid point: the padded keys and values of the current pair of heads, and the partial
  sums of their gradients over the query tiles so far.  Then what a point's query gradient block is.
-/
module

public import proofs.«01_k».proof.Proof.Block
public import proofs.«01_k».proof.Proof.Bias
public import Idealize.ShloMosaic.Lib.Pipeline.ValueKit.Held
public import Idealize.ShloMosaic.Lib.Pipeline.ReadBack

@[expose] public section
set_option maxRecDepth 16384
noncomputable section
open Idealize.ShloMosaic Idealize.ShloMosaic.TcCoe Idealize.SL.Sem
namespace Cert.KernelIdeal.Point
open Cert.KernelIdeal Cert.KernelIdeal.Gen Cert.KernelIdeal.Block Cert.Attn

/-! ## The window of a point -/

/-- The pair of heads and the tile of a point, the window's first row, and the word of that row. -/
theorem point_facts : ∀ t : Fin grid0.N, (grid0.coords t 0).val = t.val / 32 ∧ (grid0.coords t 1).val = t.val % 32
    ∧ k0_off1 (grid0.coords t) 0 = 256 * (t.val % 32) ∧ k0_off1 (grid0.coords t) 1 = 0
    ∧ Scalar.muli (BitVec.ofNat 32 (grid0.coords t 1).val) 256#32 = BitVec.ofNat 32 (256 * (t.val % 32)) := by
  decide +kernel

/-- The window's load at an index. -/
theorem ld_window {e : EltTy} (P : Vec Ideal S8704x128 e) (off : Fin 2 → ℕ) (inb) (i : ℕ) (hi : i < 32)
    (h0 : off 0 = 256 * i) (h1 : off 1 = 0) (w : Fin 768) (l : Fin 128) :
    View.ld P (Rect.unit (s := S8704x128) off ![768, 128] inb) (ix2 w l) = P (ix2 ⟨256 * i + w, by omega⟩ l) := by
  refine View.ld_unit_apply_of P off ![768, 128] inb (ix2 w l) _ fun a => ?_
  match a with
  | ⟨0, _⟩ => exact (congrArg (· + (w : ℕ)) h0).symm
  | ⟨1, _⟩ => exact ((congrArg (· + (l : ℕ)) h1).trans (Nat.zero_add _)).symm

/-- The place of a box at given coordinates. -/
theorem emb_unit {s : Shape} {off size : Fin s.rank → ℕ} {inb} (x : (Rect.unit off size inb).shape.Idx) (y : s.Idx)
    (h : ∀ a, (y a : ℕ) = off a + x a) : (Rect.unit off size inb).emb x = y :=
  funext fun a => Fin.ext ((Rect.idx_unit_val off size inb x a).trans (h a).symm)

/-- The newest piece, read at a place that it holds. -/
theorem canon_hit {s : Shape} {e : EltTy} (r : Rect s) (w : r.shape.Idx → Elt Ideal e) (L : List (View.Piece (Elt Ideal) s e))
    (x : r.shape.Idx) (y : s.Idx) (h : r.emb x = y) : View.canon (⟨r, w⟩ :: L) y = w x :=
  h ▸ View.canon_cons_emb r w L x

/-- The newest store, read at a place that it holds. -/
theorem read_hit {s : Shape} {e : EltTy} (v : View sig .tc .vmem s e) (f : v.ty.Contents (Elt Ideal)) (r : Rect s)
    (w : r.shape.Idx → Elt Ideal e) (x : r.shape.Idx) (y : s.Idx) (h : r.emb x = y) :
    View.read (Elt Ideal) v (v.writes (Elt Ideal) f [⟨r, w⟩]) y = w x :=
  h ▸ View.read_writes_cons_emb v f r w [] x

/-- A store, read at a place that it does not hold. -/
theorem read_miss {s : Shape} {e : EltTy} (v : View sig .tc .vmem s e) (f : v.ty.Contents (Elt Ideal)) (r : Rect s)
    (w : r.shape.Idx → Elt Ideal e) (y : s.Idx) (h : y ∉ r.set) :
    View.read (Elt Ideal) v (v.writes (Elt Ideal) f [⟨r, w⟩]) y = View.read (Elt Ideal) v f y :=
  View.read_writes_apply_of_forall_not_mem v f y _ fun p hp => by rw [List.mem_singleton.1 hp]; exact h

/-- A piece that does not hold the place is passed over. -/
theorem canon_miss {s : Shape} {e : EltTy} (r : Rect s) (w : r.shape.Idx → Elt Ideal e) (L : List (View.Piece (Elt Ideal) s e))
    (y : s.Idx) (h : y ∉ r.set) : View.canon (⟨r, w⟩ :: L) y = View.canon L y :=
  View.canon_cons_of_not_mem _ L h

/-- A place of the window is the window's own place moved by its first row. -/
theorem window_idx (off : Fin 2 → ℕ) (inb) (i : ℕ) (h0 : off 0 = 256 * i) (h1 : off 1 = 0) (r : Fin 8704) (l : Fin 128)
    (hr : 256 * i ≤ r ∧ r < 256 * i + 768) :
    (Rect.unit (s := S8704x128) off ![768, 128] inb).emb (ix2 (⟨r - 256 * i, by omega⟩ : Fin 768) l) = ix2 r l := by
  refine emb_unit _ _ fun a => ?_
  match a with
  | ⟨0, _⟩ => exact ((congrArg (· + ((r : ℕ) - 256 * i)) h0).trans (Nat.add_sub_cancel' hr.1)).symm
  | ⟨1, _⟩ => exact ((congrArg (· + (l : ℕ)) h1).trans (Nat.zero_add _)).symm

/-- A place outside the window's rows is not in the window. -/
theorem window_not_mem (off : Fin 2 → ℕ) (inb) (i : ℕ) (h0 : off 0 = 256 * i) (r : Fin 8704) (l : Fin 128)
    (hr : ¬(256 * i ≤ r ∧ r < 256 * i + 768)) :
    (ix2 r l : S8704x128.Idx) ∉ (Rect.unit (s := S8704x128) off ![768, 128] inb).set := by
  intro h
  have := (Rect.mem_set_unit.1 h) 0
  apply hr
  rw [h0] at this
  exact this

/-- A store of the window over earlier contents, at an index. -/
theorem read_window {e : EltTy} (v : View sig .tc .vmem S8704x128 e) (f : v.ty.Contents (Elt Ideal)) (off : Fin 2 → ℕ) (inb) (i : ℕ)
    (h0 : off 0 = 256 * i) (h1 : off 1 = 0) (P : (Rect.unit (s := S8704x128) off ![768, 128] inb).shape.Idx → Elt Ideal e) (r : Fin 8704) (l : Fin 128) :
    View.read (Elt Ideal) v (v.writes (Elt Ideal) f [⟨Rect.unit (s := S8704x128) off ![768, 128] inb, P⟩]) (ix2 r l)
      = if h : 256 * i ≤ r ∧ r < 256 * i + 768 then P (ix2 (⟨r - 256 * i, by omega⟩ : Fin 768) l) else View.read (Elt Ideal) v f (ix2 r l) := by
  by_cases h : 256 * i ≤ r ∧ r < 256 * i + 768
  · rw [dif_pos h]
    exact read_hit v f _ P _ _ (window_idx off inb i h0 h1 r l h)
  · rw [dif_neg h]
    exact read_miss v f _ P _ (window_not_mem off inb i h0 r l h)

/-- A store of the window over a whole filled buffer, at an index. -/
theorem canon_window {e : EltTy} (off : Fin 2 → ℕ) (inb) (inb') (i : ℕ)
    (h0 : off 0 = 256 * i) (h1 : off 1 = 0) (P : (Rect.unit (s := S8704x128) off ![768, 128] inb).shape.Idx → Elt Ideal e)
    (Z : (Rect.unit (s := S8704x128) ![0, 0] ![8704, 128] inb').shape.Idx → Elt Ideal e)
    (r : Fin 8704) (l : Fin 128) :
    View.canon [⟨Rect.unit (s := S8704x128) off ![768, 128] inb, P⟩,
        ⟨Rect.unit (s := S8704x128) ![0, 0] ![8704, 128] inb', Z⟩] (ix2 r l)
      = if h : 256 * i ≤ r ∧ r < 256 * i + 768 then P (ix2 (⟨r - 256 * i, by omega⟩ : Fin 768) l) else Z (ix2 r l) := by
  by_cases h : 256 * i ≤ r ∧ r < 256 * i + 768
  · rw [dif_pos h]
    exact canon_hit _ P _ _ _ (window_idx off inb i h0 h1 r l h)
  · rw [dif_neg h]
    refine (canon_miss _ P _ _ (window_not_mem off inb i h0 r l h)).trans ?_
    refine canon_hit _ Z _ (ix2 r l) _ (emb_unit _ _ fun a => ?_)
    match a with
    | ⟨0, _⟩ => exact (Nat.zero_add _).symm
    | ⟨1, _⟩ => exact (Nat.zero_add _).symm

/-- The padded keys, filled in two pieces, at an index. -/
theorem canon_padded {e : EltTy} (inb inb') (K : (Rect.unit (s := S8704x128) ![512, 0] ![8192, 128] inb).shape.Idx → Elt Ideal e)
    (Z : (Rect.unit (s := S8704x128) ![0, 0] ![512, 128] inb').shape.Idx → Elt Ideal e)
    (r : Fin 8704) (l : Fin 128) :
    View.canon [⟨Rect.unit (s := S8704x128) ![512, 0] ![8192, 128] inb, K⟩,
        ⟨Rect.unit (s := S8704x128) ![0, 0] ![512, 128] inb', Z⟩] (ix2 r l)
      = if h : r.val < 512 then Z (ix2 (⟨r, h⟩ : Fin 512) l) else K (ix2 (⟨r - 512, by omega⟩ : Fin 8192) l) := by
  by_cases h : r.val < 512
  · rw [dif_pos h]
    refine (canon_miss _ K _ _ fun hm => ?_).trans ?_
    · exact absurd ((Rect.mem_set_unit.1 hm) 0).1 (Nat.not_le.2 h)
    · refine canon_hit _ Z _ _ _ (emb_unit _ _ fun a => ?_)
      match a with
      | ⟨0, _⟩ => exact (Nat.zero_add _).symm
      | ⟨1, _⟩ => exact (Nat.zero_add _).symm
  · rw [dif_neg h]
    refine canon_hit _ K _ _ _ (emb_unit _ _ fun a => ?_)
    match a with
    | ⟨0, _⟩ => exact (Nat.add_sub_cancel' (Nat.le_of_not_lt h)).symm
    | ⟨1, _⟩ => exact (Nat.zero_add _).symm

end Cert.KernelIdeal.Point
-- ==== Proof.State.lean ====
/-
  What the kernel's buffers hold after each grid point: the padded keys and values of the current pair of heads, the
  partial sums of their gradients over the query tiles so far, and the query gradient's block of the point.
-/
module

public import proofs.«01_k».proof.Proof.Point

@[expose] public section
set_option maxRecDepth 16384
noncomputable section
open Idealize.ShloMosaic Idealize.ShloMosaic.TcCoe Idealize.SL.Sem
namespace Cert.KernelIdeal.Point
open Cert.KernelIdeal Cert.KernelIdeal.Gen Cert.KernelIdeal.Block Cert.Attn

variable (m : (ℓ : Loc nD τ sig) → Buf (Elt Ideal) ℓ) (c : Dev nD)

/-- The queries, keys and values array. -/
abbrev X : ℕ → ℕ → EReal := nat2 (m (c.tc.loc main_arg0))
/-- The cotangent of the attention's output. -/
abbrev G : ℕ → ℕ → EReal := nat2 (m (c.tc.loc main_arg1))
/-- The table of relative biases. -/
abbrev B : ℕ → ℕ → EReal := nat2 (m (c.tc.loc main_arg2))

/-- The block that each operand's window gives a point. -/
theorem window_index : ∀ t : Fin cfg0.N, win0_0.index t = ![t.val % 32, t.val / 32] ∧ win0_1.index t = ![0, 8 + t.val / 32]
    ∧ win0_2.index t = ![0, 16 + t.val / 32] ∧ win0_3.index t = ![t.val / 32, 0, 0] ∧ win0_4.index t = ![t.val % 32, t.val / 32] := by
  decide +kernel

theorem point_lt (t : Fin cfg0.N) : t.val < 256 := t.isLt

/-- The block of queries. -/
theorem iblk_q (t : Fin cfg0.N) (q : Fin 256) (l : Fin 128) :
    iblk m c 0 t (ix2 q l) = X m c (256 * (t.val % 32) + q) (128 * (t.val / 32) + l) := by
  have ht := point_lt t
  refine Eq.trans ?_ (nat2_apply (m (c.tc.loc main_arg0)) ⟨256 * (t.val % 32) + q, by omega⟩ ⟨128 * (t.val / 32) + l, by omega⟩)
  blk_ext [iblk, V_main_arg0, window_index t]

/-- The block of output cotangents. -/
theorem iblk_g (t : Fin cfg0.N) (q : Fin 256) (l : Fin 128) :
    iblk m c 4 t (ix2 q l) = G m c (256 * (t.val % 32) + q) (128 * (t.val / 32) + l) := by
  have ht := point_lt t
  refine Eq.trans ?_ (nat2_apply (m (c.tc.loc main_arg1)) ⟨256 * (t.val % 32) + q, by omega⟩ ⟨128 * (t.val / 32) + l, by omega⟩)
  blk_ext [iblk, V_main_arg1, window_index t]

/-- The column of keys. -/
theorem iblk_k (t : Fin cfg0.N) (r : Fin 8192) (l : Fin 128) :
    iblk m c 1 t (ix2 r l) = X m c r (1024 + 128 * (t.val / 32) + l) := by
  have ht := point_lt t
  refine Eq.trans ?_ (nat2_apply (m (c.tc.loc main_arg0)) ⟨r, by omega⟩ ⟨1024 + 128 * (t.val / 32) + l, by omega⟩)
  blk_ext [iblk, V_main_arg0, window_index t]

/-- The column of values. -/
theorem iblk_v (t : Fin cfg0.N) (r : Fin 8192) (l : Fin 128) :
    iblk m c 2 t (ix2 r l) = X m c r (2048 + 128 * (t.val / 32) + l) := by
  have ht := point_lt t
  refine Eq.trans ?_ (nat2_apply (m (c.tc.loc main_arg0)) ⟨r, by omega⟩ ⟨2048 + 128 * (t.val / 32) + l, by omega⟩)
  blk_ext [iblk, V_main_arg0, window_index t]

/-- The bias block of the pair, head by head. -/
theorem iblk_b (t : Fin cfg0.N) (h : Fin 2) (q : Fin 256) (w : Fin 768) :
    iblk m c 3 t (ix3 h q w) = B m c (2 * (t.val / 32) + h) (min (q + 640 - w) 256)
      + if q.val / 64 * 64 ≤ w ∧ w < q.val / 64 * 64 + 576 then 0 else ⊥ := by
  have ht := point_lt t
  refine Eq.trans ?_ (Bias.bias m c ⟨2 * (t.val / 32) + h, by omega⟩ q w)
  blk_ext [iblk, window_index t]

/-- One head's plane of the bias block, as it is loaded. -/
theorem ld_plane (P : Vec Ideal S2x256x768 .f32) (off : Fin 3 → ℕ) (h : Fin 2) (h0 : off 0 = h) (h1 : off 1 = 0) (h2 : off 2 = 0) (inb)
    (q : Fin 256) (w : Fin 768) :
    View.ld P (Rect.unit (s := S2x256x768) off ![1, 256, 768] inb) (ix3 0 q w) = P (ix3 h q w) := by
  refine View.ld_unit_apply_of P off ![1, 256, 768] inb (ix3 0 q w) _ fun a => ?_
  match a with
  | ⟨0, _⟩ => exact h0.symm
  | ⟨1, _⟩ => exact ((congrArg (· + (q : ℕ)) h1).trans (Nat.zero_add _)).symm
  | ⟨2, _⟩ => exact ((congrArg (· + (w : ℕ)) h2).trans (Nat.zero_add _)).symm

/-- A buffer holds the padded columns of the queries, keys and values array from column `a` on. -/
def Holds (X : ℕ → ℕ → EReal) (a : ℕ) (P : Vec Ideal S8704x128 .bf16) : Prop :=
  ∀ (r : Fin 8704) (l : Fin 128), P (ix2 r l) = padded X r (a + l)

/-- What a point's body computes with. -/
theorem reads (R : Reals (X m c) (B m c)) (t : Fin cfg0.N) (kp vp : Vec Ideal S8704x128 .bf16)
    (hk : Holds (X m c) (1024 + 128 * (t.val / 32)) kp) (hv : Holds (X m c) (2048 + 128 * (t.val / 32)) vp) (inb inb' inb0 inb1) :
    Reads (X m c) (G m c) (B m c) (t.val % 32) (t.val / 32) (iblk m c 0 t) (iblk m c 4 t)
      (View.ld kp (Rect.unit (s := S8704x128) (k0_off1 (grid0.coords t)) ![768, 128] inb))
      (View.ld vp (Rect.unit (s := S8704x128) (k0_off1 (grid0.coords t)) ![768, 128] inb'))
      (View.ld (iblk m c 3 t) (Rect.unit (s := S2x256x768) ![0, 0, 0] ![1, 256, 768] inb0))
      (View.ld (iblk m c 3 t) (Rect.unit (s := S2x256x768) ![1, 0, 0] ![1, 256, 768] inb1)) where
  hi := Nat.mod_lt _ (by omega)
  hj := by have := point_lt t; omega
  real := R
  q := iblk_q m c t
  g := iblk_g m c t
  k w l := (ld_window kp _ inb (t.val % 32) (Nat.mod_lt _ (by omega)) (point_facts t).2.2.1 (point_facts t).2.2.2.1 w l).trans (hk _ l)
  v w l := (ld_window vp _ inb' (t.val % 32) (Nat.mod_lt _ (by omega)) (point_facts t).2.2.1 (point_facts t).2.2.2.1 w l).trans (hv _ l)
  b0 q w := (ld_plane _ ![0, 0, 0] 0 rfl rfl rfl inb0 q w).trans (iblk_b m c t 0 q w)
  b1 q w := (ld_plane _ ![1, 0, 0] 1 rfl rfl rfl inb1 q w).trans (iblk_b m c t 1 q w)

end Cert.KernelIdeal.Point
-- ==== Proof.Sums.lean ====
/-
  The kernel's scratch buffers and its blocks after each grid point: the padded keys and values stay, the two sums of
  gradients have taken in the query tiles up to the point's own, and the point's block of query gradients is done.
-/
module

public import proofs.«01_k».proof.Proof.State

@[expose] public section
set_option maxRecDepth 16384
noncomputable section
open Idealize.ShloMosaic Idealize.ShloMosaic.TcCoe Idealize.SL.Sem
namespace Cert.KernelIdeal.Point
open Cert.KernelIdeal Cert.KernelIdeal.Gen Cert.KernelIdeal.Block Cert.Attn

/-- What a query row adds to the key gradient at a padded row. -/
def termK (X G B : ℕ → ℕ → EReal) (a r n : ℕ) : EReal := ds X G B (a / 64) n r * (X n a * scale)

/-- What a query row adds to the value gradient at a padded row. -/
def termV (X G B : ℕ → ℕ → EReal) (a r n : ℕ) : EReal := weight X B (a / 64) n r * G n a

/-- A buffer holds, over the query tiles up to number `i`, the sums of a term. -/
def SumsTo (T : ℕ → ℕ → ℕ → EReal) (j i : ℕ) (D : Vec Ideal S8704x128 .f32) : Prop :=
  ∀ (r : Fin 8704) (l : Fin 128), D (ix2 r l) = ∑ n ∈ Finset.range (256 * (i + 1)), T (128 * j + l) r n

theorem termK_dead {X G B : ℕ → ℕ → EReal} (a r n i : ℕ) (hn : 256 * i ≤ n ∧ n < 256 * i + 256)
    (hr : ¬(256 * i ≤ r ∧ r < 256 * i + 768)) : termK X G B a r n = 0 := by
  rw [termK, ds_dead (by unfold Live; omega), zero_mul]

theorem termV_dead {X G B : ℕ → ℕ → EReal} (a r n i : ℕ) (hn : 256 * i ≤ n ∧ n < 256 * i + 256)
    (hr : ¬(256 * i ≤ r ∧ r < 256 * i + 768)) : termV X G B a r n = 0 := by
  rw [termV, weight_dead (by unfold Live; omega), zero_mul]

/-- One tile's step of a sum: inside the window the tile is added, and outside it has nothing to add. -/
theorem tile_step (F : ℕ → EReal) (i : ℕ) (inside : Prop) [Decidable inside] (old new : EReal)
    (dead : ∀ n, 256 * i ≤ n ∧ n < 256 * i + 256 → ¬inside → F n = 0)
    (hold : old = ∑ n ∈ Finset.range (256 * i), F n) (hin : inside → new = old + ∑ q : Fin 256, F (256 * i + q))
    (hout : ¬inside → new = old) : new = ∑ n ∈ Finset.range (256 * (i + 1)), F n := by
  rw [show 256 * (i + 1) = 256 * i + 256 by ring, Finset.sum_range_add, ← hold]
  by_cases h : inside
  · rw [hin h, Finset.sum_range]
  · rw [hout h, Finset.sum_eq_zero fun x hx => ?_, add_zero]
    exact dead _ (by have := Finset.mem_range.1 hx; omega) h

variable (m : (ℓ : Loc nD τ sig) → Buf (Elt Ideal) ℓ) (c : Dev nD)

/-- The first point of a pair fills the padded keys. -/
theorem padA_k (t : Fin cfg0.N) (h0 : t.val % 32 = 0) (h1 : ¬t.val % 32 = 31) :
    Holds (X m c) (1024 + 128 * (t.val / 32)) (outsAt0 m c t.val t.isLt).2.2.2.2.1 := by
  intro r l
  rw [outsAt0_A m c t h0 h1]; frame_out
  refine (canon_padded _ _ _ _ r l).trans ?_
  rw [padded]
  by_cases h : r.val < 512
  · rw [dif_pos h, if_pos h]
    pointwise [k0_pay2]
  · rw [dif_neg h, if_neg h]
    pointwise [k0_pay4]
    exact iblk_k m c t _ l

/-- The first point of a pair fills the padded values. -/
theorem padA_v (t : Fin cfg0.N) (h0 : t.val % 32 = 0) (h1 : ¬t.val % 32 = 31) :
    Holds (X m c) (2048 + 128 * (t.val / 32)) (outsAt0 m c t.val t.isLt).2.2.2.2.2.1 := by
  intro r l
  rw [outsAt0_A m c t h0 h1]; frame_out
  refine (canon_padded _ _ _ _ r l).trans ?_
  rw [padded]
  by_cases h : r.val < 512
  · rw [dif_pos h, if_pos h]
    pointwise [k0_pay3]
  · rw [dif_neg h, if_neg h]
    pointwise [k0_pay5]
    exact iblk_v m c t _ l

/-- The first point of a pair starts the sum of the keys' gradients. -/
theorem sumA_k (R : Reals (X m c) (B m c)) (t : Fin cfg0.N) (h0 : t.val % 32 = 0) (h1 : ¬t.val % 32 = 31) :
    SumsTo (termK (X m c) (G m c) (B m c)) (t.val / 32) (t.val % 32) (outsAt0 m c t.val t.isLt).2.2.2.2.2.2.1 := by
  intro r l
  have hk := padA_k m c t h0 h1
  have hv := padA_v m c t h0 h1
  rw [outsAt0_A m c t h0 h1] at hk hv
  frame_out at hk
  frame_out at hv
  rw [outsAt0_A m c t h0 h1]; frame_out
  rw [(point_facts t).2.2.2.2]
  refine tile_step _ (t.val % 32) (256 * (t.val % 32) ≤ r ∧ (r : ℕ) < 256 * (t.val % 32) + 768) 0 _
    (fun n hn hr => termK_dead _ _ n _ hn hr) (by rw [h0]; simp) (fun h => ?_) (fun h => ?_)
  · refine (canon_window _ _ _ (t.val % 32) (point_facts t).2.2.1 (point_facts t).2.2.2.1 _ _ r l).trans ?_
    rw [dif_pos h]
    refine (gradK_block (reads m c R t _ _ hk hv _ _ _ _) rfl rfl _ _ l).trans ?_
    rw [ld_window _ _ _ (t.val % 32) (Nat.mod_lt _ (by omega)) (point_facts t).2.2.1 (point_facts t).2.2.2.1]
    simp only [Nat.add_sub_cancel' h.1]
    have hz : (k0_pay6 (F := Ideal) (ix2 r l) : EReal) = 0 := by pointwise [k0_pay6]
    show (k0_pay6 (F := Ideal) (ix2 r l) : EReal) + _ = _
    rw [hz]
    simp only [zero_add]
    rfl
  · refine (canon_window _ _ _ (t.val % 32) (point_facts t).2.2.1 (point_facts t).2.2.2.1 _ _ r l).trans ?_
    rw [dif_neg h]
    pointwise [k0_pay6]

/-- The first point of a pair starts the sum of the values' gradients. -/
theorem sumA_v (R : Reals (X m c) (B m c)) (t : Fin cfg0.N) (h0 : t.val % 32 = 0) (h1 : ¬t.val % 32 = 31) :
    SumsTo (termV (X m c) (G m c) (B m c)) (t.val / 32) (t.val % 32) (outsAt0 m c t.val t.isLt).2.2.2.2.2.2.2 := by
  intro r l
  have hk := padA_k m c t h0 h1
  have hv := padA_v m c t h0 h1
  rw [outsAt0_A m c t h0 h1] at hk hv
  frame_out at hk
  frame_out at hv
  rw [outsAt0_A m c t h0 h1]; frame_out
  rw [(point_facts t).2.2.2.2]
  refine tile_step _ (t.val % 32) (256 * (t.val % 32) ≤ r ∧ (r : ℕ) < 256 * (t.val % 32) + 768) 0 _
    (fun n hn hr => termV_dead _ _ n _ hn hr) (by rw [h0]; simp) (fun h => ?_) (fun h => ?_)
  · refine (canon_window _ _ _ (t.val % 32) (point_facts t).2.2.1 (point_facts t).2.2.2.1 _ _ r l).trans ?_
    rw [dif_pos h]
    pointwise [k0_pay1]
    refine (gradV_block (reads m c R t _ _ hk hv _ (k0_off1_inb (grid0.coords t)) _ _) rfl rfl _ _ l).trans ?_
    rw [ld_window _ _ _ (t.val % 32) (Nat.mod_lt _ (by omega)) (point_facts t).2.2.1 (point_facts t).2.2.2.1]
    simp only [Nat.add_sub_cancel' h.1]
    have hz : (k0_pay7 (F := Ideal) (ix2 r l) : EReal) = 0 := by pointwise [k0_pay7]
    show (k0_pay7 (F := Ideal) (ix2 r l) : EReal) + _ = _
    rw [hz]
    simp only [zero_add]
    rfl
  · refine (canon_window _ _ _ (t.val % 32) (point_facts t).2.2.1 (point_facts t).2.2.2.1 _ _ r l).trans ?_
    rw [dif_neg h]
    pointwise [k0_pay7]

/-- A middle point of a pair keeps the padded keys. -/
theorem padB_k (t : Fin cfg0.N) (h0 : ¬t.val % 32 = 0) (h1 : ¬t.val % 32 = 31) :
    (outsAt0 m c t.val t.isLt).2.2.2.2.1 = (outsAt0 m c (t.val - 1) (by have := t.isLt; omega)).2.2.2.2.1 := by
  rw [outsAt0_B m c t h0 h1]
  rfl

/-- A middle point of a pair keeps the padded values. -/
theorem padB_v (t : Fin cfg0.N) (h0 : ¬t.val % 32 = 0) (h1 : ¬t.val % 32 = 31) :
    (outsAt0 m c t.val t.isLt).2.2.2.2.2.1 = (outsAt0 m c (t.val - 1) (by have := t.isLt; omega)).2.2.2.2.2.1 := by
  rw [outsAt0_B m c t h0 h1]
  rfl

/-- A middle point of a pair adds its rows to the sum of the keys' gradients. -/
theorem sumB_k (R : Reals (X m c) (B m c)) (t : Fin cfg0.N) (h0 : ¬t.val % 32 = 0) (h1 : ¬t.val % 32 = 31)
    (hk : Holds (X m c) (1024 + 128 * (t.val / 32)) (outsAt0 m c (t.val - 1) (by have := t.isLt; omega)).2.2.2.2.1)
    (hv : Holds (X m c) (2048 + 128 * (t.val / 32)) (outsAt0 m c (t.val - 1) (by have := t.isLt; omega)).2.2.2.2.2.1)
    (hs : ∀ r l, (outsAt0 m c (t.val - 1) (by have := t.isLt; omega)).2.2.2.2.2.2.1 (ix2 r l)
      = ∑ n ∈ Finset.range (256 * (t.val % 32)), termK (X m c) (G m c) (B m c) (128 * (t.val / 32) + l.val) r.val n) :
    SumsTo (termK (X m c) (G m c) (B m c)) (t.val / 32) (t.val % 32) (outsAt0 m c t.val t.isLt).2.2.2.2.2.2.1 := by
  intro r l
  rw [outsAt0_B m c t h0 h1]; frame_out
  rw [(point_facts t).2.2.2.2]
  simp only [read_unread_whole]
  refine tile_step _ (t.val % 32) (256 * (t.val % 32) ≤ r ∧ (r : ℕ) < 256 * (t.val % 32) + 768)
    ((outsAt0 m c (t.val - 1) (by have := t.isLt; omega)).2.2.2.2.2.2.1 (ix2 r l)) _
    (fun n hn hr => termK_dead _ _ n _ hn hr) (hs r l) (fun h => ?_) (fun h => ?_)
  · refine (read_window _ _ _ _ (t.val % 32) (point_facts t).2.2.1 (point_facts t).2.2.2.1 _ r l).trans ?_
    rw [dif_pos h]
    refine (gradK_block (reads m c R t _ _ hk hv _ (k0_off1_inb (grid0.coords t)) _ _) rfl rfl _ _ l).trans ?_
    rw [ld_window _ _ _ (t.val % 32) (Nat.mod_lt _ (by omega)) (point_facts t).2.2.1 (point_facts t).2.2.2.1]
    simp only [Nat.add_sub_cancel' h.1]
    rfl
  · refine (read_window _ _ _ _ (t.val % 32) (point_facts t).2.2.1 (point_facts t).2.2.2.1 _ r l).trans ?_
    rw [dif_neg h, read_unread_whole]

/-- A middle point of a pair adds its rows to the sum of the values' gradients. -/
theorem sumB_v (R : Reals (X m c) (B m c)) (t : Fin cfg0.N) (h0 : ¬t.val % 32 = 0) (h1 : ¬t.val % 32 = 31)
    (hk : Holds (X m c) (1024 + 128 * (t.val / 32)) (outsAt0 m c (t.val - 1) (by have := t.isLt; omega)).2.2.2.2.1)
    (hv : Holds (X m c) (2048 + 128 * (t.val / 32)) (outsAt0 m c (t.val - 1) (by have := t.isLt; omega)).2.2.2.2.2.1)
    (hs : ∀ r l, (outsAt0 m c (t.val - 1) (by have := t.isLt; omega)).2.2.2.2.2.2.2 (ix2 r l)
      = ∑ n ∈ Finset.range (256 * (t.val % 32)), termV (X m c) (G m c) (B m c) (128 * (t.val / 32) + l.val) r.val n) :
    SumsTo (termV (X m c) (G m c) (B m c)) (t.val / 32) (t.val % 32) (outsAt0 m c t.val t.isLt).2.2.2.2.2.2.2 := by
  intro r l
  rw [outsAt0_B m c t h0 h1]; frame_out
  rw [(point_facts t).2.2.2.2]
  simp only [read_unread_whole]
  refine tile_step _ (t.val % 32) (256 * (t.val % 32) ≤ r ∧ (r : ℕ) < 256 * (t.val % 32) + 768)
    ((outsAt0 m c (t.val - 1) (by have := t.isLt; omega)).2.2.2.2.2.2.2 (ix2 r l)) _
    (fun n hn hr => termV_dead _ _ n _ hn hr) (hs r l) (fun h => ?_) (fun h => ?_)
  · refine (read_window _ _ _ _ (t.val % 32) (point_facts t).2.2.1 (point_facts t).2.2.2.1 _ r l).trans ?_
    rw [dif_pos h]
    pointwise [k0_pay1]
    refine (gradV_block (reads m c R t _ _ hk hv _ (k0_off1_inb (grid0.coords t)) _ _) rfl rfl _ _ l).trans ?_
    rw [ld_window _ _ _ (t.val % 32) (Nat.mod_lt _ (by omega)) (point_facts t).2.2.1 (point_facts t).2.2.2.1]
    simp only [Nat.add_sub_cancel' h.1]
    rfl
  · refine (read_window _ _ _ _ (t.val % 32) (point_facts t).2.2.1 (point_facts t).2.2.2.1 _ r l).trans ?_
    rw [dif_neg h, read_unread_whole]

/-- The last point of a pair keeps the padded keys. -/
theorem padC_k (t : Fin cfg0.N) (h0 : ¬t.val % 32 = 0) (h1 : t.val % 32 = 31) :
    (outsAt0 m c t.val t.isLt).2.2.2.2.1 = (outsAt0 m c (t.val - 1) (by have := t.isLt; omega)).2.2.2.2.1 := by
  rw [outsAt0_C m c t h0 h1]
  rfl

/-- The last point of a pair keeps the padded values. -/
theorem padC_v (t : Fin cfg0.N) (h0 : ¬t.val % 32 = 0) (h1 : t.val % 32 = 31) :
    (outsAt0 m c t.val t.isLt).2.2.2.2.2.1 = (outsAt0 m c (t.val - 1) (by have := t.isLt; omega)).2.2.2.2.2.1 := by
  rw [outsAt0_C m c t h0 h1]
  rfl

/-- The last point of a pair adds its rows to the sum of the keys' gradients. -/
theorem sumC_k (R : Reals (X m c) (B m c)) (t : Fin cfg0.N) (h0 : ¬t.val % 32 = 0) (h1 : t.val % 32 = 31)
    (hk : Holds (X m c) (1024 + 128 * (t.val / 32)) (outsAt0 m c (t.val - 1) (by have := t.isLt; omega)).2.2.2.2.1)
    (hv : Holds (X m c) (2048 + 128 * (t.val / 32)) (outsAt0 m c (t.val - 1) (by have := t.isLt; omega)).2.2.2.2.2.1)
    (hs : ∀ r l, (outsAt0 m c (t.val - 1) (by have := t.isLt; omega)).2.2.2.2.2.2.1 (ix2 r l)
      = ∑ n ∈ Finset.range (256 * (t.val % 32)), termK (X m c) (G m c) (B m c) (128 * (t.val / 32) + l.val) r.val n) :
    SumsTo (termK (X m c) (G m c) (B m c)) (t.val / 32) (t.val % 32) (outsAt0 m c t.val t.isLt).2.2.2.2.2.2.1 := by
  intro r l
  rw [outsAt0_C m c t h0 h1]; frame_out
  rw [(point_facts t).2.2.2.2]
  simp only [read_unread_whole]
  refine tile_step _ (t.val % 32) (256 * (t.val % 32) ≤ r ∧ (r : ℕ) < 256 * (t.val % 32) + 768)
    ((outsAt0 m c (t.val - 1) (by have := t.isLt; omega)).2.2.2.2.2.2.1 (ix2 r l)) _
    (fun n hn hr => termK_dead _ _ n _ hn hr) (hs r l) (fun h => ?_) (fun h => ?_)
  · refine (read_window _ _ _ _ (t.val % 32) (point_facts t).2.2.1 (point_facts t).2.2.2.1 _ r l).trans ?_
    rw [dif_pos h]
    refine (gradK_block (reads m c R t _ _ hk hv _ (k0_off1_inb (grid0.coords t)) _ _) rfl rfl _ _ l).trans ?_
    rw [ld_window _ _ _ (t.val % 32) (Nat.mod_lt _ (by omega)) (point_facts t).2.2.1 (point_facts t).2.2.2.1]
    simp only [Nat.add_sub_cancel' h.1]
    rfl
  · refine (read_window _ _ _ _ (t.val % 32) (point_facts t).2.2.1 (point_facts t).2.2.2.1 _ r l).trans ?_
    rw [dif_neg h, read_unread_whole]

/-- The last point of a pair adds its rows to the sum of the values' gradients. -/
theorem sumC_v (R : Reals (X m c) (B m c)) (t : Fin cfg0.N) (h0 : ¬t.val % 32 = 0) (h1 : t.val % 32 = 31)
    (hk : Holds (X m c) (1024 + 128 * (t.val / 32)) (outsAt0 m c (t.val - 1) (by have := t.isLt; omega)).2.2.2.2.1)
    (hv : Holds (X m c) (2048 + 128 * (t.val / 32)) (outsAt0 m c (t.val - 1) (by have := t.isLt; omega)).2.2.2.2.2.1)
    (hs : ∀ r l, (outsAt0 m c (t.val - 1) (by have := t.isLt; omega)).2.2.2.2.2.2.2 (ix2 r l)
      = ∑ n ∈ Finset.range (256 * (t.val % 32)), termV (X m c) (G m c) (B m c) (128 * (t.val / 32) + l.val) r.val n) :
    SumsTo (termV (X m c) (G m c) (B m c)) (t.val / 32) (t.val % 32) (outsAt0 m c t.val t.isLt).2.2.2.2.2.2.2 := by
  intro r l
  rw [outsAt0_C m c t h0 h1]; frame_out
  rw [(point_facts t).2.2.2.2]
  simp only [read_unread_whole]
  refine tile_step _ (t.val % 32) (256 * (t.val % 32) ≤ r ∧ (r : ℕ) < 256 * (t.val % 32) + 768)
    ((outsAt0 m c (t.val - 1) (by have := t.isLt; omega)).2.2.2.2.2.2.2 (ix2 r l)) _
    (fun n hn hr => termV_dead _ _ n _ hn hr) (hs r l) (fun h => ?_) (fun h => ?_)
  · refine (read_window _ _ _ _ (t.val % 32) (point_facts t).2.2.1 (point_facts t).2.2.2.1 _ r l).trans ?_
    rw [dif_pos h]
    pointwise [k0_pay1]
    refine (gradV_block (reads m c R t _ _ hk hv _ (k0_off1_inb (grid0.coords t)) _ _) rfl rfl _ _ l).trans ?_
    rw [ld_window _ _ _ (t.val % 32) (Nat.mod_lt _ (by omega)) (point_facts t).2.2.1 (point_facts t).2.2.2.1]
    simp only [Nat.add_sub_cancel' h.1]
    rfl
  · refine (read_window _ _ _ _ (t.val % 32) (point_facts t).2.2.1 (point_facts t).2.2.2.1 _ r l).trans ?_
    rw [dif_neg h, read_unread_whole]

end Cert.KernelIdeal.Point
-- ==== Proof.Outs.lean ====
/-
  What the kernel's scratch buffers hold after every grid point, and the blocks of its three results.
-/
module

public import proofs.«01_k».proof.Proof.Sums

@[expose] public section
set_option maxRecDepth 16384
noncomputable section
open Idealize.ShloMosaic Idealize.ShloMosaic.TcCoe Idealize.SL.Sem
namespace Cert.KernelIdeal.Point
open Cert.KernelIdeal Cert.KernelIdeal.Gen Cert.KernelIdeal.Block Cert.Attn

variable (m : (ℓ : Loc nD τ sig) → Buf (Elt Ideal) ℓ) (c : Dev nD)

/-- After every point the two padded buffers hold the pair's keys and values, and the two sums have taken in the query
    tiles up to the point's own. -/
theorem state (R : Reals (X m c) (B m c)) : ∀ (n : ℕ) (h : n < cfg0.N),
    Holds (X m c) (1024 + 128 * (n / 32)) (outsAt0 m c n h).2.2.2.2.1
    ∧ Holds (X m c) (2048 + 128 * (n / 32)) (outsAt0 m c n h).2.2.2.2.2.1
    ∧ SumsTo (termK (X m c) (G m c) (B m c)) (n / 32) (n % 32) (outsAt0 m c n h).2.2.2.2.2.2.1
    ∧ SumsTo (termV (X m c) (G m c) (B m c)) (n / 32) (n % 32) (outsAt0 m c n h).2.2.2.2.2.2.2 := by
  intro n
  induction n with
  | zero =>
    intro h
    exact ⟨padA_k m c ⟨0, h⟩ rfl (by simp), padA_v m c ⟨0, h⟩ rfl (by simp), sumA_k m c R ⟨0, h⟩ rfl (by simp),
      sumA_v m c R ⟨0, h⟩ rfl (by simp)⟩
  | succ n ih =>
    intro h
    by_cases h0 : (n + 1) % 32 = 0
    · have h1 : ¬(n + 1) % 32 = 31 := by omega
      exact ⟨padA_k m c ⟨n + 1, h⟩ h0 h1, padA_v m c ⟨n + 1, h⟩ h0 h1, sumA_k m c R ⟨n + 1, h⟩ h0 h1,
        sumA_v m c R ⟨n + 1, h⟩ h0 h1⟩
    · obtain ⟨hk, hv, hsk, hsv⟩ := ih (by omega)
      have e1 : n / 32 = (n + 1) / 32 := by omega
      have e2 : n % 32 + 1 = (n + 1) % 32 := by omega
      rw [e1] at hk hv
      unfold SumsTo at hsk hsv
      rw [e1, e2] at hsk hsv
      by_cases h1 : (n + 1) % 32 = 31
      · exact ⟨(padC_k m c ⟨n + 1, h⟩ h0 h1).symm ▸ hk, (padC_v m c ⟨n + 1, h⟩ h0 h1).symm ▸ hv,
          sumC_k m c R ⟨n + 1, h⟩ h0 h1 hk hv hsk, sumC_v m c R ⟨n + 1, h⟩ h0 h1 hk hv hsv⟩
      · exact ⟨(padB_k m c ⟨n + 1, h⟩ h0 h1).symm ▸ hk, (padB_v m c ⟨n + 1, h⟩ h0 h1).symm ▸ hv,
          sumB_k m c R ⟨n + 1, h⟩ h0 h1 hk hv hsk, sumB_v m c R ⟨n + 1, h⟩ h0 h1 hk hv hsv⟩

/-- The block of query gradients of the first point of a pair. -/
theorem outQ_A (R : Reals (X m c) (B m c)) (t : Fin cfg0.N) (h0 : t.val % 32 = 0) (q : Fin 256) (l : Fin 128) :
    (outsAt0 m c t.val t.isLt).1 (ix2 q l)
      = gradQ (X m c) (G m c) (B m c) (256 * (t.val % 32) + q) (128 * (t.val / 32) + l) := by
  have h1 : ¬t.val % 32 = 31 := by omega
  have hk := padA_k m c t h0 h1
  have hv := padA_v m c t h0 h1
  rw [outsAt0_A m c t h0 h1] at hk hv
  frame_out at hk
  frame_out at hv
  rw [outsAt0_A m c t h0 h1]; frame_out
  rw [(point_facts t).2.2.2.2]
  exact gradQ_block (reads m c R t _ _ hk hv (k0_off1_inb (grid0.coords t)) (k0_off1_inb (grid0.coords t)) _ _) rfl rfl q l

/-- The block of query gradients of a later point of a pair. -/
theorem outQ_B (R : Reals (X m c) (B m c)) (t : Fin cfg0.N) (h0 : ¬t.val % 32 = 0) (q : Fin 256) (l : Fin 128) :
    (outsAt0 m c t.val t.isLt).1 (ix2 q l)
      = gradQ (X m c) (G m c) (B m c) (256 * (t.val % 32) + q) (128 * (t.val / 32) + l) := by
  obtain ⟨hk, hv, -, -⟩ := state m c R (t.val - 1) (by have := t.isLt; omega)
  have e1 : (t.val - 1) / 32 = t.val / 32 := by omega
  rw [e1] at hk hv
  by_cases h1 : t.val % 32 = 31
  · rw [outsAt0_C m c t h0 h1]; frame_out
    rw [(point_facts t).2.2.2.2]
    simp only [read_unread_whole]
    exact gradQ_block (reads m c R t _ _ hk hv (k0_off1_inb (grid0.coords t)) (k0_off1_inb (grid0.coords t)) _ _) rfl rfl q l
  · rw [outsAt0_B m c t h0 h1]; frame_out
    rw [(point_facts t).2.2.2.2]
    simp only [read_unread_whole]
    exact gradQ_block (reads m c R t _ _ hk hv (k0_off1_inb (grid0.coords t)) (k0_off1_inb (grid0.coords t)) _ _) rfl rfl q l

/-- The block of query gradients of every point. -/
theorem outQ (R : Reals (X m c) (B m c)) (t : Fin cfg0.N) (q : Fin 256) (l : Fin 128) :
    (outsAt0 m c t.val t.isLt).1 (ix2 q l)
      = gradQ (X m c) (G m c) (B m c) (256 * (t.val % 32) + q) (128 * (t.val / 32) + l) := by
  by_cases h0 : t.val % 32 = 0
  · exact outQ_A m c R t h0 q l
  · exact outQ_B m c R t h0 q l

/-- Reading a padded buffer from its row 512 on. -/
theorem ld_tail {e : EltTy} (P : Vec Ideal S8704x128 e)
    (inb : ∀ a : Fin S8704x128.rank, (![512, 0] : Fin 2 → ℕ) a + (![8192, 128] : Fin 2 → ℕ) a ≤ S8704x128.size a)
    (s : Fin 8192) (l : Fin 128) :
    View.ld P (Rect.unit (s := S8704x128) ![512, 0] ![8192, 128] inb) (ix2 s l)
      = P (ix2 ⟨s.val + 512, by omega⟩ l) := by
  refine View.ld_unit_apply_of P _ _ inb (ix2 s l) _ fun a => ?_
  match a with
  | ⟨0, _⟩ => exact Nat.add_comm _ _
  | ⟨1, _⟩ => exact (Nat.zero_add _).symm

/-- The block of key gradients of the last point of a pair. -/
theorem outK (R : Reals (X m c) (B m c)) (t : Fin cfg0.N) (h1 : t.val % 32 = 31) (s : Fin 8192) (l : Fin 128) :
    (outsAt0 m c t.val t.isLt).2.1 (ix2 s l) = gradK (X m c) (G m c) (B m c) s (128 * (t.val / 32) + l) := by
  have h0 : ¬t.val % 32 = 0 := by omega
  obtain ⟨-, -, hk, -⟩ := state m c R t.val t.isLt
  have h := hk ⟨s.val + 512, by omega⟩ l
  rw [h1] at h
  refine Eq.trans ?_ h
  rw [outsAt0_C m c t h0 h1]; frame_out
  exact ld_tail _ _ s l

/-- The block of value gradients of the last point of a pair. -/
theorem outV (R : Reals (X m c) (B m c)) (t : Fin cfg0.N) (h1 : t.val % 32 = 31) (s : Fin 8192) (l : Fin 128) :
    (outsAt0 m c t.val t.isLt).2.2.1 (ix2 s l) = gradV (X m c) (G m c) (B m c) s (128 * (t.val / 32) + l) := by
  have h0 : ¬t.val % 32 = 0 := by omega
  obtain ⟨-, -, -, hv⟩ := state m c R t.val t.isLt
  have h := hv ⟨s.val + 512, by omega⟩ l
  rw [h1] at h
  refine Eq.trans ?_ h
  rw [outsAt0_C m c t h0 h1]; frame_out
  exact ld_tail _ _ s l

end Cert.KernelIdeal.Point
-- ==== Proof.Arrays.lean ====
/-
  The kernel's three result arrays, entry by entry.
-/
module

public import proofs.«01_k».proof.Proof.Outs
public import proofs.«01_k».proof.Proof.Gen.KernelIdeal.Value

@[expose] public section
set_option maxRecDepth 16384
noncomputable section
open Idealize.ShloMosaic Idealize.ShloMosaic.TcCoe Idealize.SL.Sem
namespace Cert.KernelIdeal.Point
open Cert.KernelIdeal Cert.KernelIdeal.Gen Cert.KernelIdeal.Value Cert.Attn

variable (m : (ℓ : Loc nD τ sig) → Buf (Elt Ideal) ℓ) (c : Dev nD)

/-- The array of query gradients. -/
theorem array_q (R : Reals (X m c) (B m c)) (n : Fin 8192) (a : Fin 1024) :
    G5 m c (ix2 n a) = gradQ (X m c) (G m c) (B m c) n a := by
  have hN : cfg0.N = 256 := N_0
  have hp : pt5Of (ix2 n a) = n.val / 256 + 32 * (a.val / 128) := by
    show 1 * (n.val / 256 - 0) + 32 * (a.val / 128 - 0) = _
    omega
  have hl : loc5Of (ix2 n a) = ix2 ⟨n.val % 256, Nat.mod_lt _ (by decide)⟩ ⟨a.val % 128, Nat.mod_lt _ (by decide)⟩ := by
    funext x
    match x with
    | ⟨0, _⟩ => rfl
    | ⟨1, _⟩ => rfl
  have hb : pt5Of (ix2 n a) < cfg0.N := by rw [hp]; omega
  refine (dif_pos hb).trans ?_
  rw [← outsAt0_sweep m c _ hb, hl]
  refine (outQ m c R ⟨pt5Of (ix2 n a), hb⟩ _ _).trans ?_
  show gradQ _ _ _ (256 * (pt5Of (ix2 n a) % 32) + n.val % 256) (128 * (pt5Of (ix2 n a) / 32) + a.val % 128) = _
  rw [hp]
  congr 1 <;> omega

/-- The array of key gradients. -/
theorem array_k (R : Reals (X m c) (B m c)) (s : Fin 8192) (a : Fin 1024) :
    G6 m c (ix2 s a) = gradK (X m c) (G m c) (B m c) s a := by
  have hN : cfg0.N = 256 := N_0
  have hp : pt6Of (ix2 s a) = 32 * (a.val / 128) + 31 := by
    show 32 * (8 * (s.val / 8192 - 0) + 1 * (a.val / 128 - 0)) + 31 = _
    omega
  have hl : loc6Of (ix2 s a) = ix2 s ⟨a.val % 128, Nat.mod_lt _ (by decide)⟩ := by
    funext x
    match x with
    | ⟨0, _⟩ => exact Fin.ext (Nat.mod_eq_of_lt s.isLt)
    | ⟨1, _⟩ => rfl
  have hb : pt6Of (ix2 s a) < cfg0.N := by rw [hp]; omega
  refine (dif_pos hb).trans ?_
  rw [← outsAt0_sweep m c _ hb, hl]
  refine (outK m c R ⟨pt6Of (ix2 s a), hb⟩ (by show pt6Of (ix2 s a) % 32 = 31; rw [hp]; omega) _ _).trans ?_
  show gradK _ _ _ s.val (128 * (pt6Of (ix2 s a) / 32) + a.val % 128) = _
  rw [hp]
  congr 1; omega

/-- The array of value gradients. -/
theorem array_v (R : Reals (X m c) (B m c)) (s : Fin 8192) (a : Fin 1024) :
    G7 m c (ix2 s a) = gradV (X m c) (G m c) (B m c) s a := by
  have hN : cfg0.N = 256 := N_0
  have hp : pt7Of (ix2 s a) = 32 * (a.val / 128) + 31 := by
    show 32 * (8 * (s.val / 8192 - 0) + 1 * (a.val / 128 - 0)) + 31 = _
    omega
  have hl : loc7Of (ix2 s a) = ix2 s ⟨a.val % 128, Nat.mod_lt _ (by decide)⟩ := by
    funext x
    match x with
    | ⟨0, _⟩ => exact Fin.ext (Nat.mod_eq_of_lt s.isLt)
    | ⟨1, _⟩ => rfl
  have hb : pt7Of (ix2 s a) < cfg0.N := by rw [hp]; omega
  refine (dif_pos hb).trans ?_
  rw [← outsAt0_sweep m c _ hb, hl]
  refine (outV m c R ⟨pt7Of (ix2 s a), hb⟩ (by show pt7Of (ix2 s a) % 32 = 31; rw [hp]; omega) _ _).trans ?_
  show gradV _ _ _ s.val (128 * (pt7Of (ix2 s a) / 32) + a.val % 128) = _
  rw [hp]
  congr 1; omega

end Cert.KernelIdeal.Point
-- ==== Proof.RefReads.lean ====
/-
  The reference's inputs as it cuts them: the queries by chunk and head, the keys and values with 512 rows of zeros in
  front and in bands of nine chunks, and the incoming gradient.
-/
module

public import proofs.«01_k».proof.Proof.Spec
public import proofs.«01_k».proof.Proof.Gen.ReferenceIdeal.Run

@[expose] public section
set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Attn

variable (V0 : Valuation τ sig (Elt Ideal))

/-- The reference's first argument as a function of two numbers. -/
def X : ℕ → ℕ → EReal := nat2 (V0 (Proc.devRef .tc main_arg0) : S8192x4096.Idx → EReal)
/-- The second. -/
def G : ℕ → ℕ → EReal := nat2 (V0 (Proc.devRef .tc main_arg1) : S8192x1024.Idx → EReal)
/-- The third. -/
def B : ℕ → ℕ → EReal := nat2 (V0 (Proc.devRef .tc main_arg2) : S16x257.Idx → EReal)

/-- An entry of an array of two axes, its two coordinates known as numbers. -/
theorem nat2_at {a b : ℕ} (A : (⟨2, ![a, b]⟩ : Shape).Idx → EReal) (i : Fin a) (j : Fin b) (n k : ℕ) (hn : i.val = n)
    (hk : j.val = k) : A (ix2 i j) = nat2 A n k := by
  subst hn hk
  exact nat2_apply A i j

/-- A padded array, its row and column known as numbers. -/
theorem padded_at (A : ℕ → ℕ → EReal) {t t' k k' : ℕ} (ht : t = t') (hk : k = k') : padded A t k = padded A t' k' := by
  rw [ht, hk]

/-- The queries. -/
theorem query (c : Fin 128) (p : Fin 64) (h : Fin 16) (d : Fin 64) :
    (res_main_v32 V0 (ix4 c p h d) : EReal) = X V0 (64 * c + p) (64 * h + d) := by
  pointwise [res_main_v32]
  exact nat2_at _ _ _ _ _ (by show c.val * 64 + p = _; omega) (by show h.val * 64 + d = _; omega)

/-- The incoming gradient. -/
theorem grad (c : Fin 128) (h : Fin 16) (d : Fin 64) (p : Fin 64) :
    (res_main_v108 V0 (ix4 c h d p) : EReal) = G V0 (64 * c + p) (64 * h + d) := by
  pointwise [res_main_v108]
  exact nat2_at _ _ _ _ _ (by show c.val * 64 + p = _; omega) (by show h.val * 64 + d = _; omega)

/-- The padded keys. -/
theorem key (c : Fin 136) (p : Fin 64) (h : Fin 16) (d : Fin 64) :
    (res_main_v33 V0 (ix4 c p h d) : EReal) = padded (X V0) (64 * c + p) (1024 + 64 * h + d) := by
  pointwise [res_main_v33]
  by_cases hp : c.val * 64 + p.val < 512
  · exact (dif_pos hp).trans (if_pos (by omega)).symm
  · refine (dif_neg hp).trans (Eq.trans ?_ (if_neg (by omega)).symm)
    exact nat2_at _ _ _ (64 * c.val + p.val - 512) (1024 + 64 * h.val + d.val) (by simp only; omega) (by simp only; omega)

/-- The bands of keys. -/
theorem key_band (c : Fin 128) (w : Fin 576) (h : Fin 16) (d : Fin 64) :
    (res_main_v43 V0 (ix4 c w h d) : EReal) = padded (X V0) (64 * c + w) (1024 + 64 * h + d) := by
  pointwise [res_main_v43]
  have hw := w.isLt
  split_ifs <;> exact (key V0 _ _ h d).trans (padded_at _ (by first | rfl | (simp only; omega)) rfl)

/-- The padded values. -/
theorem value (c : Fin 136) (p : Fin 64) (h : Fin 16) (d : Fin 64) :
    (res_main_v44 V0 (ix4 c p h d) : EReal) = padded (X V0) (64 * c + p) (2048 + 64 * h + d) := by
  pointwise [res_main_v44]
  by_cases hp : c.val * 64 + p.val < 512
  · exact (dif_pos hp).trans (if_pos (by omega)).symm
  · refine (dif_neg hp).trans (Eq.trans ?_ (if_neg (by omega)).symm)
    exact nat2_at _ _ _ (64 * c.val + p.val - 512) (2048 + 64 * h.val + d.val) (by simp only; omega) (by simp only; omega)

/-- The bands of values. -/
theorem value_band (c : Fin 128) (w : Fin 576) (h : Fin 16) (d : Fin 64) :
    (res_main_v54 V0 (ix4 c w h d) : EReal) = padded (X V0) (64 * c + w) (2048 + 64 * h + d) := by
  pointwise [res_main_v54]
  have hw := w.isLt
  split_ifs <;> exact (value V0 _ _ h d).trans (padded_at _ (by first | rfl | (simp only; omega)) rfl)

end Cert.ReferenceIdeal.Read
-- ==== Proof.RefScores.lean ====
/-
  The reference's masked scores, entry by entry.
-/
module

public import proofs.«01_k».proof.Proof.RefReads
public import proofs.«01_k».proof.Proof.Bias

@[expose] public section
set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Attn

variable (V0 : Valuation τ sig (Elt Ideal))

/-- Two sums of products with equal factors. -/
theorem sum_mul_eq {N : ℕ} (f g f' g' : Fin N → EReal) (hf : ∀ d, f d = f' d) (hg : ∀ d, g d = g' d) :
    ∑ d, f d * g d = ∑ d, f' d * g' d :=
  Finset.sum_congr rfl fun d _ => by rw [hf d, hg d]

/-- The test of a band's place: it is not in the rows in front of the array. -/
theorem valid_word (c w : ℕ) (hc : c < 128) (hw : w < 576) :
    IntOp.cmpi CmpIPredicate.sge
      (IntOp.addi (IntOp.subi (IntOp.muli (BitVec.ofNat 32 c) 64#32) 512#32) (BitVec.ofNat 32 w)) 0#32
      = if 512 ≤ 64 * c + w then 1#1 else 0#1 := by
  have e : IntOp.addi (IntOp.subi (IntOp.muli (BitVec.ofNat 32 c) 64#32) 512#32) (BitVec.ofNat 32 w)
      = BitVec.ofInt 32 ((64 * c + w : ℕ) - 512 : ℤ) := by
    apply BitVec.eq_of_toNat_eq
    simp only [IntOp.addi, IntOp.subi, IntOp.muli, BitVec.toNat_add, BitVec.toNat_sub, BitVec.toNat_mul, BitVec.toNat_ofNat,
      BitVec.toNat_ofInt]
    omega
  have t : (BitVec.ofInt 32 ((64 * c + w : ℕ) - 512 : ℤ)).toInt = (64 * c + w : ℕ) - 512 := by
    rw [BitVec.toInt_ofInt, Int.bmod_def]
    omega
  rw [e]
  show BitVec.ofBool (BitVec.sle 0#32 _) = _
  rw [BitVec.sle, t]
  by_cases h : 512 ≤ 64 * c + w
  · rw [if_pos h, decide_eq_true (by simp; omega)]; rfl
  · rw [if_neg h, decide_eq_false (by simp; omega)]; rfl

/-- The mask. -/
theorem valid (c : Fin 128) (h : Fin 16) (p : Fin 64) (w : Fin 576) :
    (res_main_v75_1 V0 (ix4 c h p w) : BitVec 1) = if 512 ≤ 64 * c.val + w then 1#1 else 0#1 := by
  pointwise [res_main_v75_1]
  exact valid_word c w c.isLt w.isLt

/-- The clipped distance of a place of the band from a query's place. -/
theorem clip_word (p w : ℕ) (hp : p < 64) (hw : w < 576) :
    IntOp.addi (IntOp.minsi 128#32 (IntOp.maxsi 4294967168#32
      (IntOp.addi (IntOp.subi (BitVec.ofNat 32 p) (BitVec.ofNat 32 w)) 512#32))) 128#32
      = BitVec.ofNat 32 (min (p + 640 - w) 256) := by
  have key : ∀ d : Fin 640, IntOp.addi (IntOp.minsi 128#32 (IntOp.maxsi 4294967168#32
      (IntOp.subi (BitVec.ofNat 32 d) 63#32))) 128#32 = BitVec.ofNat 32 (min (d + 65) 256) := by decide +kernel
  have e : IntOp.addi (IntOp.subi (BitVec.ofNat 32 p) (BitVec.ofNat 32 w)) 512#32
      = IntOp.subi (BitVec.ofNat 32 (p + 575 - w)) 63#32 := by
    apply BitVec.eq_of_toNat_eq
    simp only [IntOp.addi, IntOp.subi, BitVec.toNat_add, BitVec.toNat_sub, BitVec.toNat_ofNat]
    omega
  have k := key ⟨p + 575 - w, by omega⟩
  rw [e]
  refine k.trans (congrArg (BitVec.ofNat 32) ?_)
  simp only
  omega

/-- The words of the clipped distances. -/
theorem rel_word (p : Fin 64) (w : Fin 576) :
    (res_main_v24 V0 (ix2 p w) : BitVec 32) = BitVec.ofNat 32 (min (p + 640 - w) 256) := by
  pointwise [res_main_v24]
  exact clip_word p w p.isLt w.isLt

/-- The reference's gather of the biases, at an index. -/
theorem gather_bias (x : (⟨2, ![16, 257]⟩ : Shape).Idx → EReal) (idx : IVec ⟨3, ![64, 576, 1]⟩ 32) (h : Fin 16)
    (p : Fin 64) (w : Fin 576) :
    Host.gather gather_S16x257_S64x576x1_S16x64x576_0_1_n_n_1_2_161 x idx (ix3 h p w)
      = x (ix2 h ⟨min (idx (ix3 p w 0)).toInt.toNat 256, by omega⟩) := by
  unfold Host.gather
  congr 1
  funext a
  refine Fin.ext ?_
  have ha : a = 0 ∨ a = 1 := by
    match a with
    | ⟨0, _⟩ => exact Or.inl rfl
    | ⟨1, _⟩ => exact Or.inr rfl
  show (gather_S16x257_S64x576x1_S16x64x576_0_1_n_n_1_2_161).start (ix3 h p w) idx a
      + (gather_S16x257_S64x576x1_S16x64x576_0_1_n_n_1_2_161).batchCoord (ix3 h p w) a
      + (gather_S16x257_S64x576x1_S16x64x576_0_1_n_n_1_2_161).offCoord (ix3 h p w) a = _
  rw [GatherDims.batchCoord_eq_zero _ _ _ List.not_mem_nil]
  rcases ha with rfl | rfl
  · unfold GatherDims.start
    rw [dif_neg (by decide)]
    unfold GatherDims.offCoord
    rw [dif_pos (by decide)]
    simp
  · rw [GatherDims.offCoord_eq_zero _ _ _ (by decide)]
    unfold GatherDims.start
    rw [dif_pos (by decide)]
    simp only [Nat.add_zero]
    have hsi : (gather_S16x257_S64x576x1_S16x64x576_0_1_n_n_1_2_161).siIdx (ix3 h p w)
        ⟨List.idxOf (1 : Fin 2) (gather_S16x257_S64x576x1_S16x64x576_0_1_n_n_1_2_161).startIndexMap,
          List.idxOf_lt_length_iff.2 (by decide)⟩ = ix3 p w 0 := by
      funext b; refine Fin.ext ?_
      match b with
      | ⟨0, _⟩ => rfl
      | ⟨1, _⟩ => rfl
      | ⟨2, _⟩ => rfl
    rw [hsi]
    rfl

/-- The bias of a query's place and a place of the band. -/
theorem bias (h : Fin 16) (p : Fin 64) (w : Fin 576) :
    (Host.gather gather_S16x257_S64x576x1_S16x64x576_0_1_n_n_1_2_161 (V0 (Proc.devRef .tc main_arg2) : S16x257.Idx → EReal)
          (broadcastInDim S64x576x1 ![0, 1] bcast_S64x576_S64x576x1_0_1
            (select
              (cmpi CmpIPredicate.slt (res_main_v24 V0)
                (broadcastInDim S64x576 ![] bcast_S_S64x576 (constantI S_ 32 0#32)))
              (addi (res_main_v24 V0) (broadcastInDim S64x576 ![] bcast_S_S64x576 (constantI S_ 32 257#32)))
              (res_main_v24 V0)))
          (ix3 h p w) : EReal) = B V0 h (min (p + 640 - w) 256) := by
  refine (gather_bias _ _ h p w).trans ?_
  refine Cert.KernelIdeal.Bias.entry _ h _ (min (p + 640 - w) 256) (by omega) ?_ _
  pointwise
  exact Cert.KernelIdeal.Bias.wrap_word _ _ (by omega) (rel_word V0 p w)

/-- The masked scores. -/
theorem scores (c : Fin 128) (h : Fin 16) (p : Fin 64) (w : Fin 576) :
    (res_main_v75_0 V0 (ix4 c h p w) : EReal) = score (X V0) (B V0) h (64 * c + p) (64 * c + w) := by
  pointwise [res_main_v75_0]
  rw [valid V0 c h p w, bias V0 h p w, score]
  have hp := p.isLt
  have hw := w.isLt
  by_cases hl : 512 ≤ 64 * c.val + w
  · rw [if_pos hl, if_pos (by unfold Live; omega)]
    have e2 : min (p.val + 640 - w) 256 = rel (64 * c + p) (64 * c + w) := by unfold rel; omega
    rw [e2]
    exact congrArg (fun a : EReal => a * scale + B V0 h (rel (64 * c + p) (64 * c + w)))
      (sum_mul_eq _ _ _ _ (fun d => query V0 c p h d) (fun d => key_band V0 c w h d))
  · rw [if_neg hl, if_neg (by unfold Live; omega)]
    exact ofBits_neg_inf

end Cert.ReferenceIdeal.Read
-- ==== Proof.RefRows.lean ====
/-
  The reference's rows: the maximum, the exponentials, the softmax, and the gradient of the scores.
-/
module

public import proofs.«01_k».proof.Proof.RefScores

@[expose] public section
set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Attn

variable (V0 : Valuation τ sig (Elt Ideal))

/-- A key out of the band of a query's chunk is masked. -/
theorem out_of_band (c p t : ℕ) (hp : p < 64) (ht : t < 64 * c ∨ 64 * c + 576 ≤ t) : ¬ Live (64 * c + p) t := by
  unfold Live
  omega

/-- The maximum of a row of the scores. -/
theorem row_max (c : Fin 128) (h : Fin 16) (p : Fin 64) :
    (res_main_v76 V0 (ix3 c h p) : EReal) = (Finset.range 8704).sup (score (X V0) (B V0) h (64 * c + p)) := by
  pointwise [res_main_v76]
  refine (Shape.ReducesTo.fold_fiber_r4_a3 reducesTo_S128x16x64x576_S128x16x64_d3 (ix3 c h p) max
    (Ideal.ofBits .f32 0xFF800000#32 : EReal) (res_main_v75_0 V0)).trans ?_
  have e : (fun k : Fin 576 => (res_main_v75_0 V0 (ix4 c h p k) : EReal))
      = fun k : Fin 576 => score (X V0) (B V0) h (64 * c + p) (64 * c + (k : ℕ)) := funext fun k => scores V0 c h p k
  refine Eq.trans ?_ (fold_max_window (score (X V0) (B V0) h (64 * c + p)) (64 * c) 576 8704 (by omega)
    fun t ht => score_dead (out_of_band c p t p.isLt ht))
  rw [← ofBits_neg_inf]
  exact congrArg (fun f => Finset.fold max (Ideal.ofBits .f32 0xFF800000#32) f Finset.univ) e

/-- A value of every row, spread over the row's columns. -/
theorem spread (v : S128x16x64x1.Idx → EReal) (c : Fin 128) (h : Fin 16) (p : Fin 64) (w : Fin 576) :
    broadcastInDim S128x16x64x576 ![0, 1, 2, 3] bcast_S128x16x64x1_S128x16x64x576_0_1_2_3 v (ix4 c h p w) = v (ix4 c h p 0) := by
  pointwise

/-- A row's value as a column. -/
theorem spread0 (v : S128x16x64.Idx → EReal) (c : Fin 128) (h : Fin 16) (p : Fin 64) (w : Fin 1) :
    broadcastInDim S128x16x64x1 ![0, 1, 2] bcast_S128x16x64_S128x16x64x1_0_1_2 v (ix4 c h p w) = v (ix3 c h p) := by
  pointwise

/-- The exponential of a difference, at an index. -/
theorem exp_at (a b : FVec Idealize.ShloMosaic.Ideal S128x16x64x576 .f32) (i : S128x16x64x576.Idx) :
  Host.exp (subf a b) i = Ideal.exp ((a i : EReal) - (b i : EReal)) := rfl

/-- The maximum with the constant, at an index. -/
theorem max_at (a : FVec Idealize.ShloMosaic.Ideal S128x16x64 .f32) (i : S128x16x64.Idx) :
  maximumf (broadcastInDim S128x16x64 ![] bcast_S_S128x16x64 (constant S_ .f32 0xFF800000#32)) a i = max (Ideal.ofBits .f32 0xFF800000#32) (a i : EReal) := rfl

/-- An exponential, from its two arguments. -/
theorem exp_step (s m b S M : EReal) (hs : s = S) (hm : m = max b M) (hb : b = ⊥) :
    Ideal.exp (s - m) = Ideal.exp (S - M) := by
  rw [hs, hm, hb, max_eq_right bot_le]

/-- The exponentials of a row. -/
theorem exps (c : Fin 128) (h : Fin 16) (p : Fin 64) (w : Fin 576) :
    (res_main_v96 V0 (ix4 c h p w) : EReal) = expo 8704 (score (X V0) (B V0) h (64 * c + p)) (64 * c + w) := by
  unfold res_main_v96
  refine (exp_at _ _ _).trans (exp_step _ _ _ _ _ (scores V0 c h p w) ?_ ofBits_neg_inf)
  refine (spread _ c h p w).trans ((spread0 _ c h p 0).trans ((max_at _ _).trans ?_))
  exact congrArg (max (Ideal.ofBits .f32 0xFF800000#32 : EReal)) (row_max V0 c h p)

/-- A sum over a window, from its terms. -/
theorem sum_step (f : ℕ → EReal) {L : ℕ} (g : Fin L → EReal) (a L' N : ℕ) (h : a + L' ≤ N) (hL : L = L')
    (hg : ∀ k : Fin L, g k = f (a + k)) (hz : ∀ t, t < a ∨ a + L' ≤ t → f t = 0) : ∑ k, g k = ∑ t ∈ Finset.range N, f t := by
  subst hL
  rw [Finset.sum_congr rfl fun k _ => hg k]
  exact sum_window f a L N h hz

/-- The sum of a row's exponentials. -/
theorem row_total (c : Fin 128) (h : Fin 16) (p : Fin 64) (z : Fin 1) :
    (res_main_v98 V0 (ix4 c h p z) : EReal) = total 8704 (score (X V0) (B V0) h (64 * c + p)) := by
  pointwise [res_main_v98]
  exact sum_step _ _ (64 * c) 576 8704 (by omega) rfl (fun x => exps V0 c h p x)
    fun t ht => expo_bot (score_dead (out_of_band c p t p.isLt ht))

end Cert.ReferenceIdeal.Read
-- ==== Proof.RefGrads.lean ====
/-
  The reference's softmax and the gradients of its weights and scores.
-/
module

public import proofs.«01_k».proof.Proof.RefRows

@[expose] public section
set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Attn

variable (V0 : Valuation τ sig (Elt Ideal))

/-- A quotient of vectors, at an index. -/
theorem div_at (a b : FVec Idealize.ShloMosaic.Ideal S128x16x64x576 .f32) (i : S128x16x64x576.Idx) :
    Host.divf a b i = Ideal.div (a i : EReal) (b i : EReal) := rfl

/-- The softmax of a row. -/
theorem weights (R : Reals (X V0) (B V0)) (c : Fin 128) (h : Fin 16) (p : Fin 64) (w : Fin 576) :
    (res_main_v100 V0 (ix4 c h p w) : EReal) = weight (X V0) (B V0) h (64 * c + p) (64 * c + w) := by
  unfold res_main_v100
  refine (div_at _ _ _).trans ?_
  refine Eq.trans (congrArg₂ Ideal.div (exps V0 c h p w) ((spread _ c h p w).trans (row_total V0 c h p 0))) ?_
  exact (R.good h.isLt (by omega)).div_eq_prob _

/-- The gradient of a row's softmax. -/
theorem dweights (c : Fin 128) (h : Fin 16) (p : Fin 64) (w : Fin 576) :
    (res_main_v109 V0 (ix4 c h p w) : EReal) = dweight (X V0) (G V0) h (64 * c + p) (64 * c + w) := by
  pointwise [res_main_v109]
  exact sum_mul_eq _ _ _ _ (fun d => grad V0 c h d p) (fun d => value_band V0 c w h d)

/-- The gradient of a score, from its parts. -/
theorem grad_step (g s e z g' s' e' z' : EReal) (hg : g = g') (hs : s = s') (he : e = e') (hz : z = z') :
    (Ideal.div g s + -z) * e = (Ideal.div g' s' + -z') * e' := by
  rw [hg, hs, he, hz]

/-- A term of the row's sum, from its parts. -/
theorem prod_step (g s e g' s' e' : EReal) (hg : g = g') (hs : s = s') (he : e = e') :
    g * Ideal.div 1 (s * s) * e = g' * Ideal.div 1 (s' * s') * e' := by
  rw [hg, hs, he]

/-- The gradient of a row's scores, from the three arrays it reads and the mask. -/
theorem grad_form (m : IVec S128x16x64x576 1) (g e : FVec Idealize.ShloMosaic.Ideal S128x16x64x576 .f32)
    (s : FVec Idealize.ShloMosaic.Ideal S128x16x64x1 .f32) (c : Fin 128) (h : Fin 16) (p : Fin 64) (w : Fin 576) :
    (mulf (select m (mulf (addf (Host.divf g (broadcastInDim S128x16x64x576 ![0, 1, 2, 3] bcast_S128x16x64x1_S128x16x64x576_0_1_2_3 s)) (broadcastInDim S128x16x64x576 ![0, 1, 2] bcast_S128x16x64_S128x16x64x576_0_1_2 (Host.reduceAdd (Host.negf (shapeCast _ (Host.reduceAdd (mulf (mulf g (broadcastInDim S128x16x64x576 ![0, 1, 2, 3] bcast_S128x16x64x1_S128x16x64x576_0_1_2_3 (Host.divf (broadcastInDim S128x16x64x1 ![] bcast_S_S128x16x64x1 (constant S_ .f32 0x3F800000#32)) (mulf s s)))) e) (constant S_ .f32 0x00000000#32) reducesTo_S128x16x64x576_S128x16x64_d3 h_S_) shapeCasts_S128x16x64_S128x16x64x1)) (constant S_ .f32 0x00000000#32) reducesTo_S128x16x64x1_S128x16x64_d3 h_S_))) e) (broadcastInDim S128x16x64x576 ![] bcast_S_S128x16x64x576 (constant S_ .f32 0x00000000#32))) (broadcastInDim S128x16x64x576 ![] bcast_S_S128x16x64x576 (constant S_ .f32 0x3E000000#32))) (ix4 c h p w)
      = ((if m (ix4 c h p w) = 1#1 then (Ideal.div (g (ix4 c h p w)) (s (ix4 c h p 0)) + -(∑ x : Fin 576, (g (ix4 c h p x) : EReal) * Ideal.div 1 (s (ix4 c h p 0) * s (ix4 c h p 0)) * e (ix4 c h p x))) * e (ix4 c h p w) else 0) * scale : EReal) := by
  pointwise
  rw [Fin.sum_univ_one]
  by_cases hm : m (ix4 c h p w) = 1#1
  · rw [hm, if_pos rfl]; rfl
  · rw [if_neg hm, zero_mul]
    exact if_neg hm

/-- The gradient of a row's scores, scaled. -/
theorem dscores (R : Reals (X V0) (B V0)) (c : Fin 128) (h : Fin 16) (p : Fin 64) (w : Fin 576) :
    (res_main_v126 V0 (ix4 c h p w) : EReal) = ds (X V0) (G V0) (B V0) h (64 * c + p) (64 * c + w) * scale := by
  have hp := p.isLt
  have hw := w.isLt
  unfold res_main_v126
  refine (grad_form _ _ _ _ c h p w).trans ?_
  refine congrArg (fun a : EReal => a * scale) ?_
  by_cases hl : 512 ≤ 64 * c.val + w
  · rw [if_pos ((valid V0 c h p w).trans (if_pos hl))]
    have good : Good 8704 (score (X V0) (B V0) h (64 * c + p)) := R.good h.isLt (by omega)
    refine Eq.trans ?_ (good.quotient_grad (dweight (X V0) (G V0) h (64 * c + p)) (64 * c + w))
    refine grad_step _ _ _ _ _ _ _ _ (dweights V0 c h p w) (row_total V0 c h p 0) (exps V0 c h p w) ?_
    refine sum_step (fun u => dweight (X V0) (G V0) h (64 * c + p) u
        * Ideal.div 1 (total 8704 (score (X V0) (B V0) h (64 * c + p)) * total 8704 (score (X V0) (B V0) h (64 * c + p)))
        * expo 8704 (score (X V0) (B V0) h (64 * c + p)) u) _ (64 * c) 576 8704 (by omega) rfl (fun x => ?_)
      fun t ht => by simp only [expo_bot (score_dead (X := X V0) (B := B V0) (h := h) (out_of_band c p t p.isLt ht)), mul_zero]
    exact prod_step _ _ _ _ _ _ (dweights V0 c h p x) (row_total V0 c h p 0) (exps V0 c h p x)
  · rw [if_neg fun e => absurd (((valid V0 c h p w).trans (if_neg hl)).symm.trans e) (show ¬((0#1 : BitVec 1) = 1#1) by decide)]
    exact (ds_dead (by unfold Live; omega)).symm

end Cert.ReferenceIdeal.Read
-- ==== Proof.RefResults.lean ====
/-
  The reference's three gradients, entry by entry.
-/
module

public import proofs.«01_k».proof.Proof.RefGrads

@[expose] public section
set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Attn

variable (V0 : Valuation τ sig (Elt Ideal))

/-- The nine shifted slices of a band, added up at their places. -/
def nine (A : FVec Idealize.ShloMosaic.Ideal S128x576x16x64 .f32) : FVec Idealize.ShloMosaic.Ideal S136x64x16x64 .f32 :=
  (addf (addf (addf (addf (addf (addf (addf (addf (pad S136x64x16x64 ![8, 0, 0, 0] ![0, 0, 0, 0] ![0, 0, 0, 0] (extractStridedSlice S128x64x16x64 ![0, 512, 0, 0] A slices_S128x576x16x64_S128x64x16x64_0_512_0_0) (constant S_ .f32 0x00000000#32) pads_S128x64x16x64_S136x64x16x64_800_000_000_000 h_S_)
    (pad S136x64x16x64 ![7, 0, 0, 0] ![1, 0, 0, 0] ![0, 0, 0, 0] (extractStridedSlice S128x64x16x64 ![0, 448, 0, 0] A slices_S128x576x16x64_S128x64x16x64_0_448_0_0) (constant S_ .f32 0x00000000#32) pads_S128x64x16x64_S136x64x16x64_710_000_000_000 h_S_))
    (pad S136x64x16x64 ![6, 0, 0, 0] ![2, 0, 0, 0] ![0, 0, 0, 0] (extractStridedSlice S128x64x16x64 ![0, 384, 0, 0] A slices_S128x576x16x64_S128x64x16x64_0_384_0_0) (constant S_ .f32 0x00000000#32) pads_S128x64x16x64_S136x64x16x64_620_000_000_000 h_S_))
    (pad S136x64x16x64 ![5, 0, 0, 0] ![3, 0, 0, 0] ![0, 0, 0, 0] (extractStridedSlice S128x64x16x64 ![0, 320, 0, 0] A slices_S128x576x16x64_S128x64x16x64_0_320_0_0) (constant S_ .f32 0x00000000#32) pads_S128x64x16x64_S136x64x16x64_530_000_000_000 h_S_))
    (pad S136x64x16x64 ![4, 0, 0, 0] ![4, 0, 0, 0] ![0, 0, 0, 0] (extractStridedSlice S128x64x16x64 ![0, 256, 0, 0] A slices_S128x576x16x64_S128x64x16x64_0_256_0_0) (constant S_ .f32 0x00000000#32) pads_S128x64x16x64_S136x64x16x64_440_000_000_000 h_S_))
    (pad S136x64x16x64 ![3, 0, 0, 0] ![5, 0, 0, 0] ![0, 0, 0, 0] (extractStridedSlice S128x64x16x64 ![0, 192, 0, 0] A slices_S128x576x16x64_S128x64x16x64_0_192_0_0) (constant S_ .f32 0x00000000#32) pads_S128x64x16x64_S136x64x16x64_350_000_000_000 h_S_))
    (pad S136x64x16x64 ![2, 0, 0, 0] ![6, 0, 0, 0] ![0, 0, 0, 0] (extractStridedSlice S128x64x16x64 ![0, 128, 0, 0] A slices_S128x576x16x64_S128x64x16x64_0_128_0_0) (constant S_ .f32 0x00000000#32) pads_S128x64x16x64_S136x64x16x64_260_000_000_000 h_S_))
    (pad S136x64x16x64 ![1, 0, 0, 0] ![7, 0, 0, 0] ![0, 0, 0, 0] (extractStridedSlice S128x64x16x64 ![0, 64, 0, 0] A slices_S128x576x16x64_S128x64x16x64_0_64_0_0) (constant S_ .f32 0x00000000#32) pads_S128x64x16x64_S136x64x16x64_170_000_000_000 h_S_))
    (pad S136x64x16x64 ![0, 0, 0, 0] ![8, 0, 0, 0] ![0, 0, 0, 0] (extractStridedSlice S128x64x16x64 ![0, 0, 0, 0] A slices_S128x576x16x64_S128x64x16x64_0_0_0_0) (constant S_ .f32 0x00000000#32) pads_S128x64x16x64_S136x64x16x64_080_000_000_000 h_S_))

/-- The added slices at an index: slice `k` of chunk `cc - k`, where there is one. -/
theorem nine_at (A : FVec Idealize.ShloMosaic.Ideal S128x576x16x64 .f32) (F : ℕ → ℕ → EReal) (h : Fin 16) (d : Fin 64)
    (hA : ∀ c w, (A (ix4 c w h d) : EReal) = F c w) (cc : Fin 136) (p : Fin 64) :
    (nine A (ix4 cc p h d) : EReal)
      = ∑ k ∈ Finset.range 9, if k ≤ cc.val ∧ cc.val - k < 128 then F (cc - k) (64 * k + p) else 0 := by
  pointwise [nine]
  simp only [hA, dite_eq_ite, Finset.sum_range_succ, Finset.sum_range_zero, zero_add]
  simp only [Nat.zero_le, Nat.sub_zero, Nat.mul_zero, Nat.zero_add, Nat.reduceMul, true_and]
  abel

/-- A sum over the queries, chunk by chunk. -/
theorem sum_chunks (f : ℕ → EReal) (C : ℕ) :
    ∑ n ∈ Finset.range (64 * C), f n = ∑ c ∈ Finset.range C, ∑ p : Fin 64, f (64 * c + p) := by
  induction C with
  | zero => rfl
  | succ C ih =>
    rw [Nat.mul_succ, Finset.sum_range_add, ih, Finset.sum_range_succ (fun c => ∑ p : Fin 64, f (64 * c + p)), Fin.sum_univ_eq_sum_range (fun p => f (64 * C + p)) 64]

/-- A sum over the queries of terms that vanish out of the query's band, by the slice the key is in. -/
theorem sum_bands (f : ℕ → EReal) (t : ℕ) (ht : t < 8704)
    (hz : ∀ n, n < 8192 → ¬(n / 64 * 64 ≤ t ∧ t < n / 64 * 64 + 576) → f n = 0) :
    (∑ k ∈ Finset.range 9, if k ≤ t / 64 ∧ t / 64 - k < 128 then ∑ p : Fin 64, f (64 * (t / 64 - k) + p) else 0)
      = ∑ n ∈ Finset.range 8192, f n := by
  have e1 : ∑ n ∈ Finset.range 8192, f n = ∑ c ∈ Finset.range 128, ∑ p : Fin 64, f (64 * c + p) := by
    exact sum_chunks f 128
  have e2 : ∀ c ∈ Finset.range 128, ¬(c ≤ t / 64 ∧ t / 64 ≤ c + 8) → ∑ p : Fin 64, f (64 * c + p) = 0 := by
    intro c hc hn
    have hc' := Finset.mem_range.mp hc
    refine Finset.sum_eq_zero fun p _ => hz _ (by omega) ?_
    omega
  rw [e1, ← Finset.sum_filter, ← Finset.sum_filter_of_ne (p := fun c => c ≤ t / 64 ∧ t / 64 ≤ c + 8)
    fun c hc hne => Classical.not_not.mp fun hn => hne (e2 c hc hn)]
  refine Finset.sum_nbij' (fun k => t / 64 - k) (fun c => t / 64 - c) ?_ ?_ ?_ ?_ ?_
  · intro k hk
    simp only [Finset.mem_filter, Finset.mem_range] at hk ⊢
    omega
  · intro c hc
    simp only [Finset.mem_filter, Finset.mem_range] at hc ⊢
    omega
  · intro k hk
    simp only [Finset.mem_filter, Finset.mem_range] at hk ⊢
    omega
  · intro c hc
    simp only [Finset.mem_filter, Finset.mem_range] at hc ⊢
    omega
  · intro k _
    rfl

/-- The gradient of the values in a query's band. -/
theorem dvalue_band (R : Reals (X V0) (B V0)) (c : Fin 128) (w : Fin 576) (h : Fin 16) (d : Fin 64) :
    (res_main_v111 V0 (ix4 c w h d) : EReal)
      = ∑ p : Fin 64, G V0 (64 * c + p) (64 * h + d) * weight (X V0) (B V0) h (64 * c + p) (64 * c + w) := by
  pointwise [res_main_v111]
  exact sum_mul_eq _ _ _ _ (fun p => grad V0 c h d p) (fun p => weights V0 R c h p w)

/-- The gradient of the keys in a query's band. -/
theorem dkey_band (R : Reals (X V0) (B V0)) (c : Fin 128) (w : Fin 576) (h : Fin 16) (d : Fin 64) :
    (res_main_v128 V0 (ix4 c w h d) : EReal)
      = ∑ p : Fin 64, ds (X V0) (G V0) (B V0) h (64 * c + p) (64 * c + w) * scale * X V0 (64 * c + p) (64 * h + d) := by
  pointwise [res_main_v128]
  exact sum_mul_eq _ _ _ _ (fun p => dscores V0 R c h p w) (fun p => query V0 c p h d)

/-- The first result of the reference, as a term. -/
def termQ (A : FVec Idealize.ShloMosaic.Ideal S128x16x64x576 .f32) (K : FVec Idealize.ShloMosaic.Ideal S128x576x16x64 .f32) :
    FVec Idealize.ShloMosaic.Ideal S8192x1024 .f32 :=
  shapeCast S8192x1024 (shapeCast S8192x16x64 (transpose S128x64x16x64 [0, 2, 1, 3] (Host.dotGeneral dot_S128x16x64x576_S128x576x16x64_S128x16x64x64_3_1_2_3_01_02 none A K) transposes_S128x16x64x64_S128x64x16x64_0_2_1_3) shapeCasts_S128x64x16x64_S8192x16x64) shapeCasts_S8192x16x64_S8192x1024

/-- The rows of a result that the slices were added up in. -/
def termKV (A : FVec Idealize.ShloMosaic.Ideal S8704x16x64 .f32) : FVec Idealize.ShloMosaic.Ideal S8192x1024 .f32 :=
  shapeCast S8192x1024 (extractStridedSlice S8192x16x64 ![512, 0, 0] A slices_S8704x16x64_S8192x16x64_512_0_0) shapeCasts_S8192x16x64_S8192x1024

/-- The first result, at an index. -/
theorem termQ_at (A : FVec Idealize.ShloMosaic.Ideal S128x16x64x576 .f32) (K : FVec Idealize.ShloMosaic.Ideal S128x576x16x64 .f32)
    (n : Fin 8192) (a : Fin 1024) :
    (termQ A K (ix2 n a) : EReal) = ∑ x : Fin 576, (A (ix4 (⟨n / 64, by omega⟩ : Fin 128) (⟨a / 64, by omega⟩ : Fin 16) (⟨n % 64, by omega⟩ : Fin 64) x) : EReal)
      * (K (ix4 (⟨n / 64, by omega⟩ : Fin 128) x (⟨a / 64, by omega⟩ : Fin 16) (⟨a % 64, by omega⟩ : Fin 64)) : EReal) := by
  pointwise [termQ]

/-- The other results, at an index. -/
theorem termKV_at (A : FVec Idealize.ShloMosaic.Ideal S136x64x16x64 .f32) (n : Fin 8192) (a : Fin 1024) :
    (termKV (shapeCast S8704x16x64 A shapeCasts_S136x64x16x64_S8704x16x64) (ix2 n a) : EReal)
      = (A (ix4 (⟨(512 + n) / 64, by omega⟩ : Fin 136) (⟨(512 + n) % 64, by omega⟩ : Fin 64) (⟨a / 64, by omega⟩ : Fin 16) (⟨a % 64, by omega⟩ : Fin 64)) : EReal) := by
  pointwise [termKV]

/-- The slices of the values' gradient, added up. -/
theorem v157_eq : res_main_v157 V0 = shapeCast S8704x16x64 (nine (res_main_v111 V0)) shapeCasts_S136x64x16x64_S8704x16x64 := rfl

/-- The slices of the keys' gradient, added up. -/
theorem v184_eq : res_main_v184 V0 = shapeCast S8704x16x64 (nine (res_main_v128 V0)) shapeCasts_S136x64x16x64_S8704x16x64 := rfl

/-- The gradient of the queries. -/
theorem result_q (R : Reals (X V0) (B V0)) (n : Fin 8192) (a : Fin 1024) :
    (termQ (res_main_v126 V0) (res_main_v43 V0) (ix2 n a) : EReal) = gradQ (X V0) (G V0) (B V0) n a := by
  have hn := n.isLt
  have ha := a.isLt
  refine (termQ_at _ _ n a).trans ?_
  have en : 64 * (n.val / 64) + n.val % 64 = n := by omega
  have ea : 1024 + 64 * (a.val / 64) + a.val % 64 = 1024 + a := by omega
  rw [gradQ, mul_comm, mul_sum_of_real scale_nonneg scale_ne_top]
  refine sum_step (fun t => scale * (ds (X V0) (G V0) (B V0) (a / 64) n t * padded (X V0) t (1024 + a))) _ (64 * (n.val / 64)) 576 8704
    (by omega) rfl (fun w => ?_) fun t ht => ?_
  · refine (congrArg₂ (fun x y : EReal => x * y) (dscores V0 R ⟨n / 64, by omega⟩ ⟨a / 64, by omega⟩ ⟨n % 64, by omega⟩ w)
      (key_band V0 ⟨n / 64, by omega⟩ w ⟨a / 64, by omega⟩ ⟨a % 64, by omega⟩)).trans ?_
    simp only [en, ea]
    rw [mul_comm _ scale, mul_assoc]
  · have dead : ¬Live n t := by unfold Live; omega
    simp only [ds_dead dead, zero_mul, mul_zero]

/-- A result that the slices were added up in, at an index. -/
theorem rows_at (A : FVec Idealize.ShloMosaic.Ideal S128x576x16x64 .f32) (F : ℕ → ℕ → EReal) (n : Fin 8192) (a : Fin 1024)
    (hA : ∀ c w, (A (ix4 c w (⟨a / 64, by omega⟩ : Fin 16) (⟨a % 64, by omega⟩ : Fin 64)) : EReal) = F c w) :
    (termKV (shapeCast S8704x16x64 (nine A) shapeCasts_S136x64x16x64_S8704x16x64) (ix2 n a) : EReal)
      = ∑ k ∈ Finset.range 9, if k ≤ (512 + n.val) / 64 ∧ (512 + n.val) / 64 - k < 128 then
          F ((512 + n.val) / 64 - k) (64 * k + (512 + n.val) % 64) else 0 :=
  (termKV_at _ n a).trans (nine_at A F _ _ hA _ _)

/-- The term of a slice of the keys' gradient. -/
def sliceK (X G B : ℕ → ℕ → EReal) (a c w : ℕ) : EReal :=
  ∑ p : Fin 64, ds X G B (a / 64) (64 * c + p) (64 * c + w) * scale * X (64 * c + p) (64 * (a / 64) + a % 64)

/-- The gradient of the keys in a query's band, as that term. -/
theorem dkey_slice (R : Reals (X V0) (B V0)) (a : Fin 1024) (c : Fin 128) (w : Fin 576) :
   (res_main_v128 V0 (ix4 c w (⟨a / 64, by omega⟩ : Fin 16) (⟨a % 64, by omega⟩ : Fin 64)) : EReal) = sliceK (X V0) (G V0) (B V0) a c w :=
   dkey_band V0 R c w _ _

/-- The gradient of the keys. -/
theorem result_k (R : Reals (X V0) (B V0)) (n : Fin 8192) (a : Fin 1024) :
    (termKV (res_main_v184 V0) (ix2 n a) : EReal) = gradK (X V0) (G V0) (B V0) n a := by
  have hn := n.isLt
  have ha := a.isLt
  rw [v184_eq]
  refine (rows_at _ (sliceK (X V0) (G V0) (B V0) a) n a (dkey_slice V0 R a)).trans ?_
  have ea : 64 * (a.val / 64) + a.val % 64 = a := by omega
  refine Eq.trans ?_ (sum_bands (fun m => ds (X V0) (G V0) (B V0) (a / 64) m (n + 512) * (X V0 m a * scale)) (512 + n)
    (by omega) fun m _ hl => ?_)
  · refine Finset.sum_congr rfl fun k _ => ?_
    by_cases hk : k ≤ (512 + n.val) / 64 ∧ (512 + n.val) / 64 - k < 128
    · have et : 64 * ((512 + n.val) / 64 - k) + (64 * k + (512 + n.val) % 64) = n + 512 := by omega
      rw [if_pos hk, if_pos hk]
      unfold sliceK
      rw [et, ea]
      exact Finset.sum_congr rfl fun p _ => by rw [mul_assoc, mul_comm scale]
    · rw [if_neg hk, if_neg hk]
  · have dead : ¬Live m (n + 512) := by unfold Live; omega
    simp only [ds_dead dead, zero_mul]

/-- The gradient of the values. -/
theorem result_v (R : Reals (X V0) (B V0)) (n : Fin 8192) (a : Fin 1024) :
    (termKV (res_main_v157 V0) (ix2 n a) : EReal) = gradV (X V0) (G V0) (B V0) n a := by
  have hn := n.isLt
  have ha := a.isLt
  refine ((congrFun (congrArg termKV (v157_eq V0)) _).trans (termKV_at _ n a)).trans ?_
  refine (nine_at _ (fun c w => ∑ p : Fin 64, G V0 (64 * c + p) (64 * (a / 64) + a % 64)
    * weight (X V0) (B V0) (a / 64) (64 * c + p) (64 * c + w)) _ _ (fun c w => dvalue_band V0 R c w _ _) _ _).trans ?_
  have ea : 64 * (a.val / 64) + a.val % 64 = a := by omega
  refine Eq.trans ?_ (sum_bands (fun m => weight (X V0) (B V0) (a / 64) m (n + 512) * G V0 m a) (512 + n)
    (by omega) fun m _ hl => ?_)
  · refine Finset.sum_congr rfl fun k _ => ?_
    by_cases hk : k ≤ (512 + n.val) / 64 ∧ (512 + n.val) / 64 - k < 128
    · have et : 64 * ((512 + n.val) / 64 - k) + (64 * k + (512 + n.val) % 64) = n + 512 := by omega
      rw [if_pos hk, if_pos hk]
      simp only [et, ea]
      exact Finset.sum_congr rfl fun p _ => mul_comm _ _
    · rw [if_neg hk, if_neg hk]
  · have dead : ¬Live m (n + 512) := by unfold Live; omega
    simp only [weight_dead dead, zero_mul]

end Cert.ReferenceIdeal.Read
-- ==== Proof.Finite.lean ====
/-
  What the precondition says: the queries, the keys and the biases are real numbers.
-/
module

public import proofs.«01_k».proof.Pre_finite
public import proofs.«01_k».proof.Proof.Spec
public import Idealize.ShloMosaic.Lib.ReduceAll
public import Idealize.ShloMosaic.Lib.Pointwise

@[expose] public section
set_option maxRecDepth 16384
noncomputable section
open Idealize.ShloMosaic Idealize.ShloMosaic.TcCoe Idealize.SL.Sem
namespace Cert.Pre_finite
open Cert.Attn

/-- The side conditions of the precondition's operations. -/
theorem side : Facts where
  slices_S8192x4096_S8192x2048_0_0 := by decide
  bcast_S_S8192x2048 := by decide
  reducesTo_S8192x2048_S_d0_1 := by decide
  h_S_ := by decide
  bcast_S_S16x257 := by decide
  reducesTo_S16x257_S_d0_1 := by decide

/-- An extended real whose absolute value is below `+∞` is a real number. -/
theorem real_of_lt (x : EReal) (h : Ideal.cmp .olt (max x (-x)) (Ideal.ofBits .f32 0x7F800000#32) = 1#1) : IsReal x := by
  have h' : decide (max x (-x) < Ideal.ofBits .f32 0x7F800000#32) = true := by
    by_contra hd
    rw [Bool.not_eq_true] at hd
    have e : BitVec.ofBool (decide (max x (-x) < Ideal.ofBits .f32 0x7F800000#32)) = 1#1 := h
    rw [hd] at e
    exact absurd e (by decide)
  have lt := of_decide_eq_true h'
  rw [ofBits_inf, max_lt_iff] at lt
  refine ⟨lt.1.ne, fun hb => ?_⟩
  rw [hb, EReal.neg_bot] at lt
  exact lt_irrefl _ lt.2

/-- Two words of one bit whose conjunction is one are both one. -/
theorem both_one (x y : BitVec 1) (h : IntOp.andi x y = 1#1) : x = 1#1 ∧ y = 1#1 := by
  revert x y
  decide

/-- The array of no axes has one index. -/
instance : Subsingleton S_.Idx := ⟨fun a b => funext fun i => i.elim0⟩

/-- Under the precondition the queries, the keys and the biases are real numbers. -/
theorem reals [Facts] (a0 : FVec Idealize.ShloMosaic.Ideal S8192x4096 .f32) (a1 : FVec Idealize.ShloMosaic.Ideal S8192x1024 .f32)
    (a2 : FVec Idealize.ShloMosaic.Ideal S16x257 .f32) (h : fn a0 a1 a2 = fun _ => 1#1) : Reals (nat2 a0) (nat2 a2) := by
  have h0 := congrFun h ix0
  obtain ⟨hx, hb⟩ := both_one _ _ h0
  constructor
  · intro n c hc
    by_cases hn : n < 8192
    · have e := Host.reduce_andi_all _ _ _ _ _ hx (ix2 ⟨n, hn⟩ ⟨c, hc⟩)
      have e' := real_of_lt _ e
      rw [nat2, dif_pos ⟨hn, by omega⟩]
      have ei : (extractStridedSlice S8192x2048 ![0, 0] a0 Facts.slices_S8192x4096_S8192x2048_0_0 (ix2 ⟨n, hn⟩ ⟨c, hc⟩) : EReal)
          = a0 (ix2 ⟨n, hn⟩ ⟨c, by omega⟩) := by
        pointwise
      rw [← ei]
      exact e'
    · rw [nat2, dif_neg (by omega)]
      exact isReal_coe 0
  · intro r c
    by_cases hn : r < 16 ∧ c < 257
    · have e := Host.reduce_andi_all _ _ _ _ _ hb (ix2 ⟨r, hn.1⟩ ⟨c, hn.2⟩)
      rw [nat2, dif_pos hn]
      exact real_of_lt _ e
    · rw [nat2, dif_neg hn]
      exact isReal_coe 0

end Cert.Pre_finite
-- ==== Proof.Norm.lean ====
/-
  The normalised projection `rms_norm(x, g) @ w` and its gradients, as functions of numbers: what a row of the input, the
  gain, the weights and the incoming gradient of the projection give.
-/
module

public import proofs.«01_k».proof.Proof.Spec
public import Idealize.ShloMosaic.PureOps.Ideal

@[expose] public section

noncomputable section

open Idealize.ShloMosaic

namespace Cert.Norm

open Finset

/-- The number of columns, as the programs write it. -/
def width : EReal := Ideal.ofBits .f32 0x44800000#32
/-- The small number under the root. -/
def small : EReal := Ideal.ofBits .f32 0x358637BD#32
/-- Minus one half. -/
def mhalf : EReal := Ideal.ofBits .f32 0xBF000000#32

/-- The mean of a row's squares, with the small number added. -/
def ms (X : ℕ → ℕ → EReal) (n : ℕ) : EReal := Ideal.div (∑ k : Fin 1024, X n k * X n k) width + small

/-- The reciprocal root of it. -/
def inv (X : ℕ → ℕ → EReal) (n : ℕ) : EReal := Ideal.rsqrt (ms X n)

/-- The normalised row. -/
def hid (X : ℕ → ℕ → EReal) (g : ℕ → EReal) (n c : ℕ) : EReal := X n c * inv X n * g c

/-- The projection of the normalised row. -/
def proj (X : ℕ → ℕ → EReal) (g : ℕ → EReal) (W : ℕ → ℕ → EReal) (n a : ℕ) : EReal :=
  ∑ k : Fin 1024, hid X g n k * W k a

/-- The gradient of the normalised row: the incoming gradient against the weights, over the `K` columns. -/
def back (K : ℕ) (Z W : ℕ → ℕ → EReal) (n c : ℕ) : EReal := ∑ a ∈ range K, Z n a * W c a

/-- The gradient of the row's mean square, divided among the columns. -/
def slope (X : ℕ → ℕ → EReal) (g : ℕ → EReal) (E : ℕ → ℕ → EReal) (n : ℕ) : EReal :=
  Ideal.div ((∑ k : Fin 1024, X n k * (E n k * g k)) * (mhalf * Ideal.div (inv X n) (ms X n))) width

/-- The gradient of the input, with the residual's own. -/
def gradX (X : ℕ → ℕ → EReal) (g : ℕ → EReal) (E R : ℕ → ℕ → EReal) (n c : ℕ) : EReal :=
  E n c * g c * inv X n + X n c * slope X g E n + slope X g E n * X n c + R n c

/-- What a row adds to the gradient of the gain. -/
def termG (X E : ℕ → ℕ → EReal) (c n : ℕ) : EReal := X n c * inv X n * E n c

/-- What a row adds to the gradient of the weights. -/
def termW (X : ℕ → ℕ → EReal) (g : ℕ → EReal) (Z : ℕ → ℕ → EReal) (c a n : ℕ) : EReal := hid X g n c * Z n a

/-- Four arrays of 1024 columns side by side. -/
def beside (P Q R S : ℕ → ℕ → EReal) (n a : ℕ) : EReal :=
  if a < 1024 then P n a
  else if a - 1024 < 1024 then Q n (a - 1024)
  else if a - 1024 - 1024 < 1024 then R n (a - 1024 - 1024)
  else S n (a - 1024 - 1024 - 1024)

/-- Four arrays of 128 columns and four of 512, side by side. -/
def beside8 (P Q R S A B C D : ℕ → ℕ → EReal) (n a : ℕ) : EReal :=
  if a < 128 then P n a
  else if a - 128 < 128 then Q n (a - 128)
  else if a - 128 - 128 < 128 then R n (a - 128 - 128)
  else if a - 128 - 128 - 128 < 128 then S n (a - 128 - 128 - 128)
  else if a - 128 - 128 - 128 - 128 < 512 then A n (a - 128 - 128 - 128 - 128)
  else if a - 128 - 128 - 128 - 128 - 512 < 512 then B n (a - 128 - 128 - 128 - 128 - 512)
  else if a - 128 - 128 - 128 - 128 - 512 - 512 < 512 then C n (a - 128 - 128 - 128 - 128 - 512 - 512)
  else D n (a - 128 - 128 - 128 - 128 - 512 - 512 - 512)

/-- The weights in slots of `N` columns, as one matrix. -/
def wide {J C N : ℕ} (w : (⟨3, ![J, C, N]⟩ : Shape).Idx → EReal) (c a : ℕ) : EReal :=
  if h : a / N < J ∧ c < C ∧ a % N < N then w (ix3 ⟨a / N, h.1⟩ ⟨c, h.2.1⟩ ⟨a % N, h.2.2⟩) else 0

/-- An entry of a slot is an entry of the matrix. -/
theorem wide_at {J C N : ℕ} (w : (⟨3, ![J, C, N]⟩ : Shape).Idx → EReal) (j : Fin J) (c : Fin C) (k : Fin N) (a c' : ℕ)
    (hc : c.val = c') (ha : N * j + k = a) : w (ix3 j c k) = wide w c' a := by
  subst hc ha
  have h1 : (N * j.val + k.val) / N = j := by
    rw [Nat.mul_add_div (by have := k.isLt; omega), Nat.div_eq_of_lt k.isLt, Nat.add_zero]
  have h2 : (N * j.val + k.val) % N = k := by rw [Nat.mul_add_mod, Nat.mod_eq_of_lt k.isLt]
  rw [wide, dif_pos ⟨by rw [h1]; exact j.isLt, c.isLt, by rw [h2]; exact k.isLt⟩]
  congr 1
  have e1 : j = ⟨(N * j.val + k.val) / N, by rw [h1]; exact j.isLt⟩ := Fin.ext h1.symm
  have e2 : k = ⟨(N * j.val + k.val) % N, by rw [h2]; exact k.isLt⟩ := Fin.ext h2.symm
  rw [← e1, ← e2]

/-- The one row of an array of one row. -/
def row {C : ℕ} (g : (⟨2, ![1, C]⟩ : Shape).Idx → EReal) (c : ℕ) : EReal := Cert.Attn.nat2 g 0 c

/-- An entry of the one row. -/
theorem row_at {C : ℕ} (g : (⟨2, ![1, C]⟩ : Shape).Idx → EReal) (c : Fin C) (c' : ℕ) (h : c.val = c') : g (ix2 0 c) = row g c' := by
  subst h
  exact Cert.Attn.nat2_apply g 0 c

/-- An entry of an array of two axes, its two coordinates known as numbers. -/
theorem nat2_at {a b : ℕ} (A : (⟨2, ![a, b]⟩ : Shape).Idx → EReal) (i : Fin a) (j : Fin b) (n k : ℕ) (hn : i.val = n)
    (hk : j.val = k) : A (ix2 i j) = Cert.Attn.nat2 A n k := by
  subst hn hk
  exact Cert.Attn.nat2_apply A i j

/-- An index of two axes is made of its coordinates. -/
theorem eq_ix2 {a b : ℕ} (i : (⟨2, ![a, b]⟩ : Shape).Idx) : i = ix2 (i 0) (i 1) := by
  funext x
  match x with
  | ⟨0, _⟩ => rfl
  | ⟨1, _⟩ => rfl

/-- An index of three axes is made of its coordinates. -/
theorem eq_ix3 {a b d : ℕ} (i : (⟨3, ![a, b, d]⟩ : Shape).Idx) : i = ix3 (i 0) (i 1) (i 2) := by
  funext x
  match x with
  | ⟨0, _⟩ => rfl
  | ⟨1, _⟩ => rfl
  | ⟨2, _⟩ => rfl

/-- An index of one row is made of its column. -/
theorem eq_ix2_row {b : ℕ} (i : (⟨2, ![1, b]⟩ : Shape).Idx) : i = ix2 0 (i 1) :=
  (eq_ix2 i).trans (congrArg (fun z => ix2 z (i 1)) (Subsingleton.elim (α := Fin 1) (i 0) 0))

/-- A sum of products, factor by factor. -/
theorem sum_mul_eq {ι : Type} [Fintype ι] (f g f' g' : ι → EReal) (hf : ∀ i, f i = f' i) (hg : ∀ i, g i = g' i) :
    ∑ i, f i * g i = ∑ i, f' i * g' i := Finset.sum_congr rfl fun i _ => by rw [hf, hg]

/-- The same with the factors in the other order. -/
theorem prod_swap {ι : Type} [Fintype ι] {f g f' g' : ι → EReal} (hf : ∀ i, f i = f' i) (hg : ∀ i, g i = g' i) :
    ∑ i, g i * f i = ∑ i, f' i * g' i := Finset.sum_congr rfl fun i _ => by rw [hf, hg, mul_comm]

/-- The parts of the input's gradient, put in one by one. -/
theorem sum_of_parts {d y M x s d' y' M' x' s' : EReal} (hd : d = d') (hy : y = y') (hM : M = M') (hx : x = x') (hs : s = s') :
    d + y * Ideal.rsqrt M + x * s + s * x = d' + y' * Ideal.rsqrt M' + x' * s' + s' * x' := by
  rw [hd, hy, hM, hx, hs]

/-- A sum over eight groups of `N`. -/
theorem groups8 (f : ℕ → EReal) (N : ℕ) :
    ∑ a ∈ range (N * 8), f a = ∑ k : Fin N, f (N * 0 + k) + ∑ k : Fin N, f (N * 1 + k) + ∑ k : Fin N, f (N * 2 + k)
      + ∑ k : Fin N, f (N * 3 + k) + ∑ k : Fin N, f (N * 4 + k) + ∑ k : Fin N, f (N * 5 + k) + ∑ k : Fin N, f (N * 6 + k)
      + ∑ k : Fin N, f (N * 7 + k) := by
  have step : ∀ J : ℕ, ∑ a ∈ range (N * (J + 1)), f a = ∑ a ∈ range (N * J), f a + ∑ k : Fin N, f (N * J + k) := fun J => by
    rw [Nat.mul_succ, Finset.sum_range_add, Fin.sum_univ_eq_sum_range (fun k => f (N * J + k)) N]
  rw [step 7, step 6, step 5, step 4, step 3, step 2, step 1, step 0, Nat.mul_zero, Finset.range_zero, Finset.sum_empty, zero_add]

/-- A sum over the columns, taken over their numbers. -/
theorem back_eq (K : ℕ) (Z W : ℕ → ℕ → EReal) (n c : ℕ) : ∑ a : Fin K, Z n a * W c a = back K Z W n c :=
  Fin.sum_univ_eq_sum_range (fun a => Z n a * W c a) K

/-- Sums of eight terms, term by term. -/
theorem eight {a0 a1 a2 a3 a4 a5 a6 a7 b0 b1 b2 b3 b4 b5 b6 b7 : EReal} (h0 : a0 = b0) (h1 : a1 = b1) (h2 : a2 = b2)
    (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- One tile's step of a sum over the rows. -/
theorem tile_step (f : ℕ → EReal) (T i : ℕ) (old new : EReal) (hold : old = ∑ n ∈ range (T * i), f n)
    (hnew : new = old + ∑ q : Fin T, f (T * i + q)) : new = ∑ n ∈ range (T * (i + 1)), f n := by
  rw [Nat.mul_succ, Finset.sum_range_add, ← hold, hnew, Fin.sum_univ_eq_sum_range (fun q => f (T * i + q)) T]

end Cert.Norm

end
-- ==== Proof.OddBody.lean ====
/-
  What the body of the odd layers' projection gradient computes at one grid point, 256 rows: the gradient of the normalised
  rows, the block of input gradients, and what the rows add to the gradients of the gain and of the weights.
-/
module

public import proofs.«01_k».proof.Proof.Norm
public import proofs.«01_k».proof.Proof.Gen.Kernel2Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel2Ideal.Body

open Cert.Kernel2Ideal Cert.Kernel2Ideal.Gen Cert.Norm Finset

/-- What a point's body reads: 256 rows of the input, of the four gradients and of the residual's gradient, the gain and the
    weights. -/
structure Reads (X P Q R S D W : ℕ → ℕ → EReal) (g : ℕ → EReal) (i : ℕ) (x0 x1 x2 x3 x4 x5 : Vec Ideal S256x1024 .f32)
    (x6 : Vec Ideal S1x1024 .f32) (x7 : Vec Ideal S8x1024x512 .f32) : Prop where
  x : ∀ (q : Fin 256) (l : Fin 1024), x0 (ix2 q l) = X (256 * i + q) l
  p : ∀ (q : Fin 256) (l : Fin 1024), x1 (ix2 q l) = P (256 * i + q) l
  q : ∀ (q : Fin 256) (l : Fin 1024), x2 (ix2 q l) = Q (256 * i + q) l
  r : ∀ (q : Fin 256) (l : Fin 1024), x3 (ix2 q l) = R (256 * i + q) l
  s : ∀ (q : Fin 256) (l : Fin 1024), x4 (ix2 q l) = S (256 * i + q) l
  d : ∀ (q : Fin 256) (l : Fin 1024), x5 (ix2 q l) = D (256 * i + q) l
  g : ∀ (l : Fin 1024), x6 (ix2 0 l) = g l
  w : ∀ (j : Fin 8) (c : Fin 1024) (k : Fin 512), x7 (ix3 j c k) = W c (512 * j + k)

variable {X P Q R S D W : ℕ → ℕ → EReal} {g : ℕ → EReal} {i : ℕ} {x0 x1 x2 x3 x4 x5 : Vec Ideal S256x1024 .f32}
  {x6 : Vec Ideal S1x1024 .f32} {x7 : Vec Ideal S8x1024x512 .f32}

/-- The four blocks side by side. -/
theorem wide_block (H : Reads X P Q R S D W g i x0 x1 x2 x3 x4 x5 x6 x7) (q : Fin 256) (a : Fin 4096) :
    k0_pay5 x1 x2 x3 x4 (ix2 q a) = beside P Q R S (256 * i + q) a := by
  pointwise [k0_pay5]
  unfold beside
  simp only [H.p, H.q, H.r, H.s]
  split_ifs <;> first | rfl | omega

/-- The mean of a row's squares, with the small number added. -/
theorem ms_block (H : Reads X P Q R S D W g i x0 x1 x2 x3 x4 x5 x6 x7) (q : Fin 256) :
    k0_pay6 x0 (ix2 q 0) = ms X (256 * i + q) := by
  pointwise [k0_pay6]
  simp only [H.x]
  rfl

/-- The normalised rows. -/
theorem hid_block (H : Reads X P Q R S D W g i x0 x1 x2 x3 x4 x5 x6 x7) (q : Fin 256) (l : Fin 1024) :
    k0_pay10 x0 x6 (ix2 q l) = hid X g (256 * i + q) l := by
  pointwise [k0_pay10, k0_pay9, k0_pay7]
  simp only [ms_block H, H.x, H.g]
  rfl

/-- The normalised rows before the gain. -/
theorem norm_block (H : Reads X P Q R S D W g i x0 x1 x2 x3 x4 x5 x6 x7) (q : Fin 256) (l : Fin 1024) :
    k0_pay9 x0 (ix2 q l) = X (256 * i + q) l * inv X (256 * i + q) := by
  pointwise [k0_pay9, k0_pay7]
  simp only [ms_block H, H.x]
  rfl

/-- The gradient of the normalised rows. -/
theorem back_block (H : Reads X P Q R S D W g i x0 x1 x2 x3 x4 x5 x6 x7) (q : Fin 256) (l : Fin 1024) :
    k0_pay13 (k0_pay5 x1 x2 x3 x4) x7 (k0_pay11 x1 x2 x3 x4 x7) (k0_pay12 x1 x2 x3 x4 x7) (ix2 q l)
      = back 4096 (beside P Q R S) W (256 * i + q) l := by
  pointwise [k0_pay13, k0_pay11, k0_pay12]
  refine Eq.trans ?_ (groups8 (fun a => beside P Q R S (256 * i + q) a * W l a) 512).symm
  refine eight ?_ ?_ ?_ ?_ ?_ ?_ ?_ ?_ <;> refine sum_mul_eq _ _ _ _ (fun k => ?_) (fun k => H.w _ l k) <;>
    refine (wide_block H q _).trans (congrArg (beside P Q R S _) ?_) <;> simp

/-- What the 256 rows add to the gradient of the gain. -/
theorem gain_block (H : Reads X P Q R S D W g i x0 x1 x2 x3 x4 x5 x6 x7) (l : Fin 1024) :
    k0_pay14 (k0_pay5 x1 x2 x3 x4) x7 (k0_pay9 x0) (k0_pay11 x1 x2 x3 x4 x7) (k0_pay12 x1 x2 x3 x4 x7) (ix2 0 l)
      = ∑ q : Fin 256, termG X (back 4096 (beside P Q R S) W) l (256 * i + q) := by
  pointwise [k0_pay14]
  exact sum_mul_eq _ _ _ _ (fun q => norm_block H q l) (fun q => back_block H q l)

/-- The gradient of the gain so far, with what the 256 rows add. -/
theorem gain_step (H : Reads X P Q R S D W g i x0 x1 x2 x3 x4 x5 x6 x7) (old : Vec Ideal S1x1024 .f32) (l : Fin 1024) :
    k0_pay3 (k0_pay14 (k0_pay5 x1 x2 x3 x4) x7 (k0_pay9 x0) (k0_pay11 x1 x2 x3 x4 x7) (k0_pay12 x1 x2 x3 x4 x7)) old (ix2 0 l)
      = old (ix2 0 l) + ∑ q : Fin 256, termG X (back 4096 (beside P Q R S) W) l (256 * i + q) := by
  pointwise [k0_pay3]
  exact congrArg (fun z : EReal => old (ix2 0 l) + z) (gain_block H l)

/-- The zeros that the gradient of the gain begins with. -/
theorem gain_zero (l : Fin 1024) : k0_pay1 (F := Ideal) (ix2 0 l) = (0 : EReal) := by
  pointwise [k0_pay1]

/-- The zeros that the gradient of the weights begins with. -/
theorem weight_zero (j : Fin 8) (c : Fin 1024) (k : Fin 512) : k0_pay2 (F := Ideal) (ix3 j c k) = (0 : EReal) := by
  pointwise [k0_pay2]

/-- The gradient of the normalised rows, times the gain. -/
theorem scaled_block (H : Reads X P Q R S D W g i x0 x1 x2 x3 x4 x5 x6 x7) (q : Fin 256) (l : Fin 1024) :
    k0_pay15 (k0_pay5 x1 x2 x3 x4) x7 x6 (k0_pay11 x1 x2 x3 x4 x7) (k0_pay12 x1 x2 x3 x4 x7) (ix2 q l)
      = back 4096 (beside P Q R S) W (256 * i + q) l * g l := by
  pointwise [k0_pay15]
  rw [back_block H, H.g]

/-- The row's sum of input times scaled gradient. -/
theorem along_block (H : Reads X P Q R S D W g i x0 x1 x2 x3 x4 x5 x6 x7) (q : Fin 256) :
    k0_pay16 x0 (k0_pay5 x1 x2 x3 x4) x7 x6 (k0_pay11 x1 x2 x3 x4 x7) (k0_pay12 x1 x2 x3 x4 x7) (ix2 q 0)
      = ∑ k : Fin 1024, X (256 * i + q) k * (back 4096 (beside P Q R S) W (256 * i + q) k * g k) := by
  pointwise [k0_pay16]
  exact sum_mul_eq _ _ _ _ (fun k => H.x q k) (fun k => scaled_block H q k)

/-- The block of input gradients. -/
theorem gradX_block (H : Reads X P Q R S D W g i x0 x1 x2 x3 x4 x5 x6 x7) (q : Fin 256) (l : Fin 1024) :
    k0_pay18 x0 x5 (k0_pay8 x0) (k0_pay15 (k0_pay5 x1 x2 x3 x4) x7 x6 (k0_pay11 x1 x2 x3 x4 x7) (k0_pay12 x1 x2 x3 x4 x7))
      (k0_pay16 x0 (k0_pay5 x1 x2 x3 x4) x7 x6 (k0_pay11 x1 x2 x3 x4 x7) (k0_pay12 x1 x2 x3 x4 x7)) (k0_pay17 (k0_pay7 x0)) (ix2 q l)
      = gradX X g (back 4096 (beside P Q R S) W) D (256 * i + q) l := by
  pointwise [k0_pay18, k0_pay17, k0_pay8, k0_pay7]
  simp only [Fin.sum_univ_one]
  simp only [scaled_block H, along_block H, ms_block H, H.x, H.d]
  rfl

/-- What the 256 rows add to the gradient of slot 0 of the weights. -/
theorem slot0 (H : Reads X P Q R S D W g i x0 x1 x2 x3 x4 x5 x6 x7) (c : Fin 1024) (k : Fin 512) :
    k0_pay21 (k0_pay5 x1 x2 x3 x4) (k0_pay10 x0 x6) (ix3 0 c k)
      = ∑ q : Fin 256, termW X g (beside P Q R S) c (512 * 0 + k) (256 * i + q) := by
  pointwise [k0_pay21]
  exact sum_mul_eq _ _ _ _ (fun q => hid_block H q c) (fun q => (wide_block H q _).trans (congrArg (beside P Q R S _) (by simp)))

/-- What the 256 rows add to the gradient of slot 1 of the weights. -/
theorem slot1 (H : Reads X P Q R S D W g i x0 x1 x2 x3 x4 x5 x6 x7) (c : Fin 1024) (k : Fin 512) :
    k0_pay22 (k0_pay5 x1 x2 x3 x4) (k0_pay10 x0 x6) (ix3 0 c k)
      = ∑ q : Fin 256, termW X g (beside P Q R S) c (512 * 1 + k) (256 * i + q) := by
  pointwise [k0_pay22]
  exact sum_mul_eq _ _ _ _ (fun q => hid_block H q c) (fun q => (wide_block H q _).trans (congrArg (beside P Q R S _) (by simp)))

/-- What the 256 rows add to the gradient of slot 2 of the weights. -/
theorem slot2 (H : Reads X P Q R S D W g i x0 x1 x2 x3 x4 x5 x6 x7) (c : Fin 1024) (k : Fin 512) :
    k0_pay23 (k0_pay5 x1 x2 x3 x4) (k0_pay10 x0 x6) (ix3 0 c k)
      = ∑ q : Fin 256, termW X g (beside P Q R S) c (512 * 2 + k) (256 * i + q) := by
  pointwise [k0_pay23]
  exact sum_mul_eq _ _ _ _ (fun q => hid_block H q c) (fun q => (wide_block H q _).trans (congrArg (beside P Q R S _) (by simp)))

/-- What the 256 rows add to the gradient of slot 3 of the weights. -/
theorem slot3 (H : Reads X P Q R S D W g i x0 x1 x2 x3 x4 x5 x6 x7) (c : Fin 1024) (k : Fin 512) :
    k0_pay24 (k0_pay5 x1 x2 x3 x4) (k0_pay10 x0 x6) (ix3 0 c k)
      = ∑ q : Fin 256, termW X g (beside P Q R S) c (512 * 3 + k) (256 * i + q) := by
  pointwise [k0_pay24]
  exact sum_mul_eq _ _ _ _ (fun q => hid_block H q c) (fun q => (wide_block H q _).trans (congrArg (beside P Q R S _) (by simp)))

/-- What the 256 rows add to the gradient of slot 4 of the weights. -/
theorem slot4 (H : Reads X P Q R S D W g i x0 x1 x2 x3 x4 x5 x6 x7) (c : Fin 1024) (k : Fin 512) :
    k0_pay25 (k0_pay5 x1 x2 x3 x4) (k0_pay10 x0 x6) (ix3 0 c k)
      = ∑ q : Fin 256, termW X g (beside P Q R S) c (512 * 4 + k) (256 * i + q) := by
  pointwise [k0_pay25]
  exact sum_mul_eq _ _ _ _ (fun q => hid_block H q c) (fun q => (wide_block H q _).trans (congrArg (beside P Q R S _) (by simp)))

/-- What the 256 rows add to the gradient of slot 5 of the weights. -/
theorem slot5 (H : Reads X P Q R S D W g i x0 x1 x2 x3 x4 x5 x6 x7) (c : Fin 1024) (k : Fin 512) :
    k0_pay26 (k0_pay5 x1 x2 x3 x4) (k0_pay10 x0 x6) (ix3 0 c k)
      = ∑ q : Fin 256, termW X g (beside P Q R S) c (512 * 5 + k) (256 * i + q) := by
  pointwise [k0_pay26]
  exact sum_mul_eq _ _ _ _ (fun q => hid_block H q c) (fun q => (wide_block H q _).trans (congrArg (beside P Q R S _) (by simp)))

/-- What the 256 rows add to the gradient of slot 6 of the weights. -/
theorem slot6 (H : Reads X P Q R S D W g i x0 x1 x2 x3 x4 x5 x6 x7) (c : Fin 1024) (k : Fin 512) :
    k0_pay19 (k0_pay5 x1 x2 x3 x4) (k0_pay10 x0 x6) (ix2 c k)
      = ∑ q : Fin 256, termW X g (beside P Q R S) c (512 * 6 + k) (256 * i + q) := by
  pointwise [k0_pay19]
  exact sum_mul_eq _ _ _ _ (fun q => hid_block H q c) (fun q => (wide_block H q _).trans (congrArg (beside P Q R S _) (by simp)))

/-- What the 256 rows add to the gradient of slot 7 of the weights. -/
theorem slot7 (H : Reads X P Q R S D W g i x0 x1 x2 x3 x4 x5 x6 x7) (c : Fin 1024) (k : Fin 512) :
    k0_pay20 (k0_pay5 x1 x2 x3 x4) (k0_pay10 x0 x6) (ix2 c k)
      = ∑ q : Fin 256, termW X g (beside P Q R S) c (512 * 7 + k) (256 * i + q) := by
  pointwise [k0_pay20]
  exact sum_mul_eq _ _ _ _ (fun q => hid_block H q c) (fun q => (wide_block H q _).trans (congrArg (beside P Q R S _) (by simp)))

/-- The gradient of the weights so far, with what the 256 rows add. -/
theorem weight_block (H : Reads X P Q R S D W g i x0 x1 x2 x3 x4 x5 x6 x7) (old : Vec Ideal S8x1024x512 .f32) (j : Fin 8)
    (c : Fin 1024) (k : Fin 512) :
    k0_pay4 (k0_pay19 (k0_pay5 x1 x2 x3 x4) (k0_pay10 x0 x6)) (k0_pay20 (k0_pay5 x1 x2 x3 x4) (k0_pay10 x0 x6))
      (k0_pay21 (k0_pay5 x1 x2 x3 x4) (k0_pay10 x0 x6)) (k0_pay22 (k0_pay5 x1 x2 x3 x4) (k0_pay10 x0 x6))
      (k0_pay23 (k0_pay5 x1 x2 x3 x4) (k0_pay10 x0 x6)) (k0_pay24 (k0_pay5 x1 x2 x3 x4) (k0_pay10 x0 x6))
      (k0_pay25 (k0_pay5 x1 x2 x3 x4) (k0_pay10 x0 x6)) (k0_pay26 (k0_pay5 x1 x2 x3 x4) (k0_pay10 x0 x6)) old (ix3 j c k)
      = old (ix3 j c k) + ∑ q : Fin 256, termW X g (beside P Q R S) c (512 * j + k) (256 * i + q) := by
  pointwise [k0_pay4]
  refine congrArg (fun z : EReal => old (ix3 j c k) + z) ?_
  fin_cases j
  · exact slot0 H c k
  · exact slot1 H c k
  · exact slot2 H c k
  · exact slot3 H c k
  · exact slot4 H c k
  · exact slot5 H c k
  · exact slot6 H c k
  · exact slot7 H c k

end Cert.Kernel2Ideal.Body
end
-- ==== Proof.OddState.lean ====
/-
  What the odd layers' projection gradient holds after each grid point, and its three result arrays: the blocks of input
  gradients, and the gradients of the gain and of the weights summed over the row tiles so far.
-/
module

public import proofs.«01_k».proof.Proof.OddBody
public import proofs.«01_k».proof.Proof.Gen.Kernel2Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel2Ideal.Point
open Cert.Kernel2Ideal Cert.Kernel2Ideal.Gen Cert.Kernel2Ideal.Body Cert.Norm Cert.Attn Finset

variable (m : (ℓ : Loc nD τ sig) → Buf (Elt Ideal) ℓ) (c : Dev nD)

/-- The input rows. -/
abbrev X : ℕ → ℕ → EReal := nat2 (m (c.tc.loc main_arg0))
/-- The gain. -/
abbrev g : ℕ → EReal := row (m (c.tc.loc main_arg1))
/-- The weights. -/
abbrev W : ℕ → ℕ → EReal := wide (m (c.tc.loc main_arg2))
/-- The four incoming gradients, side by side. -/
abbrev Z : ℕ → ℕ → EReal := beside (nat2 (m (c.tc.loc main_arg3))) (nat2 (m (c.tc.loc main_arg4))) (nat2 (m (c.tc.loc main_arg5)))
  (nat2 (m (c.tc.loc main_arg6)))
/-- The residual's gradient. -/
abbrev D : ℕ → ℕ → EReal := nat2 (m (c.tc.loc main_arg7))
/-- The gradient of the normalised rows. -/
abbrev E : ℕ → ℕ → EReal := back 4096 (Z m c) (W m c)

/-- The block that each operand's window gives a point. -/
theorem window_index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0, 0] ∧ win0_8.index t = ![t.val, 0] ∧ win0_9.index t = ![0, 0] ∧ win0_10.index t = ![0, 0, 0] := by
  decide +kernel

/-- There are thirty-two points. -/
theorem point_lt (t : Fin cfg0.N) : t.val < 32 := t.isLt

/-- The block of input rows. -/
theorem iblk_0 (t : Fin cfg0.N) (q : Fin 256) (l : Fin 1024) : iblk m c 0 t (ix2 q l) = X m c (256 * t.val + q) l := by
  have ht := point_lt t
  refine Eq.trans ?_ (nat2_apply (m (c.tc.loc main_arg0)) ⟨256 * t.val + q, by omega⟩ l)
  blk_ext [iblk, V_main_arg0, window_index t]

/-- The block of the first incoming gradient. -/
theorem iblk_1 (t : Fin cfg0.N) (q : Fin 256) (l : Fin 1024) : iblk m c 1 t (ix2 q l) = nat2 (m (c.tc.loc main_arg3)) (256 * t.val + q) l := by
  have ht := point_lt t
  refine Eq.trans ?_ (nat2_apply (m (c.tc.loc main_arg3)) ⟨256 * t.val + q, by omega⟩ l)
  blk_ext [iblk, V_main_arg3, window_index t]

/-- The block of the second. -/
theorem iblk_2 (t : Fin cfg0.N) (q : Fin 256) (l : Fin 1024) : iblk m c 2 t (ix2 q l) = nat2 (m (c.tc.loc main_arg4)) (256 * t.val + q) l := by
  have ht := point_lt t
  refine Eq.trans ?_ (nat2_apply (m (c.tc.loc main_arg4)) ⟨256 * t.val + q, by omega⟩ l)
  blk_ext [iblk, V_main_arg4, window_index t]

/-- The block of the third. -/
theorem iblk_3 (t : Fin cfg0.N) (q : Fin 256) (l : Fin 1024) : iblk m c 3 t (ix2 q l) = nat2 (m (c.tc.loc main_arg5)) (256 * t.val + q) l := by
  have ht := point_lt t
  refine Eq.trans ?_ (nat2_apply (m (c.tc.loc main_arg5)) ⟨256 * t.val + q, by omega⟩ l)
  blk_ext [iblk, V_main_arg5, window_index t]

/-- The block of the fourth. -/
theorem iblk_4 (t : Fin cfg0.N) (q : Fin 256) (l : Fin 1024) : iblk m c 4 t (ix2 q l) = nat2 (m (c.tc.loc main_arg6)) (256 * t.val + q) l := by
  have ht := point_lt t
  refine Eq.trans ?_ (nat2_apply (m (c.tc.loc main_arg6)) ⟨256 * t.val + q, by omega⟩ l)
  blk_ext [iblk, V_main_arg6, window_index t]

/-- The block of the residual's gradient. -/
theorem iblk_5 (t : Fin cfg0.N) (q : Fin 256) (l : Fin 1024) : iblk m c 5 t (ix2 q l) = D m c (256 * t.val + q) l := by
  have ht := point_lt t
  refine Eq.trans ?_ (nat2_apply (m (c.tc.loc main_arg7)) ⟨256 * t.val + q, by omega⟩ l)
  blk_ext [iblk, V_main_arg7, window_index t]

/-- The gain. -/
theorem iblk_6 (t : Fin cfg0.N) (l : Fin 1024) : iblk m c 6 t (ix2 0 l) = g m c l := by
  refine Eq.trans ?_ (row_at (m (c.tc.loc main_arg1)) l l rfl)
  blk_ext [iblk, V_main_arg1, window_index t]

/-- The weights. -/
theorem iblk_7 (t : Fin cfg0.N) (j : Fin 8) (r : Fin 1024) (k : Fin 512) : iblk m c 7 t (ix3 j r k) = W m c r (512 * j + k) := by
  refine Eq.trans ?_ (wide_at (m (c.tc.loc main_arg2)) j r k _ _ rfl rfl)
  blk_ext [iblk, V_main_arg2, window_index t]

/-- What a point's body computes with. -/
theorem reads (t : Fin cfg0.N) : Reads (X m c) (nat2 (m (c.tc.loc main_arg3))) (nat2 (m (c.tc.loc main_arg4)))
    (nat2 (m (c.tc.loc main_arg5))) (nat2 (m (c.tc.loc main_arg6))) (D m c) (W m c) (g m c) t.val (iblk m c 0 t) (iblk m c 1 t)
    (iblk m c 2 t) (iblk m c 3 t) (iblk m c 4 t) (iblk m c 5 t) (iblk m c 6 t) (iblk m c 7 t) where
  x := iblk_0 m c t
  p := iblk_1 m c t
  q := iblk_2 m c t
  r := iblk_3 m c t
  s := iblk_4 m c t
  d := iblk_5 m c t
  g := iblk_6 m c t
  w := iblk_7 m c t

/-- The gradient of the gain holds the sum over the row tiles before tile `i`. -/
def GainTo (v : Vec Ideal S1x1024 .f32) (i : ℕ) : Prop :=
  ∀ l : Fin 1024, v (ix2 0 l) = ∑ n ∈ range (256 * i), termG (X m c) (E m c) l n

/-- The gradient of the weights holds the sum over the row tiles before tile `i`. -/
def WeightTo (v : Vec Ideal S8x1024x512 .f32) (i : ℕ) : Prop :=
  ∀ (j : Fin 8) (r : Fin 1024) (k : Fin 512), v (ix3 j r k) = ∑ n ∈ range (256 * i), termW (X m c) (g m c) (Z m c) r (512 * j + k) n

/-- The gradients of the gain and of the weights after the first point. -/
theorem sums_first (t : Fin cfg0.N) (h0 : t.val % 32 = 0) : GainTo m c (outsAt0 m c t.val t.isLt).2.1 (t.val + 1)
    ∧ WeightTo m c (outsAt0 m c t.val t.isLt).2.2 (t.val + 1) := by
  have ht : t.val = 0 := by have := point_lt t; omega
  rw [outsAt0_A m c t h0]
  constructor
  · intro l
    frame_out
    exact tile_step _ 256 t.val _ _ ((gain_zero l).trans (by rw [ht]; rfl)) (gain_step (reads m c t) _ l)
  · intro j r k
    frame_out
    exact tile_step _ 256 t.val _ _ ((weight_zero j r k).trans (by rw [ht]; rfl)) (weight_block (reads m c t) _ j r k)

/-- The gradients of the gain and of the weights after a later point. -/
theorem sums_later (t : Fin cfg0.N) (h0 : ¬t.val % 32 = 0)
    (hG : GainTo m c (outsAt0 m c (t.val - 1) (Nat.lt_of_le_of_lt (Nat.sub_le _ _) t.isLt)).2.1 t.val)
    (hW : WeightTo m c (outsAt0 m c (t.val - 1) (Nat.lt_of_le_of_lt (Nat.sub_le _ _) t.isLt)).2.2 t.val) :
    GainTo m c (outsAt0 m c t.val t.isLt).2.1 (t.val + 1) ∧ WeightTo m c (outsAt0 m c t.val t.isLt).2.2 (t.val + 1) := by
  rw [outsAt0_B m c t h0]
  constructor
  · intro l
    frame_out
    exact tile_step _ 256 t.val _ _ (hG l) (gain_step (reads m c t) _ l)
  · intro j r k
    frame_out
    exact tile_step _ 256 t.val _ _ (hW j r k) (weight_block (reads m c t) _ j r k)

/-- After every point the two sums have taken in the row tiles up to the point's own. -/
theorem state : ∀ (n : ℕ) (h : n < cfg0.N), GainTo m c (outsAt0 m c n h).2.1 (n + 1) ∧ WeightTo m c (outsAt0 m c n h).2.2 (n + 1) := by
  intro n
  induction n with
  | zero => intro h; exact sums_first m c ⟨0, h⟩ rfl
  | succ n ih =>
    intro h
    obtain ⟨hG, hW⟩ := ih (by omega)
    exact sums_later m c ⟨n + 1, h⟩ (by have := point_lt ⟨n + 1, h⟩; simp only at this ⊢; omega) hG hW

/-- The block of input gradients of every point. -/
theorem outX (t : Fin cfg0.N) (q : Fin 256) (l : Fin 1024) : (outsAt0 m c t.val t.isLt).1 (ix2 q l)
    = gradX (X m c) (g m c) (E m c) (D m c) (256 * t.val + q) l := by
  by_cases h0 : t.val % 32 = 0
  · rw [outsAt0_A m c t h0]; frame_out
    exact gradX_block (reads m c t) q l
  · rw [outsAt0_B m c t h0]; frame_out
    exact gradX_block (reads m c t) q l

/-- The array of input gradients. -/
theorem array_x : (dats m 0 c).arrAt 8 cfg0.N = fun i : S8192x1024.Idx => gradX (X m c) (g m c) (E m c) (D m c) (i 0) (i 1) := by
  refine (dats m 0 c).arrAt_eq_of_covers 8 _ (by decide +kernel) fun t hf y => ?_
  blk_simp [window_index t]
  rw [after0_8]
  exact (congrArg _ (eq_ix2 (a := 256) (b := 1024) y)).trans ((outX m c t (y 0) (y 1)).trans (by rw [Nat.mul_comm]))

/-- The gradient of the gain. -/
theorem array_g : (dats m 0 c).arrAt 9 cfg0.N = fun i : S1x1024.Idx => ∑ n ∈ range 8192, termG (X m c) (E m c) (i 1) n := by
  refine (dats m 0 c).arrAt_eq_of_covers 9 _ (by decide +kernel) fun t hf y => ?_
  blk_simp [window_index t]
  rw [after0_9]
  have ht : t.val + 1 = 32 := by have := (flush0_9 t).mp hf; have := point_lt t; omega
  have h := (state m c t.val t.isLt).1 (y 1)
  rw [ht] at h
  exact (congrArg _ (eq_ix2_row (b := 1024) y)).trans h

/-- The gradient of the weights. -/
theorem array_w : (dats m 0 c).arrAt 10 cfg0.N
    = fun i : S8x1024x512.Idx => ∑ n ∈ range 8192, termW (X m c) (g m c) (Z m c) (i 1) (512 * i 0 + i 2) n := by
  refine (dats m 0 c).arrAt_eq_of_covers 10 _ (by decide +kernel) fun t hf y => ?_
  blk_simp [window_index t]
  rw [after0_10]
  have ht : t.val + 1 = 32 := by have := (flush0_10 t).mp hf; have := point_lt t; omega
  have h := (state m c t.val t.isLt).2 (y 0) (y 1) (y 2)
  rw [ht] at h
  exact (congrArg _ (eq_ix3 (a := 8) (b := 1024) (d := 512) y)).trans h

end Cert.Kernel2Ideal.Point
end
-- ==== Proof.OddRef.lean ====
/-
  What the reference of the odd layers' projection gradient computes, stage by stage and entry by entry.
-/
module

public import proofs.«01_k».proof.Proof.Norm
public import proofs.«01_k».proof.Proof.Gen.Reference2Ideal.Run
public import Idealize.ShloMosaic.Lib.Pointwise

@[expose] public section
set_option maxRecDepth 16384
noncomputable section
open Idealize.ShloMosaic Idealize.ShloMosaic.TcCoe Idealize.SL.Sem
namespace Cert.Reference2Ideal.Read
open Cert.Reference2Ideal Cert.Reference2Ideal.Gen Cert.Reference2Ideal.Value Cert.Norm Cert.Attn Finset

/-- An array of rows. -/
abbrev Rows := FVec Idealize.ShloMosaic.Ideal S8192x1024 .f32

/-- The four incoming gradients side by side. -/
def tZ (p q r s : Rows) : FVec Idealize.ShloMosaic.Ideal S8192x4096 .f32 :=
  concatenate S8192x4096 1 [⟨S8192x1024, p⟩, ⟨S8192x1024, q⟩, ⟨S8192x1024, r⟩, ⟨S8192x1024, s⟩] concatenates_S8192x1024_S8192x1024_S8192x1024_S8192x1024_S8192x4096_d1

/-- The weights as one matrix. -/
def tW (w : FVec Idealize.ShloMosaic.Ideal S8x1024x512 .f32) : FVec Idealize.ShloMosaic.Ideal S1024x4096 .f32 :=
  shapeCast _ (transpose S1024x8x512 [1, 0, 2] w transposes_S8x1024x512_S1024x8x512_1_0_2) shapeCasts_S1024x8x512_S1024x4096

/-- The gradient of the normalised rows. -/
def tE (z : FVec Idealize.ShloMosaic.Ideal S8192x4096 .f32) (w : FVec Idealize.ShloMosaic.Ideal S1024x4096 .f32) : Rows :=
  Host.dotGeneral dot_S8192x4096_S1024x4096_S8192x1024_1_1_0_0_n_n none z w

/-- The gain, on every row. -/
def tG (g : FVec Idealize.ShloMosaic.Ideal S1x1024 .f32) : Rows :=
  broadcastInDim S8192x1024 ![0, 1] bcast_S1x1024_S8192x1024_0_1 (broadcastInDim S1x1024 ![1] bcast_S1024_S1x1024_1 (shapeCast _ g shapeCasts_S1x1024_S1024))

/-- The mean of each row's squares, with the small number added. -/
def tM (x : Rows) : FVec Idealize.ShloMosaic.Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
def tN (x : Rows) (M : FVec Idealize.ShloMosaic.Ideal S8192x1 .f32) : Rows :=
  mulf x (broadcastInDim S8192x1024 ![0, 1] bcast_S8192x1_S8192x1024_0_1 (Host.rsqrt M))

/-- The gradient of each row's mean square, divided among the columns. -/
def tS (x : Rows) (M : FVec Idealize.ShloMosaic.Ideal S8192x1 .f32) (y : Rows) : FVec Idealize.ShloMosaic.Ideal S8192 .f32 :=
  Host.reduceAdd (Host.divf (mulf (shapeCast _ (Host.reduceAdd (mulf x y) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt M) M))) (broadcastInDim S8192x1 ![] bcast_S_S8192x1 (constant S_ .f32 0x44800000#32))) (constant S_ .f32 0x00000000#32) reducesTo_S8192x1_S8192_d1 h_S_

/-- The gradient of the input. -/
def tX (x d : Rows) (M : FVec Idealize.ShloMosaic.Ideal S8192x1 .f32) (y : Rows) (s : FVec Idealize.ShloMosaic.Ideal S8192 .f32) : Rows :=
  addf (addf (addf d (mulf y (broadcastInDim S8192x1024 ![0, 1] bcast_S8192x1_S8192x1024_0_1 (Host.rsqrt M))))
    (mulf x (broadcastInDim S8192x1024 ![0] bcast_S8192_S8192x1024_0 s))) (mulf (broadcastInDim S8192x1024 ![0] bcast_S8192_S8192x1024_0 s) x)

/-- The gradient of the gain. -/
def tDg (N E : Rows) : FVec Idealize.ShloMosaic.Ideal S1x1024 .f32 :=
  shapeCast _ (Host.reduceAdd (shapeCast _ (Host.reduceAdd (mulf N E) (constant S_ .f32 0x00000000#32) reducesTo_S8192x1024_S1024_d0 h_S_) shapeCasts_S1024_S1x1024) (constant S_ .f32 0x00000000#32) reducesTo_S1x1024_S1024_d0 h_S_) shapeCasts_S1024_S1x1024

/-- The gradient of the weights. -/
def tDw (z : FVec Idealize.ShloMosaic.Ideal S8192x4096 .f32) (h : Rows) : FVec Idealize.ShloMosaic.Ideal S8x1024x512 .f32 :=
  transpose S8x1024x512 [1, 0, 2] (shapeCast _ (transpose S1024x4096 [1, 0] (Host.dotGeneral dot_S8192x4096_S8192x1024_S4096x1024_0_0_1_1_n_n none z h) transposes_S4096x1024_S1024x4096_1_0) shapeCasts_S1024x4096_S1024x8x512) transposes_S1024x8x512_S8x1024x512_1_0_2

/-- An entry of four arrays side by side. -/
theorem tZ_at (p q r s : Rows) (n : Fin 8192) (a : Fin 4096) :
    (tZ p q r s (ix2 n a) : EReal) = beside (nat2 p) (nat2 q) (nat2 r) (nat2 s) n a := by
  pointwise [tZ]
  unfold beside
  split_ifs <;> first | omega | exact nat2_apply _ _ _

/-- An entry of the weights as one matrix. -/
theorem tW_at (w : FVec Idealize.ShloMosaic.Ideal S8x1024x512 .f32) (r : Fin 1024) (a : Fin 4096) : (tW w (ix2 r a) : EReal) = wide w r a := by
  pointwise [tW]
  exact wide_at w _ r _ _ _ rfl (by show 512 * (a.val / 512) + a.val % 512 = a; omega)

/-- An entry of the gradient of the normalised rows. -/
theorem tE_at (p q r s : Rows) (w : FVec Idealize.ShloMosaic.Ideal S8x1024x512 .f32) (n : Fin 8192) (l : Fin 1024) :
    (tE (tZ p q r s) (tW w) (ix2 n l) : EReal) = back 4096 (beside (nat2 p) (nat2 q) (nat2 r) (nat2 s)) (wide w) n l := by
  pointwise [tE]
  exact (sum_mul_eq _ _ _ _ (fun a => tZ_at p q r s n a) (fun a => tW_at w l a)).trans (back_eq 4096 _ _ n l)

/-- An entry of the gain. -/
theorem tG_at (g : FVec Idealize.ShloMosaic.Ideal S1x1024 .f32) (n : Fin 8192) (l : Fin 1024) : (tG g (ix2 n l) : EReal) = row g l := by
  pointwise [tG]
  exact row_at g l l rfl

/-- The mean of a row's squares. -/
theorem tM_at (x : Rows) (n : Fin 8192) : (tM x (ix2 n 0) : EReal) = ms (nat2 x) n := by
  pointwise [tM]
  exact congrArg (fun z : EReal => Ideal.div z width + small) (sum_mul_eq _ _ _ _ (fun k => nat2_apply x n k) (fun k => nat2_apply x n k))

/-- An entry of a row divided by its root mean square. -/
theorem tN_at (x : Rows) (n : Fin 8192) (l : Fin 1024) : (tN x (tM x) (ix2 n l) : EReal) = nat2 x n l * inv (nat2 x) n := by
  pointwise [tN]
  exact congrArg₂ (fun a b : EReal => a * Ideal.rsqrt b) (nat2_apply x n l) (tM_at x n)

/-- An entry of a normalised row. -/
theorem tH_at (x : Rows) (g : FVec Idealize.ShloMosaic.Ideal S1x1024 .f32) (n : Fin 8192) (l : Fin 1024) :
    (mulf (tN x (tM x)) (tG g) (ix2 n l) : EReal) = hid (nat2 x) (row g) n l := by
  exact congrArg₂ (fun a b : EReal => a * b) (tN_at x n l) (tG_at g n l)

/-- The gradient of the normalised rows times the gain. -/
theorem tY_at (E : ℕ → ℕ → EReal) (e : Rows) (he : ∀ (n : Fin 8192) (l : Fin 1024), (e (ix2 n l) : EReal) = E n l)
    (g : FVec Idealize.ShloMosaic.Ideal S1x1024 .f32) (n : Fin 8192) (l : Fin 1024) :
    (mulf e (tG g) (ix2 n l) : EReal) = E n l * row g l := by
  exact congrArg₂ (fun a b : EReal => a * b) (he n l) (tG_at g n l)

/-- The gradient of a row's mean square, divided among the columns. -/
theorem tS_at (E : ℕ → ℕ → EReal) (e : Rows) (he : ∀ (n : Fin 8192) (l : Fin 1024), (e (ix2 n l) : EReal) = E n l)
    (x : Rows) (g : FVec Idealize.ShloMosaic.Ideal S1x1024 .f32) (n : Fin 8192) :
    (tS x (tM x) (mulf e (tG g)) (ix1 n) : EReal) = slope (nat2 x) (row g) E n := by
  pointwise [tS]
  refine (Fin.sum_univ_one _).trans ?_
  exact congrArg₂ (fun a b : EReal => Ideal.div (a * (mhalf * Ideal.div (Ideal.rsqrt b) b)) width)
    (sum_mul_eq _ _ _ _ (fun k => nat2_apply x n k) (fun k => tY_at E e he g n k)) (tM_at x n)

/-- An entry of the gradient of the input. -/
theorem tX_at (E : ℕ → ℕ → EReal) (e : Rows) (he : ∀ (n : Fin 8192) (l : Fin 1024), (e (ix2 n l) : EReal) = E n l)
    (x d : Rows) (g : FVec Idealize.ShloMosaic.Ideal S1x1024 .f32) (n : Fin 8192) (l : Fin 1024) :
    (tX x d (tM x) (mulf e (tG g)) (tS x (tM x) (mulf e (tG g))) (ix2 n l) : EReal) = gradX (nat2 x) (row g) E (nat2 d) n l := by
  pointwise [tX]
  refine (sum_of_parts (nat2_apply d n l) (tY_at E e he g n l) (tM_at x n) (nat2_apply x n l) (tS_at E e he x g n)).trans ?_
  unfold gradX Cert.Norm.inv
  abel

/-- An entry of the gradient of the gain. -/
theorem tDg_at (E : ℕ → ℕ → EReal) (e : Rows) (he : ∀ (n : Fin 8192) (l : Fin 1024), (e (ix2 n l) : EReal) = E n l)
    (x : Rows) (l : Fin 1024) : (tDg (tN x (tM x)) e (ix2 0 l) : EReal) = ∑ n ∈ range 8192, termG (nat2 x) E l n := by
  pointwise [tDg]
  refine (Fin.sum_univ_one _).trans ?_
  exact (sum_mul_eq _ _ _ _ (fun n => tN_at x n l) (fun n => he n l)).trans (Fin.sum_univ_eq_sum_range (fun n => termG (nat2 x) E l n) 8192)

/-- An entry of the gradient of the weights. -/
theorem tDw_at (p q r s x : Rows) (g : FVec Idealize.ShloMosaic.Ideal S1x1024 .f32) (j : Fin 8) (c : Fin 1024) (k : Fin 512) :
    (tDw (tZ p q r s) (mulf (tN x (tM x)) (tG g)) (ix3 j c k) : EReal)
      = ∑ n ∈ range 8192, termW (nat2 x) (row g) (beside (nat2 p) (nat2 q) (nat2 r) (nat2 s)) c (512 * j + k) n := by
  pointwise [tDw]
  refine (prod_swap (fun n : Fin 8192 => tH_at x g n c) (fun n => (tZ_at p q r s n _).trans (congrArg (beside _ _ _ _ n) ?_))).trans
    (Fin.sum_univ_eq_sum_range (fun n => termW (nat2 x) (row g) (beside (nat2 p) (nat2 q) (nat2 r) (nat2 s)) c (512 * j + k) n) 8192)
  show j.val * 512 + k.val = _
  omega

variable (m : (ℓ : Loc nD τ sig) → Buf (Elt Idealize.ShloMosaic.Ideal) ℓ) (c : Dev nD)

/-- The gradient of the input. -/
theorem result_x (n : Fin 8192) (l : Fin 1024) : (res_main_v48 m c (ix2 n l) : EReal)
    = gradX (nat2 (m (c.tc.loc main_arg0))) (row (m (c.tc.loc main_arg1)))
        (back 4096 (beside (nat2 (m (c.tc.loc main_arg3))) (nat2 (m (c.tc.loc main_arg4))) (nat2 (m (c.tc.loc main_arg5)))
          (nat2 (m (c.tc.loc main_arg6)))) (wide (m (c.tc.loc main_arg2)))) (nat2 (m (c.tc.loc main_arg7))) n l :=
  tX_at _ (tE (tZ (m (c.tc.loc main_arg3)) (m (c.tc.loc main_arg4)) (m (c.tc.loc main_arg5)) (m (c.tc.loc main_arg6)))
    (tW (m (c.tc.loc main_arg2)))) (tE_at _ _ _ _ _) (m (c.tc.loc main_arg0)) (m (c.tc.loc main_arg7)) (m (c.tc.loc main_arg1)) n l

/-- The reference's second result. -/
def termDg : FVec Idealize.ShloMosaic.Ideal S1x1024 .f32 :=
  tDg (tN (m (c.tc.loc main_arg0)) (tM (m (c.tc.loc main_arg0))))
    (tE (tZ (m (c.tc.loc main_arg3)) (m (c.tc.loc main_arg4)) (m (c.tc.loc main_arg5)) (m (c.tc.loc main_arg6))) (tW (m (c.tc.loc main_arg2))))

/-- The reference's third result. -/
def termDw : FVec Idealize.ShloMosaic.Ideal S8x1024x512 .f32 :=
  tDw (tZ (m (c.tc.loc main_arg3)) (m (c.tc.loc main_arg4)) (m (c.tc.loc main_arg5)) (m (c.tc.loc main_arg6)))
    (mulf (tN (m (c.tc.loc main_arg0)) (tM (m (c.tc.loc main_arg0)))) (tG (m (c.tc.loc main_arg1))))

/-- The gradient of the gain. -/
theorem result_g (l : Fin 1024) : (termDg m c (ix2 0 l) : EReal)
    = ∑ n ∈ range 8192, termG (nat2 (m (c.tc.loc main_arg0)))
        (back 4096 (beside (nat2 (m (c.tc.loc main_arg3))) (nat2 (m (c.tc.loc main_arg4))) (nat2 (m (c.tc.loc main_arg5)))
          (nat2 (m (c.tc.loc main_arg6)))) (wide (m (c.tc.loc main_arg2)))) l n :=
  tDg_at _ _ (tE_at _ _ _ _ _) _ l

/-- The gradient of the weights. -/
theorem result_w (j : Fin 8) (r : Fin 1024) (k : Fin 512) : (termDw m c (ix3 j r k) : EReal)
    = ∑ n ∈ range 8192, termW (nat2 (m (c.tc.loc main_arg0))) (row (m (c.tc.loc main_arg1)))
        (beside (nat2 (m (c.tc.loc main_arg3))) (nat2 (m (c.tc.loc main_arg4))) (nat2 (m (c.tc.loc main_arg5)))
          (nat2 (m (c.tc.loc main_arg6)))) r (512 * j + k) n :=
  tDw_at _ _ _ _ _ _ j r k

end Cert.Reference2Ideal.Read
end
-- ==== Proof.OddClaim.lean ====
/-
  The odd layers' projection gradient: the kernel's three results are the reference's.
-/
module

public import proofs.«01_k».proof.Defs
public import proofs.«01_k».proof.Proof.OddState
public import proofs.«01_k».proof.Proof.OddRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.Odd
open Cert.Norm Cert.Attn

/-- The reference runs, leaves its arguments as they were, and has no counter that could end off zero. -/
theorem reference_frame : Cert.quiescent_Reference2Ideal (hReference2Ideal := Cert.Reference2Ideal.Gen.facts) := fun m g _ =>
  (θ_run _ _ _).mono (fun r h => ⟨fun c => (h c).2.2.2, sem_eq_zero_of_no_sems rfl r.2⟩) (Cert.Reference2Ideal.Value.run m g)

/-- The three results of the kernel and the reference are equal. -/
theorem algebraic : Cert.algebraic_Kernel2Ideal_Reference2Ideal (hKernel2Ideal := Cert.Kernel2Ideal.Gen.facts)
    (hReference2Ideal := Cert.Reference2Ideal.Gen.facts) := by
  intro m g m' g' _ hargs
  have e0 := fun c => congrArg nat2 (hargs c).1
  have e1 := fun c => congrArg row (hargs c).2.1
  have e2 := fun c => congrArg wide (hargs c).2.2.1
  have e3 := fun c => congrArg nat2 (hargs c).2.2.2.1
  have e4 := fun c => congrArg nat2 (hargs c).2.2.2.2.1
  have e5 := fun c => congrArg nat2 (hargs c).2.2.2.2.2.1
  have e6 := fun c => congrArg nat2 (hargs c).2.2.2.2.2.2.1
  have e7 := fun c => congrArg nat2 (hargs c).2.2.2.2.2.2.2
  have hx : ∀ c, Cert.Reference2Ideal.Value.res_main_v48 m' c = (Cert.Kernel2Ideal.Gen.dats m 0 c).arrAt 8 Cert.Kernel2Ideal.cfg0.N := fun c => by
    refine funext fun i => (congrArg _ (eq_ix2 (a := 8192) (b := 1024) i)).trans ?_
    refine (Cert.Reference2Ideal.Read.result_x m' c (i 0) (i 1)).trans (Eq.trans ?_ (congrFun (Cert.Kernel2Ideal.Point.array_x m c) i).symm)
    rw [e0 c, e1 c, e2 c, e3 c, e4 c, e5 c, e6 c, e7 c]
  have hg : ∀ c, Cert.Reference2Ideal.Read.termDg m' c = (Cert.Kernel2Ideal.Gen.dats m 0 c).arrAt 9 Cert.Kernel2Ideal.cfg0.N := fun c => by
    refine funext fun i => (congrArg _ (eq_ix2_row (b := 1024) i)).trans ?_
    refine (Cert.Reference2Ideal.Read.result_g m' c (i 1)).trans (Eq.trans ?_ (congrFun (Cert.Kernel2Ideal.Point.array_g m c) i).symm)
    rw [e0 c, e2 c, e3 c, e4 c, e5 c, e6 c]
  have hw : ∀ c, Cert.Reference2Ideal.Read.termDw m' c = (Cert.Kernel2Ideal.Gen.dats m 0 c).arrAt 10 Cert.Kernel2Ideal.cfg0.N := fun c => by
    refine funext fun i => (congrArg _ (eq_ix3 (a := 8) (b := 1024) (d := 512) i)).trans ?_
    refine (Cert.Reference2Ideal.Read.result_w m' c (i 0) (i 1) (i 2)).trans (Eq.trans ?_ (congrFun (Cert.Kernel2Ideal.Point.array_w m c) i).symm)
    rw [e0 c, e1 c, e3 c, e4 c, e5 c, e6 c]
  refine ⟨fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, ?_, ?_⟩
  · exact Cert.Kernel2Ideal.Value.run_blocks m g
  · exact (θ_run _ _ _).mono (fun r h c => ⟨(h c).1.trans (hx c), (h c).2.1.trans (hg c), (h c).2.2.1.trans (hw c), (h c).2.2.2⟩)
      (Cert.Reference2Ideal.Value.run m' g')

end Cert.Odd
end
-- ==== Proof.EvenBody.lean ====
/-
  What the body of the even layers' projection gradient computes at one grid point, 256 rows: the gradient of the normalised
  rows, the block of input gradients, and what the rows add to the gradients of the gain and of the weights.
-/
module

public import proofs.«01_k».proof.Proof.Norm
public import proofs.«01_k».proof.Proof.Gen.Kernel3Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel3Ideal.Body

open Cert.Kernel3Ideal Cert.Kernel3Ideal.Gen Cert.Norm Finset

/-- What a point's body reads: 256 rows of the input, of the eight incoming gradients (side by side they are `Z`) and of the
    residual's gradient, the gain and the weights. -/
structure Reads (X Z D W : ℕ → ℕ → EReal) (g : ℕ → EReal) (i : ℕ) (x0 : Vec Ideal S256x1024 .f32)
    (x1 x2 x3 x4 : Vec Ideal S256x128 .f32) (x5 x6 x7 x8 : Vec Ideal S256x512 .f32) (x9 : Vec Ideal S256x1024 .f32)
    (x10 : Vec Ideal S1x1024 .f32) (x11 : Vec Ideal S1024x2560 .f32) : Prop where
  x : ∀ (q : Fin 256) (l : Fin 1024), x0 (ix2 q l) = X (256 * i + q) l
  z : ∀ (q : Fin 256) (a : Fin 2560), k0_pay7 x1 x2 x3 x4 x5 x6 x7 x8 (ix2 q a) = Z (256 * i + q) a
  d : ∀ (q : Fin 256) (l : Fin 1024), x9 (ix2 q l) = D (256 * i + q) l
  g : ∀ (l : Fin 1024), x10 (ix2 0 l) = g l
  w : ∀ (c : Fin 1024) (a : Fin 2560), x11 (ix2 c a) = W c a

/-- Eight blocks side by side are a block of the arrays side by side. -/
theorem wide_block (P Q R S A B C E : ℕ → ℕ → EReal) (i : ℕ) (x1 x2 x3 x4 : Vec Ideal S256x128 .f32)
    (x5 x6 x7 x8 : Vec Ideal S256x512 .f32)
    (h1 : ∀ (q : Fin 256) (l : Fin 128), x1 (ix2 q l) = P (256 * i + q) l) (h2 : ∀ (q : Fin 256) (l : Fin 128), x2 (ix2 q l) = Q (256 * i + q) l)
    (h3 : ∀ (q : Fin 256) (l : Fin 128), x3 (ix2 q l) = R (256 * i + q) l) (h4 : ∀ (q : Fin 256) (l : Fin 128), x4 (ix2 q l) = S (256 * i + q) l)
    (h5 : ∀ (q : Fin 256) (l : Fin 512), x5 (ix2 q l) = A (256 * i + q) l) (h6 : ∀ (q : Fin 256) (l : Fin 512), x6 (ix2 q l) = B (256 * i + q) l)
    (h7 : ∀ (q : Fin 256) (l : Fin 512), x7 (ix2 q l) = C (256 * i + q) l) (h8 : ∀ (q : Fin 256) (l : Fin 512), x8 (ix2 q l) = E (256 * i + q) l)
    (q : Fin 256) (a : Fin 2560) : k0_pay7 x1 x2 x3 x4 x5 x6 x7 x8 (ix2 q a) = beside8 P Q R S A B C E (256 * i + q) a := by
  pointwise [k0_pay7]
  unfold beside8
  simp only [h1, h2, h3, h4, h5, h6, h7, h8]
  split_ifs <;> first | rfl | omega

variable {X Z D W : ℕ → ℕ → EReal} {g : ℕ → EReal} {i : ℕ} {x0 : Vec Ideal S256x1024 .f32}
  {x1 x2 x3 x4 : Vec Ideal S256x128 .f32} {x5 x6 x7 x8 : Vec Ideal S256x512 .f32} {x9 : Vec Ideal S256x1024 .f32}
  {x10 : Vec Ideal S1x1024 .f32} {x11 : Vec Ideal S1024x2560 .f32}

/-- The mean of a row's squares, with the small number added. -/
theorem ms_block (H : Reads X Z D W g i x0 x1 x2 x3 x4 x5 x6 x7 x8 x9 x10 x11) (q : Fin 256) :
    k0_pay8 x0 (ix2 q 0) = ms X (256 * i + q) := by
  pointwise [k0_pay8]
  simp only [H.x]
  rfl

/-- The normalised rows. -/
theorem hid_block (H : Reads X Z D W g i x0 x1 x2 x3 x4 x5 x6 x7 x8 x9 x10 x11) (q : Fin 256) (l : Fin 1024) :
    k0_pay12 x0 x10 (ix2 q l) = hid X g (256 * i + q) l := by
  pointwise [k0_pay12, k0_pay11, k0_pay9]
  simp only [ms_block H, H.x, H.g]
  rfl

/-- The normalised rows before the gain. -/
theorem norm_block (H : Reads X Z D W g i x0 x1 x2 x3 x4 x5 x6 x7 x8 x9 x10 x11) (q : Fin 256) (l : Fin 1024) :
    k0_pay11 x0 (ix2 q l) = X (256 * i + q) l * inv X (256 * i + q) := by
  pointwise [k0_pay11, k0_pay9]
  simp only [ms_block H, H.x]
  rfl

/-- The gradient of the normalised rows. -/
theorem back_block (H : Reads X Z D W g i x0 x1 x2 x3 x4 x5 x6 x7 x8 x9 x10 x11) (q : Fin 256) (l : Fin 1024) :
    k0_pay1 (k0_pay13 x1 x2 x3 x4 x5 x6 x7 x8) (k0_pay14 x11) (constant S256x1024 .f32 0x00000000#32) (ix2 q l) = back 2560 Z W (256 * i + q) l := by
  pointwise [k0_pay1, k0_pay13, k0_pay14]
  exact (sum_mul_eq _ _ _ _ (fun a => H.z q a) (fun a => H.w l a)).trans (back_eq 2560 Z W _ l)

/-- The gradient of the gain so far, with what the 256 rows add. -/
theorem gain_step (H : Reads X Z D W g i x0 x1 x2 x3 x4 x5 x6 x7 x8 x9 x10 x11) (old : Vec Ideal S1x1024 .f32) (l : Fin 1024) :
    k0_pay5 (k0_pay11 x0) (k0_pay13 x1 x2 x3 x4 x5 x6 x7 x8) (k0_pay14 x11) (constant S256x1024 .f32 0x00000000#32) old (ix2 0 l)
      = old (ix2 0 l) + ∑ q : Fin 256, termG X (back 2560 Z W) l (256 * i + q) := by
  pointwise [k0_pay5]
  exact congrArg (fun z : EReal => old (ix2 0 l) + z) (sum_mul_eq _ _ _ _ (fun q => norm_block H q l) (fun q => back_block H q l))

/-- The zeros that the gradient of the gain begins with. -/
theorem gain_zero (l : Fin 1024) : k0_pay3 (F := Ideal) (ix2 0 l) = (0 : EReal) := by
  pointwise [k0_pay3]

/-- The zeros that the gradient of the weights begins with. -/
theorem weight_zero (c : Fin 1024) (a : Fin 2560) : k0_pay4 (F := Ideal) (ix2 c a) = (0 : EReal) := by
  pointwise [k0_pay4]

/-- The block of input gradients. -/
theorem gradX_block (H : Reads X Z D W g i x0 x1 x2 x3 x4 x5 x6 x7 x8 x9 x10 x11) (q : Fin 256) (l : Fin 1024) :
    k0_pay2 x0 x9 x10 (k0_pay9 x0) (k0_pay10 x0) (k0_pay13 x1 x2 x3 x4 x5 x6 x7 x8) (k0_pay14 x11) (constant S256x1024 .f32 0x00000000#32) (ix2 q l)
      = gradX X g (back 2560 Z W) D (256 * i + q) l := by
  pointwise [k0_pay2, k0_pay10, k0_pay9]
  simp only [Fin.sum_univ_one]
  simp only [back_block H, ms_block H, H.x, H.d, H.g]
  rfl

/-- The gradient of the weights so far, with what the 256 rows add. -/
theorem weight_block (H : Reads X Z D W g i x0 x1 x2 x3 x4 x5 x6 x7 x8 x9 x10 x11) (old : Vec Ideal S1024x2560 .f32)
    (c : Fin 1024) (a : Fin 2560) :
    k0_pay6 (k0_pay7 x1 x2 x3 x4 x5 x6 x7 x8) (k0_pay12 x0 x10) old (ix2 c a)
      = old (ix2 c a) + ∑ q : Fin 256, termW X g Z c a (256 * i + q) := by
  pointwise [k0_pay6]
  exact congrArg (fun z : EReal => old (ix2 c a) + z) (sum_mul_eq _ _ _ _ (fun q => hid_block H q c) (fun q => H.z q a))

end Cert.Kernel3Ideal.Body
end
-- ==== Proof.EvenState.lean ====
/-
  What the even layers' projection gradient holds after each grid point, and its three result arrays: the blocks of input
  gradients, and the gradients of the gain and of the weights summed over the row tiles so far.
-/
module

public import proofs.«01_k».proof.Proof.EvenBody
public import proofs.«01_k».proof.Proof.Gen.Kernel3Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel3Ideal.Point
open Cert.Kernel3Ideal Cert.Kernel3Ideal.Gen Cert.Kernel3Ideal.Body Cert.Norm Cert.Attn Finset

variable (m : (ℓ : Loc nD τ sig) → Buf (Elt Ideal) ℓ) (c : Dev nD)

/-- The input rows. -/
abbrev X : ℕ → ℕ → EReal := nat2 (m (c.tc.loc main_arg0))
/-- The gain. -/
abbrev g : ℕ → EReal := row (m (c.tc.loc main_arg1))
/-- The weights. -/
abbrev W : ℕ → ℕ → EReal := nat2 (m (c.tc.loc main_arg2))
/-- The eight incoming gradients, side by side. -/
abbrev Z : ℕ → ℕ → EReal := beside8 (nat2 (m (c.tc.loc main_arg3))) (nat2 (m (c.tc.loc main_arg4))) (nat2 (m (c.tc.loc main_arg5))) (nat2 (m (c.tc.loc main_arg6)))
  (nat2 (m (c.tc.loc main_arg7))) (nat2 (m (c.tc.loc main_arg8))) (nat2 (m (c.tc.loc main_arg9))) (nat2 (m (c.tc.loc main_arg10)))
/-- The residual's gradient. -/
abbrev D : ℕ → ℕ → EReal := nat2 (m (c.tc.loc main_arg11))
/-- The gradient of the normalised rows. -/
abbrev E : ℕ → ℕ → EReal := back 2560 (Z m c) (W m c)

/-- The block that each operand's window gives a point. -/
theorem window_index : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![t.val, 0]
    ∧ win0_13.index t = ![0, 0]
    ∧ win0_14.index t = ![0, 0] := by
  decide +kernel

/-- There are thirty-two points. -/
theorem point_lt (t : Fin cfg0.N) : t.val < 32 := t.isLt

/-- The block of input rows. -/
theorem iblk_0 (t : Fin cfg0.N) (q : Fin 256) (l : Fin 1024) : iblk m c 0 t (ix2 q l) = nat2 (m (c.tc.loc main_arg0)) (256 * t.val + q) l := by
  have ht := point_lt t
  refine Eq.trans ?_ (nat2_apply (m (c.tc.loc main_arg0)) ⟨256 * t.val + q, by omega⟩ l)
  blk_ext [iblk, V_main_arg0, window_index t]

/-- The block of the first incoming gradient. -/
theorem iblk_1 (t : Fin cfg0.N) (q : Fin 256) (l : Fin 128) : iblk m c 1 t (ix2 q l) = nat2 (m (c.tc.loc main_arg3)) (256 * t.val + q) l := by
  have ht := point_lt t
  refine Eq.trans ?_ (nat2_apply (m (c.tc.loc main_arg3)) ⟨256 * t.val + q, by omega⟩ l)
  blk_ext [iblk, V_main_arg3, window_index t]

/-- The block of the second incoming gradient. -/
theorem iblk_2 (t : Fin cfg0.N) (q : Fin 256) (l : Fin 128) : iblk m c 2 t (ix2 q l) = nat2 (m (c.tc.loc main_arg4)) (256 * t.val + q) l := by
  have ht := point_lt t
  refine Eq.trans ?_ (nat2_apply (m (c.tc.loc main_arg4)) ⟨256 * t.val + q, by omega⟩ l)
  blk_ext [iblk, V_main_arg4, window_index t]

/-- The block of the third incoming gradient. -/
theorem iblk_3 (t : Fin cfg0.N) (q : Fin 256) (l : Fin 128) : iblk m c 3 t (ix2 q l) = nat2 (m (c.tc.loc main_arg5)) (256 * t.val + q) l := by
  have ht := point_lt t
  refine Eq.trans ?_ (nat2_apply (m (c.tc.loc main_arg5)) ⟨256 * t.val + q, by omega⟩ l)
  blk_ext [iblk, V_main_arg5, window_index t]

/-- The block of the fourth incoming gradient. -/
theorem iblk_4 (t : Fin cfg0.N) (q : Fin 256) (l : Fin 128) : iblk m c 4 t (ix2 q l) = nat2 (m (c.tc.loc main_arg6)) (256 * t.val + q) l := by
  have ht := point_lt t
  refine Eq.trans ?_ (nat2_apply (m (c.tc.loc main_arg6)) ⟨256 * t.val + q, by omega⟩ l)
  blk_ext [iblk, V_main_arg6, window_index t]

/-- The block of the fifth incoming gradient. -/
theorem iblk_5 (t : Fin cfg0.N) (q : Fin 256) (l : Fin 512) : iblk m c 5 t (ix2 q l) = nat2 (m (c.tc.loc main_arg7)) (256 * t.val + q) l := by
  have ht := point_lt t
  refine Eq.trans ?_ (nat2_apply (m (c.tc.loc main_arg7)) ⟨256 * t.val + q, by omega⟩ l)
  blk_ext [iblk, V_main_arg7, window_index t]

/-- The block of the sixth incoming gradient. -/
theorem iblk_6 (t : Fin cfg0.N) (q : Fin 256) (l : Fin 512) : iblk m c 6 t (ix2 q l) = nat2 (m (c.tc.loc main_arg8)) (256 * t.val + q) l := by
  have ht := point_lt t
  refine Eq.trans ?_ (nat2_apply (m (c.tc.loc main_arg8)) ⟨256 * t.val + q, by omega⟩ l)
  blk_ext [iblk, V_main_arg8, window_index t]

/-- The block of the seventh incoming gradient. -/
theorem iblk_7 (t : Fin cfg0.N) (q : Fin 256) (l : Fin 512) : iblk m c 7 t (ix2 q l) = nat2 (m (c.tc.loc main_arg9)) (256 * t.val + q) l := by
  have ht := point_lt t
  refine Eq.trans ?_ (nat2_apply (m (c.tc.loc main_arg9)) ⟨256 * t.val + q, by omega⟩ l)
  blk_ext [iblk, V_main_arg9, window_index t]

/-- The block of the eighth incoming gradient. -/
theorem iblk_8 (t : Fin cfg0.N) (q : Fin 256) (l : Fin 512) : iblk m c 8 t (ix2 q l) = nat2 (m (c.tc.loc main_arg10)) (256 * t.val + q) l := by
  have ht := point_lt t
  refine Eq.trans ?_ (nat2_apply (m (c.tc.loc main_arg10)) ⟨256 * t.val + q, by omega⟩ l)
  blk_ext [iblk, V_main_arg10, window_index t]

/-- The block of the residual's gradient. -/
theorem iblk_9 (t : Fin cfg0.N) (q : Fin 256) (l : Fin 1024) : iblk m c 9 t (ix2 q l) = nat2 (m (c.tc.loc main_arg11)) (256 * t.val + q) l := by
  have ht := point_lt t
  refine Eq.trans ?_ (nat2_apply (m (c.tc.loc main_arg11)) ⟨256 * t.val + q, by omega⟩ l)
  blk_ext [iblk, V_main_arg11, window_index t]

/-- The gain. -/
theorem iblk_10 (t : Fin cfg0.N) (l : Fin 1024) : iblk m c 10 t (ix2 0 l) = g m c l := by
  refine Eq.trans ?_ (row_at (m (c.tc.loc main_arg1)) l l rfl)
  blk_ext [iblk, V_main_arg1, window_index t]

/-- The weights. -/
theorem iblk_11 (t : Fin cfg0.N) (r : Fin 1024) (a : Fin 2560) : iblk m c 11 t (ix2 r a) = W m c r a := by
  refine Eq.trans ?_ (nat2_apply (m (c.tc.loc main_arg2)) r a)
  blk_ext [iblk, V_main_arg2, window_index t]

/-- What a point's body computes with. -/
theorem reads (t : Fin cfg0.N) : Reads (X m c) (Z m c) (D m c) (W m c) (g m c) t.val (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) where
  x := iblk_0 m c t
  z := wide_block _ _ _ _ _ _ _ _ _ _ _ _ _ _ _ _ _ (iblk_1 m c t) (iblk_2 m c t) (iblk_3 m c t) (iblk_4 m c t) (iblk_5 m c t)
    (iblk_6 m c t) (iblk_7 m c t) (iblk_8 m c t)
  d := iblk_9 m c t
  g := iblk_10 m c t
  w := iblk_11 m c t

/-- The gradient of the gain holds the sum over the row tiles before tile `i`. -/
def GainTo (v : Vec Ideal S1x1024 .f32) (i : ℕ) : Prop :=
  ∀ l : Fin 1024, v (ix2 0 l) = ∑ n ∈ range (256 * i), termG (X m c) (E m c) l n

/-- The gradient of the weights holds the sum over the row tiles before tile `i`. -/
def WeightTo (v : Vec Ideal S1024x2560 .f32) (i : ℕ) : Prop :=
  ∀ (r : Fin 1024) (a : Fin 2560), v (ix2 r a) = ∑ n ∈ range (256 * i), termW (X m c) (g m c) (Z m c) r a n

/-- The gradients of the gain and of the weights after the first point. -/
theorem sums_first (t : Fin cfg0.N) (h0 : t.val % 32 = 0) : GainTo m c (outsAt0 m c t.val t.isLt).2.1 (t.val + 1)
    ∧ WeightTo m c (outsAt0 m c t.val t.isLt).2.2 (t.val + 1) := by
  have ht : t.val = 0 := by have := point_lt t; omega
  rw [outsAt0_A m c t h0]
  constructor
  · intro l
    frame_out
    exact tile_step _ 256 t.val _ _ ((gain_zero l).trans (by rw [ht]; rfl)) (gain_step (reads m c t) _ l)
  · intro r a
    frame_out
    exact tile_step _ 256 t.val _ _ ((weight_zero r a).trans (by rw [ht]; rfl)) (weight_block (reads m c t) _ r a)

/-- The gradients of the gain and of the weights after a later point. -/
theorem sums_later (t : Fin cfg0.N) (h0 : ¬t.val % 32 = 0)
    (hG : GainTo m c (outsAt0 m c (t.val - 1) (Nat.lt_of_le_of_lt (Nat.sub_le _ _) t.isLt)).2.1 t.val)
    (hW : WeightTo m c (outsAt0 m c (t.val - 1) (Nat.lt_of_le_of_lt (Nat.sub_le _ _) t.isLt)).2.2 t.val) :
    GainTo m c (outsAt0 m c t.val t.isLt).2.1 (t.val + 1) ∧ WeightTo m c (outsAt0 m c t.val t.isLt).2.2 (t.val + 1) := by
  rw [outsAt0_B m c t h0]
  constructor
  · intro l
    frame_out
    exact tile_step _ 256 t.val _ _ (hG l) (gain_step (reads m c t) _ l)
  · intro r a
    frame_out
    exact tile_step _ 256 t.val _ _ (hW r a) (weight_block (reads m c t) _ r a)

/-- After every point the two sums have taken in the row tiles up to the point's own. -/
theorem state : ∀ (n : ℕ) (h : n < cfg0.N), GainTo m c (outsAt0 m c n h).2.1 (n + 1) ∧ WeightTo m c (outsAt0 m c n h).2.2 (n + 1) := by
  intro n
  induction n with
  | zero => intro h; exact sums_first m c ⟨0, h⟩ rfl
  | succ n ih =>
    intro h
    obtain ⟨hG, hW⟩ := ih (by omega)
    exact sums_later m c ⟨n + 1, h⟩ (by have := point_lt ⟨n + 1, h⟩; simp only at this ⊢; omega) hG hW

/-- The block of input gradients of every point. -/
theorem outX (t : Fin cfg0.N) (q : Fin 256) (l : Fin 1024) : (outsAt0 m c t.val t.isLt).1 (ix2 q l)
    = gradX (X m c) (g m c) (E m c) (D m c) (256 * t.val + q) l := by
  by_cases h0 : t.val % 32 = 0
  · rw [outsAt0_A m c t h0]; frame_out
    exact gradX_block (reads m c t) q l
  · rw [outsAt0_B m c t h0]; frame_out
    exact gradX_block (reads m c t) q l

/-- The array of input gradients. -/
theorem array_x : (dats m 0 c).arrAt 12 cfg0.N = fun i : S8192x1024.Idx => gradX (X m c) (g m c) (E m c) (D m c) (i 0) (i 1) := by
  refine (dats m 0 c).arrAt_eq_of_covers 12 _ (by decide +kernel) fun t hf y => ?_
  blk_simp [window_index t]
  rw [after0_12]
  exact (congrArg _ (eq_ix2 (a := 256) (b := 1024) y)).trans ((outX m c t (y 0) (y 1)).trans (by rw [Nat.mul_comm]))

/-- The gradient of the gain. -/
theorem array_g : (dats m 0 c).arrAt 13 cfg0.N = fun i : S1x1024.Idx => ∑ n ∈ range 8192, termG (X m c) (E m c) (i 1) n := by
  refine (dats m 0 c).arrAt_eq_of_covers 13 _ (by decide +kernel) fun t hf y => ?_
  blk_simp [window_index t]
  rw [after0_13]
  have ht : t.val + 1 = 32 := by have := (flush0_13 t).mp hf; have := point_lt t; omega
  have h := (state m c t.val t.isLt).1 (y 1)
  rw [ht] at h
  exact (congrArg _ (eq_ix2_row (b := 1024) y)).trans h

/-- The gradient of the weights. -/
theorem array_w : (dats m 0 c).arrAt 14 cfg0.N
    = fun i : S1024x2560.Idx => ∑ n ∈ range 8192, termW (X m c) (g m c) (Z m c) (i 0) (i 1) n := by
  refine (dats m 0 c).arrAt_eq_of_covers 14 _ (by decide +kernel) fun t hf y => ?_
  blk_simp [window_index t]
  rw [after0_14]
  have ht : t.val + 1 = 32 := by have := (flush0_14 t).mp hf; have := point_lt t; omega
  have h := (state m c t.val t.isLt).2 (y 0) (y 1)
  rw [ht] at h
  exact (congrArg _ (eq_ix2 (a := 1024) (b := 2560) y)).trans h

end Cert.Kernel3Ideal.Point
end
-- ==== Proof.EvenRef.lean ====
/-
  What the reference of the even layers' projection gradient computes, stage by stage and entry by entry.
-/
module

public import proofs.«01_k».proof.Proof.Norm
public import proofs.«01_k».proof.Proof.Gen.Reference3Ideal.Run
public import Idealize.ShloMosaic.Lib.Pointwise

@[expose] public section
set_option maxRecDepth 16384
noncomputable section
open Idealize.ShloMosaic Idealize.ShloMosaic.TcCoe Idealize.SL.Sem
namespace Cert.Reference3Ideal.Read
open Cert.Reference3Ideal Cert.Reference3Ideal.Gen Cert.Reference3Ideal.Value Cert.Norm Cert.Attn Finset

/-- An array of rows. -/
abbrev Rows := FVec Idealize.ShloMosaic.Ideal S8192x1024 .f32

/-- An array of 128 columns. -/
abbrev Quarter := FVec Idealize.ShloMosaic.Ideal S8192x128 .f32
/-- An array of 512 columns. -/
abbrev Half := FVec Idealize.ShloMosaic.Ideal S8192x512 .f32

/-- The eight incoming gradients side by side. -/
def tZ (p q r s : Quarter) (a b d e : Half) : FVec Idealize.ShloMosaic.Ideal S8192x2560 .f32 :=
  concatenate S8192x2560 1 [⟨S8192x512, concatenate S8192x512 1 [⟨S8192x128, p⟩, ⟨S8192x128, q⟩, ⟨S8192x128, r⟩, ⟨S8192x128, s⟩] concatenates_S8192x128_S8192x128_S8192x128_S8192x128_S8192x512_d1⟩,
    ⟨S8192x512, a⟩, ⟨S8192x512, b⟩, ⟨S8192x512, d⟩, ⟨S8192x512, e⟩] concatenates_S8192x512_S8192x512_S8192x512_S8192x512_S8192x512_S8192x2560_d1

/-- The gradient of the normalised rows. -/
def tE (z : FVec Idealize.ShloMosaic.Ideal S8192x2560 .f32) (w : FVec Idealize.ShloMosaic.Ideal S1024x2560 .f32) : Rows :=
  Host.dotGeneral dot_S8192x2560_S1024x2560_S8192x1024_1_1_0_0_n_n none z w

/-- The gain, on every row. -/
def tG (g : FVec Idealize.ShloMosaic.Ideal S1x1024 .f32) : Rows :=
  broadcastInDim S8192x1024 ![0, 1] bcast_S1x1024_S8192x1024_0_1 (broadcastInDim S1x1024 ![1] bcast_S1024_S1x1024_1 (shapeCast _ g shapeCasts_S1x1024_S1024))

/-- The mean of each row's squares, with the small number added. -/
def tM (x : Rows) : FVec Idealize.ShloMosaic.Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
def tN (x : Rows) (M : FVec Idealize.ShloMosaic.Ideal S8192x1 .f32) : Rows :=
  mulf x (broadcastInDim S8192x1024 ![0, 1] bcast_S8192x1_S8192x1024_0_1 (Host.rsqrt M))

/-- The gradient of each row's mean square, divided among the columns. -/
def tS (x : Rows) (M : FVec Idealize.ShloMosaic.Ideal S8192x1 .f32) (y : Rows) : FVec Idealize.ShloMosaic.Ideal S8192 .f32 :=
  Host.reduceAdd (Host.divf (mulf (shapeCast _ (Host.reduceAdd (mulf x y) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt M) M))) (broadcastInDim S8192x1 ![] bcast_S_S8192x1 (constant S_ .f32 0x44800000#32))) (constant S_ .f32 0x00000000#32) reducesTo_S8192x1_S8192_d1 h_S_

/-- The gradient of the input. -/
def tX (x d : Rows) (M : FVec Idealize.ShloMosaic.Ideal S8192x1 .f32) (y : Rows) (s : FVec Idealize.ShloMosaic.Ideal S8192 .f32) : Rows :=
  addf (addf (addf d (mulf y (broadcastInDim S8192x1024 ![0, 1] bcast_S8192x1_S8192x1024_0_1 (Host.rsqrt M))))
    (mulf x (broadcastInDim S8192x1024 ![0] bcast_S8192_S8192x1024_0 s))) (mulf (broadcastInDim S8192x1024 ![0] bcast_S8192_S8192x1024_0 s) x)

/-- The gradient of the gain. -/
def tDg (N E : Rows) : FVec Idealize.ShloMosaic.Ideal S1x1024 .f32 :=
  shapeCast _ (Host.reduceAdd (shapeCast _ (Host.reduceAdd (mulf N E) (constant S_ .f32 0x00000000#32) reducesTo_S8192x1024_S1024_d0 h_S_) shapeCasts_S1024_S1x1024) (constant S_ .f32 0x00000000#32) reducesTo_S1x1024_S1024_d0 h_S_) shapeCasts_S1024_S1x1024

/-- The gradient of the weights. -/
def tDw (z : FVec Idealize.ShloMosaic.Ideal S8192x2560 .f32) (h : Rows) : FVec Idealize.ShloMosaic.Ideal S1024x2560 .f32 :=
  transpose S1024x2560 [1, 0] (Host.dotGeneral dot_S8192x2560_S8192x1024_S2560x1024_0_0_1_1_n_n none z h) transposes_S2560x1024_S1024x2560_1_0

/-- An entry of the eight arrays side by side. -/
theorem tZ_at (p q r s : Quarter) (a b d e : Half) (n : Fin 8192) (k : Fin 2560) :
    (tZ p q r s a b d e (ix2 n k) : EReal) = beside8 (nat2 p) (nat2 q) (nat2 r) (nat2 s) (nat2 a) (nat2 b) (nat2 d) (nat2 e) n k := by
  pointwise [tZ]
  unfold beside8
  repeat' split
  all_goals first | omega | exact nat2_at _ _ _ _ _ rfl rfl | exact nat2_at _ _ _ _ _ rfl (by show _ - _ = _ - _; omega)

/-- An entry of the gradient of the normalised rows. -/
theorem tE_at (p q r s : Quarter) (a b d e : Half) (w : FVec Idealize.ShloMosaic.Ideal S1024x2560 .f32) (n : Fin 8192) (l : Fin 1024) :
    (tE (tZ p q r s a b d e) w (ix2 n l) : EReal) = back 2560 (beside8 (nat2 p) (nat2 q) (nat2 r) (nat2 s) (nat2 a) (nat2 b) (nat2 d) (nat2 e)) (nat2 w) n l := by
  pointwise [tE]
  exact (sum_mul_eq _ _ _ _ (fun k => tZ_at p q r s a b d e n k) (fun k => nat2_apply w l k)).trans (back_eq 2560 _ _ n l)

/-- An entry of the gain. -/
theorem tG_at (g : FVec Idealize.ShloMosaic.Ideal S1x1024 .f32) (n : Fin 8192) (l : Fin 1024) : (tG g (ix2 n l) : EReal) = row g l := by
  pointwise [tG]
  exact row_at g l l rfl

/-- The mean of a row's squares. -/
theorem tM_at (x : Rows) (n : Fin 8192) : (tM x (ix2 n 0) : EReal) = ms (nat2 x) n := by
  pointwise [tM]
  exact congrArg (fun z : EReal => Ideal.div z width + small) (sum_mul_eq _ _ _ _ (fun k => nat2_apply x n k) (fun k => nat2_apply x n k))

/-- An entry of a row divided by its root mean square. -/
theorem tN_at (x : Rows) (n : Fin 8192) (l : Fin 1024) : (tN x (tM x) (ix2 n l) : EReal) = nat2 x n l * inv (nat2 x) n := by
  pointwise [tN]
  exact congrArg₂ (fun a b : EReal => a * Ideal.rsqrt b) (nat2_apply x n l) (tM_at x n)

/-- An entry of a normalised row. -/
theorem tH_at (x : Rows) (g : FVec Idealize.ShloMosaic.Ideal S1x1024 .f32) (n : Fin 8192) (l : Fin 1024) :
    (mulf (tN x (tM x)) (tG g) (ix2 n l) : EReal) = hid (nat2 x) (row g) n l := by
  exact congrArg₂ (fun a b : EReal => a * b) (tN_at x n l) (tG_at g n l)

/-- The gradient of the normalised rows times the gain. -/
theorem tY_at (E : ℕ → ℕ → EReal) (e : Rows) (he : ∀ (n : Fin 8192) (l : Fin 1024), (e (ix2 n l) : EReal) = E n l)
    (g : FVec Idealize.ShloMosaic.Ideal S1x1024 .f32) (n : Fin 8192) (l : Fin 1024) :
    (mulf e (tG g) (ix2 n l) : EReal) = E n l * row g l := by
  exact congrArg₂ (fun a b : EReal => a * b) (he n l) (tG_at g n l)

/-- The gradient of a row's mean square, divided among the columns. -/
theorem tS_at (E : ℕ → ℕ → EReal) (e : Rows) (he : ∀ (n : Fin 8192) (l : Fin 1024), (e (ix2 n l) : EReal) = E n l)
    (x : Rows) (g : FVec Idealize.ShloMosaic.Ideal S1x1024 .f32) (n : Fin 8192) :
    (tS x (tM x) (mulf e (tG g)) (ix1 n) : EReal) = slope (nat2 x) (row g) E n := by
  pointwise [tS]
  refine (Fin.sum_univ_one _).trans ?_
  exact congrArg₂ (fun a b : EReal => Ideal.div (a * (mhalf * Ideal.div (Ideal.rsqrt b) b)) width)
    (sum_mul_eq _ _ _ _ (fun k => nat2_apply x n k) (fun k => tY_at E e he g n k)) (tM_at x n)

/-- An entry of the gradient of the input. -/
theorem tX_at (E : ℕ → ℕ → EReal) (e : Rows) (he : ∀ (n : Fin 8192) (l : Fin 1024), (e (ix2 n l) : EReal) = E n l)
    (x d : Rows) (g : FVec Idealize.ShloMosaic.Ideal S1x1024 .f32) (n : Fin 8192) (l : Fin 1024) :
    (tX x d (tM x) (mulf e (tG g)) (tS x (tM x) (mulf e (tG g))) (ix2 n l) : EReal) = gradX (nat2 x) (row g) E (nat2 d) n l := by
  pointwise [tX]
  refine (sum_of_parts (nat2_apply d n l) (tY_at E e he g n l) (tM_at x n) (nat2_apply x n l) (tS_at E e he x g n)).trans ?_
  unfold gradX Cert.Norm.inv
  abel

/-- An entry of the gradient of the gain. -/
theorem tDg_at (E : ℕ → ℕ → EReal) (e : Rows) (he : ∀ (n : Fin 8192) (l : Fin 1024), (e (ix2 n l) : EReal) = E n l)
    (x : Rows) (l : Fin 1024) : (tDg (tN x (tM x)) e (ix2 0 l) : EReal) = ∑ n ∈ range 8192, termG (nat2 x) E l n := by
  pointwise [tDg]
  refine (Fin.sum_univ_one _).trans ?_
  exact (sum_mul_eq _ _ _ _ (fun n => tN_at x n l) (fun n => he n l)).trans (Fin.sum_univ_eq_sum_range (fun n => termG (nat2 x) E l n) 8192)

/-- An entry of the gradient of the weights. -/
theorem tDw_at (p q r s : Quarter) (a b d e : Half) (x : Rows) (g : FVec Idealize.ShloMosaic.Ideal S1x1024 .f32) (c : Fin 1024) (k : Fin 2560) :
    (tDw (tZ p q r s a b d e) (mulf (tN x (tM x)) (tG g)) (ix2 c k) : EReal)
      = ∑ n ∈ range 8192, termW (nat2 x) (row g) (beside8 (nat2 p) (nat2 q) (nat2 r) (nat2 s) (nat2 a) (nat2 b) (nat2 d) (nat2 e)) c k n := by
  pointwise [tDw]
  exact (prod_swap (fun n : Fin 8192 => tH_at x g n c) (fun n => tZ_at p q r s a b d e n k)).trans
    (Fin.sum_univ_eq_sum_range (fun n => termW (nat2 x) (row g) (beside8 (nat2 p) (nat2 q) (nat2 r) (nat2 s) (nat2 a) (nat2 b) (nat2 d) (nat2 e)) c k n) 8192)

variable (m : (ℓ : Loc nD τ sig) → Buf (Elt Idealize.ShloMosaic.Ideal) ℓ) (c : Dev nD)

/-- The gradient of the input. -/
theorem result_x (n : Fin 8192) (l : Fin 1024) : (res_main_v48 m c (ix2 n l) : EReal)
    = gradX (nat2 (m (c.tc.loc main_arg0))) (row (m (c.tc.loc main_arg1)))
        (back 2560 (beside8 (nat2 (m (c.tc.loc main_arg3))) (nat2 (m (c.tc.loc main_arg4))) (nat2 (m (c.tc.loc main_arg5))) (nat2 (m (c.tc.loc main_arg6)))
          (nat2 (m (c.tc.loc main_arg7))) (nat2 (m (c.tc.loc main_arg8))) (nat2 (m (c.tc.loc main_arg9))) (nat2 (m (c.tc.loc main_arg10)))) (nat2 (m (c.tc.loc main_arg2)))) (nat2 (m (c.tc.loc main_arg11))) n l :=
  tX_at _ (tE (tZ (m (c.tc.loc main_arg3)) (m (c.tc.loc main_arg4)) (m (c.tc.loc main_arg5)) (m (c.tc.loc main_arg6))
      (m (c.tc.loc main_arg7)) (m (c.tc.loc main_arg8)) (m (c.tc.loc main_arg9)) (m (c.tc.loc main_arg10)))
    (m (c.tc.loc main_arg2))) (tE_at _ _ _ _ _ _ _ _ _) (m (c.tc.loc main_arg0)) (m (c.tc.loc main_arg11)) (m (c.tc.loc main_arg1)) n l

/-- The reference's second result. -/
def termDg : FVec Idealize.ShloMosaic.Ideal S1x1024 .f32 :=
  tDg (tN (m (c.tc.loc main_arg0)) (tM (m (c.tc.loc main_arg0))))
    (tE (tZ (m (c.tc.loc main_arg3)) (m (c.tc.loc main_arg4)) (m (c.tc.loc main_arg5)) (m (c.tc.loc main_arg6))
      (m (c.tc.loc main_arg7)) (m (c.tc.loc main_arg8)) (m (c.tc.loc main_arg9)) (m (c.tc.loc main_arg10))) (m (c.tc.loc main_arg2)))

/-- The reference's third result. -/
def termDw : FVec Idealize.ShloMosaic.Ideal S1024x2560 .f32 :=
  tDw (tZ (m (c.tc.loc main_arg3)) (m (c.tc.loc main_arg4)) (m (c.tc.loc main_arg5)) (m (c.tc.loc main_arg6))
      (m (c.tc.loc main_arg7)) (m (c.tc.loc main_arg8)) (m (c.tc.loc main_arg9)) (m (c.tc.loc main_arg10)))
    (mulf (tN (m (c.tc.loc main_arg0)) (tM (m (c.tc.loc main_arg0)))) (tG (m (c.tc.loc main_arg1))))

/-- The gradient of the gain. -/
theorem result_g (l : Fin 1024) : (termDg m c (ix2 0 l) : EReal)
    = ∑ n ∈ range 8192, termG (nat2 (m (c.tc.loc main_arg0)))
        (back 2560 (beside8 (nat2 (m (c.tc.loc main_arg3))) (nat2 (m (c.tc.loc main_arg4))) (nat2 (m (c.tc.loc main_arg5))) (nat2 (m (c.tc.loc main_arg6)))
          (nat2 (m (c.tc.loc main_arg7))) (nat2 (m (c.tc.loc main_arg8))) (nat2 (m (c.tc.loc main_arg9))) (nat2 (m (c.tc.loc main_arg10)))) (nat2 (m (c.tc.loc main_arg2)))) l n :=
  tDg_at _ _ (tE_at _ _ _ _ _ _ _ _ _) _ l

/-- The gradient of the weights. -/
theorem result_w (r : Fin 1024) (k : Fin 2560) : (termDw m c (ix2 r k) : EReal)
    = ∑ n ∈ range 8192, termW (nat2 (m (c.tc.loc main_arg0))) (row (m (c.tc.loc main_arg1)))
        (beside8 (nat2 (m (c.tc.loc main_arg3))) (nat2 (m (c.tc.loc main_arg4))) (nat2 (m (c.tc.loc main_arg5))) (nat2 (m (c.tc.loc main_arg6)))
          (nat2 (m (c.tc.loc main_arg7))) (nat2 (m (c.tc.loc main_arg8))) (nat2 (m (c.tc.loc main_arg9))) (nat2 (m (c.tc.loc main_arg10)))) r k n :=
  tDw_at _ _ _ _ _ _ _ _ _ _ r k

end Cert.Reference3Ideal.Read
end
-- ==== Proof.EvenClaim.lean ====
/-
  The even layers' projection gradient: the kernel's three results are the reference's.
-/
module

public import proofs.«01_k».proof.Defs
public import proofs.«01_k».proof.Proof.EvenState
public import proofs.«01_k».proof.Proof.EvenRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.Even
open Cert.Norm Cert.Attn

/-- The reference runs, leaves its arguments as they were, and has no counter that could end off zero. -/
theorem reference_frame : Cert.quiescent_Reference3Ideal (hReference3Ideal := Cert.Reference3Ideal.Gen.facts) := fun m g _ =>
  (θ_run _ _ _).mono (fun r h => ⟨fun c => (h c).2.2.2, sem_eq_zero_of_no_sems rfl r.2⟩) (Cert.Reference3Ideal.Value.run m g)

/-- The three results of the kernel and the reference are equal. -/
theorem algebraic : Cert.algebraic_Kernel3Ideal_Reference3Ideal (hKernel3Ideal := Cert.Kernel3Ideal.Gen.facts)
    (hReference3Ideal := Cert.Reference3Ideal.Gen.facts) := by
  intro m g m' g' _ hargs
  have e0 := fun c => congrArg nat2 (hargs c).1
  have e1 := fun c => congrArg row (hargs c).2.1
  have e2 := fun c => congrArg nat2 (hargs c).2.2.1
  have e3 := fun c => congrArg nat2 (hargs c).2.2.2.1
  have e4 := fun c => congrArg nat2 (hargs c).2.2.2.2.1
  have e5 := fun c => congrArg nat2 (hargs c).2.2.2.2.2.1
  have e6 := fun c => congrArg nat2 (hargs c).2.2.2.2.2.2.1
  have e7 := fun c => congrArg nat2 (hargs c).2.2.2.2.2.2.2.1
  have e8 := fun c => congrArg nat2 (hargs c).2.2.2.2.2.2.2.2.1
  have e9 := fun c => congrArg nat2 (hargs c).2.2.2.2.2.2.2.2.2.1
  have e10 := fun c => congrArg nat2 (hargs c).2.2.2.2.2.2.2.2.2.2.1
  have e11 := fun c => congrArg nat2 (hargs c).2.2.2.2.2.2.2.2.2.2.2
  have hx : ∀ c, Cert.Reference3Ideal.Value.res_main_v48 m' c = (Cert.Kernel3Ideal.Gen.dats m 0 c).arrAt 12 Cert.Kernel3Ideal.cfg0.N := fun c => by
    refine funext fun i => (congrArg _ (eq_ix2 (a := 8192) (b := 1024) i)).trans ?_
    refine (Cert.Reference3Ideal.Read.result_x m' c (i 0) (i 1)).trans (Eq.trans ?_ (congrFun (Cert.Kernel3Ideal.Point.array_x m c) i).symm)
    rw [e0 c, e1 c, e2 c, e3 c, e4 c, e5 c, e6 c, e7 c, e8 c, e9 c, e10 c, e11 c]
  have hg : ∀ c, Cert.Reference3Ideal.Read.termDg m' c = (Cert.Kernel3Ideal.Gen.dats m 0 c).arrAt 13 Cert.Kernel3Ideal.cfg0.N := fun c => by
    refine funext fun i => (congrArg _ (eq_ix2_row (b := 1024) i)).trans ?_
    refine (Cert.Reference3Ideal.Read.result_g m' c (i 1)).trans (Eq.trans ?_ (congrFun (Cert.Kernel3Ideal.Point.array_g m c) i).symm)
    rw [e0 c, e2 c, e3 c, e4 c, e5 c, e6 c, e7 c, e8 c, e9 c, e10 c]
  have hw : ∀ c, Cert.Reference3Ideal.Read.termDw m' c = (Cert.Kernel3Ideal.Gen.dats m 0 c).arrAt 14 Cert.Kernel3Ideal.cfg0.N := fun c => by
    refine funext fun i => (congrArg _ (eq_ix2 (a := 1024) (b := 2560) i)).trans ?_
    refine (Cert.Reference3Ideal.Read.result_w m' c (i 0) (i 1)).trans (Eq.trans ?_ (congrFun (Cert.Kernel3Ideal.Point.array_w m c) i).symm)
    rw [e0 c, e1 c, e3 c, e4 c, e5 c, e6 c, e7 c, e8 c, e9 c, e10 c]
  refine ⟨fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N, ?_, ?_⟩
  · exact Cert.Kernel3Ideal.Value.run_blocks m g
  · exact (θ_run _ _ _).mono (fun r h c => ⟨(h c).1.trans (hx c), (h c).2.1.trans (hg c), (h c).2.2.1.trans (hw c), (h c).2.2.2⟩)
      (Cert.Reference3Ideal.Value.run m' g')

end Cert.Even
end
-- ==== Proof.ProjBody.lean ====
/-
  What the odd layers' projection computes at one grid point, 512 rows: the normalised rows times each slot of the weights.
-/
module

public import proofs.«01_k».proof.Proof.Norm
public import proofs.«01_k».proof.Proof.Gen.Kernel4Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel4Ideal.Body

open Cert.Kernel4Ideal Cert.Kernel4Ideal.Gen Cert.Norm Finset

/-- What a point's body reads: 512 rows of the input, the gain and the weights. -/
structure Reads (X W : ℕ → ℕ → EReal) (g : ℕ → EReal) (i : ℕ) (x0 : Vec Ideal S512x1024 .f32) (x1 : Vec Ideal S1x1024 .f32)
    (x2 : Vec Ideal S8x1024x512 .f32) : Prop where
  x : ∀ (q : Fin 512) (l : Fin 1024), x0 (ix2 q l) = X (512 * i + q) l
  g : ∀ (l : Fin 1024), x1 (ix2 0 l) = g l
  w : ∀ (j : Fin 8) (c : Fin 1024) (k : Fin 512), x2 (ix3 j c k) = W c (512 * j + k)

variable {X W : ℕ → ℕ → EReal} {g : ℕ → EReal} {i : ℕ} {x0 : Vec Ideal S512x1024 .f32} {x1 : Vec Ideal S1x1024 .f32}
  {x2 : Vec Ideal S8x1024x512 .f32}

/-- The normalised rows. -/
theorem hid_block (H : Reads X W g i x0 x1 x2) (q : Fin 512) (l : Fin 1024) :
    k0_pay2 x0 x1 (ix2 q l) = hid X g (512 * i + q) l := by
  pointwise [k0_pay2]
  simp only [H.x, H.g]
  rfl

/-- The normalised rows times the slots of the weights, side by side. -/
theorem proj_block (H : Reads X W g i x0 x1 x2) (q : Fin 512) (a : Fin 4096) :
    k0_pay1 (k0_pay2 x0 x1) x2 (k0_pay3 x0 x1 x2) (k0_pay4 x0 x1 x2) (k0_pay5 x0 x1 x2) (k0_pay6 x0 x1 x2) (k0_pay7 x0 x1 x2)
      (k0_pay8 x0 x1) (k0_pay9 x2) (ix2 q a) = proj X g W (512 * i + q) a := by
  pointwise [k0_pay1, k0_pay3, k0_pay4, k0_pay5, k0_pay6, k0_pay7, k0_pay8, k0_pay9]
  unfold proj
  split_ifs <;> refine sum_mul_eq _ _ _ _ (fun l => hid_block H q l) (fun l => (H.w _ l _).trans (congrArg (W l) ?_)) <;> simp <;> omega

end Cert.Kernel4Ideal.Body
end
-- ==== Proof.ProjState.lean ====
/-
  The result array of the odd layers' projection.
-/
module

public import proofs.«01_k».proof.Proof.ProjBody
public import proofs.«01_k».proof.Proof.Gen.Kernel4Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel4Ideal.Point
open Cert.Kernel4Ideal Cert.Kernel4Ideal.Gen Cert.Kernel4Ideal.Body Cert.Norm Cert.Attn Finset

variable (m : (ℓ : Loc nD τ sig) → Buf (Elt Ideal) ℓ) (c : Dev nD)

/-- The input rows. -/
abbrev X : ℕ → ℕ → EReal := nat2 (m (c.tc.loc main_arg0))
/-- The gain. -/
abbrev g : ℕ → EReal := row (m (c.tc.loc main_arg1))
/-- The weights. -/
abbrev W : ℕ → ℕ → EReal := wide (m (c.tc.loc main_arg2))

/-- The block that each operand's window gives a point. -/
theorem window_index : ∀ t : Fin cfg0.N, win0_0.index t = ![t.val, 0] ∧ win0_1.index t = ![0, 0] ∧ win0_2.index t = ![0, 0, 0]
    ∧ win0_3.index t = ![t.val, 0] := by
  decide +kernel

/-- There are sixteen points. -/
theorem point_lt (t : Fin cfg0.N) : t.val < 16 := t.isLt

/-- The block of input rows. -/
theorem iblk_0 (t : Fin cfg0.N) (q : Fin 512) (l : Fin 1024) : iblk m c 0 t (ix2 q l) = X m c (512 * t.val + q) l := by
  have ht := point_lt t
  refine Eq.trans ?_ (nat2_apply (m (c.tc.loc main_arg0)) ⟨512 * t.val + q, by omega⟩ l)
  blk_ext [iblk, V_main_arg0, window_index t]

/-- The gain. -/
theorem iblk_1 (t : Fin cfg0.N) (l : Fin 1024) : iblk m c 1 t (ix2 0 l) = g m c l := by
  refine Eq.trans ?_ (row_at (m (c.tc.loc main_arg1)) l l rfl)
  blk_ext [iblk, V_main_arg1, window_index t]

/-- The weights. -/
theorem iblk_2 (t : Fin cfg0.N) (j : Fin 8) (r : Fin 1024) (k : Fin 512) : iblk m c 2 t (ix3 j r k) = W m c r (512 * j + k) := by
  refine Eq.trans ?_ (wide_at (m (c.tc.loc main_arg2)) j r k _ _ rfl rfl)
  blk_ext [iblk, V_main_arg2, window_index t]

/-- What a point's body computes with. -/
theorem reads (t : Fin cfg0.N) : Reads (X m c) (W m c) (g m c) t.val (iblk m c 0 t) (iblk m c 1 t) (iblk m c 2 t) where
  x := iblk_0 m c t
  g := iblk_1 m c t
  w := iblk_2 m c t

/-- The block of every point. -/
theorem out (t : Fin cfg0.N) (q : Fin 512) (a : Fin 4096) :
    out0_3 (iblk m c 0 t) (iblk m c 1 t) (iblk m c 2 t) (ix2 q a) = proj (X m c) (g m c) (W m c) (512 * t.val + q) a := by
  unfold out0_3
  frame_out
  exact proj_block (reads m c t) q a

/-- The projected rows. -/
theorem array : (dats m 0 c).arrAt 3 cfg0.N = fun i : S8192x4096.Idx => proj (X m c) (g m c) (W m c) (i 0) (i 1) := by
  refine (dats m 0 c).arrAt_eq_of_covers 3 _ (by decide +kernel) fun t hf y => ?_
  blk_simp [window_index t]
  rw [after0_3]
  exact (congrArg _ (eq_ix2 (a := 512) (b := 4096) y)).trans ((out m c t (y 0) (y 1)).trans (by rw [Nat.mul_comm]))

end Cert.Kernel4Ideal.Point
end
-- ==== Proof.ProjRef.lean ====
/-
  What the reference of the odd layers' projection computes, stage by stage and entry by entry.
-/
module

public import proofs.«01_k».proof.Proof.Norm
public import proofs.«01_k».proof.Proof.Gen.Reference4Ideal.Run
public import Idealize.ShloMosaic.Lib.Pointwise

@[expose] public section
set_option maxRecDepth 16384
noncomputable section
open Idealize.ShloMosaic Idealize.ShloMosaic.TcCoe Idealize.SL.Sem
namespace Cert.Reference4Ideal.Read
open Cert.Reference4Ideal Cert.Reference4Ideal.Gen Cert.Reference4Ideal.Value Cert.Norm Cert.Attn Finset

/-- An array of rows. -/
abbrev Rows := FVec Idealize.ShloMosaic.Ideal S8192x1024 .f32

/-- The weights as one matrix. -/
def tW (w : FVec Idealize.ShloMosaic.Ideal S8x1024x512 .f32) : FVec Idealize.ShloMosaic.Ideal S1024x4096 .f32 :=
  shapeCast _ (transpose S1024x8x512 [1, 0, 2] w transposes_S8x1024x512_S1024x8x512_1_0_2) shapeCasts_S1024x8x512_S1024x4096

/-- The gain, on every row. -/
def tG (g : FVec Idealize.ShloMosaic.Ideal S1x1024 .f32) : Rows :=
  broadcastInDim S8192x1024 ![0, 1] bcast_S1x1024_S8192x1024_0_1 (broadcastInDim S1x1024 ![1] bcast_S1024_S1x1024_1 (shapeCast _ g shapeCasts_S1x1024_S1024))

/-- The mean of each row's squares, with the small number added. -/
def tM (x : Rows) : FVec Idealize.ShloMosaic.Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
def tN (x : Rows) (M : FVec Idealize.ShloMosaic.Ideal S8192x1 .f32) : Rows :=
  mulf x (broadcastInDim S8192x1024 ![0, 1] bcast_S8192x1_S8192x1024_0_1 (Host.rsqrt M))

/-- The projection. -/
def tP (h : Rows) (w : FVec Idealize.ShloMosaic.Ideal S1024x4096 .f32) : FVec Idealize.ShloMosaic.Ideal S8192x4096 .f32 :=
  Host.dotGeneral dot_S8192x1024_S1024x4096_S8192x4096_1_0_0_1_n_n none h w

/-- An entry of the weights as one matrix. -/
theorem tW_at (w : FVec Idealize.ShloMosaic.Ideal S8x1024x512 .f32) (r : Fin 1024) (a : Fin 4096) : (tW w (ix2 r a) : EReal) = wide w r a := by
  pointwise [tW]
  exact wide_at w _ r _ _ _ rfl (by show 512 * (a.val / 512) + a.val % 512 = a; omega)

/-- An entry of the gain. -/
theorem tG_at (g : FVec Idealize.ShloMosaic.Ideal S1x1024 .f32) (n : Fin 8192) (l : Fin 1024) : (tG g (ix2 n l) : EReal) = row g l := by
  pointwise [tG]
  exact row_at g l l rfl

/-- The mean of a row's squares. -/
theorem tM_at (x : Rows) (n : Fin 8192) : (tM x (ix2 n 0) : EReal) = ms (nat2 x) n := by
  pointwise [tM]
  exact congrArg (fun z : EReal => Ideal.div z width + small) (sum_mul_eq _ _ _ _ (fun k => nat2_apply x n k) (fun k => nat2_apply x n k))

/-- An entry of a row divided by its root mean square. -/
theorem tN_at (x : Rows) (n : Fin 8192) (l : Fin 1024) : (tN x (tM x) (ix2 n l) : EReal) = nat2 x n l * inv (nat2 x) n := by
  pointwise [tN]
  exact congrArg₂ (fun a b : EReal => a * Ideal.rsqrt b) (nat2_apply x n l) (tM_at x n)

/-- An entry of a normalised row. -/
theorem tH_at (x : Rows) (g : FVec Idealize.ShloMosaic.Ideal S1x1024 .f32) (n : Fin 8192) (l : Fin 1024) :
    (mulf (tN x (tM x)) (tG g) (ix2 n l) : EReal) = hid (nat2 x) (row g) n l := by
  exact congrArg₂ (fun a b : EReal => a * b) (tN_at x n l) (tG_at g n l)

/-- An entry of the projection. -/
theorem tP_at (x : Rows) (g : FVec Idealize.ShloMosaic.Ideal S1x1024 .f32) (w : FVec Idealize.ShloMosaic.Ideal S8x1024x512 .f32)
    (n : Fin 8192) (a : Fin 4096) :
    (tP (mulf (tN x (tM x)) (tG g)) (tW w) (ix2 n a) : EReal) = proj (nat2 x) (row g) (wide w) n a := by
  pointwise [tP]
  exact sum_mul_eq _ _ _ _ (fun k => tH_at x g n k) (fun k => tW_at w k a)

variable (m : (ℓ : Loc nD τ sig) → Buf (Elt Idealize.ShloMosaic.Ideal) ℓ) (c : Dev nD)

/-- The reference's result. -/
def termP : FVec Idealize.ShloMosaic.Ideal S8192x4096 .f32 :=
  tP (mulf (tN (m (c.tc.loc main_arg0)) (tM (m (c.tc.loc main_arg0)))) (tG (m (c.tc.loc main_arg1)))) (tW (m (c.tc.loc main_arg2)))

/-- The projected rows. -/
theorem result (n : Fin 8192) (a : Fin 4096) : (termP m c (ix2 n a) : EReal)
    = proj (nat2 (m (c.tc.loc main_arg0))) (row (m (c.tc.loc main_arg1))) (wide (m (c.tc.loc main_arg2))) n a :=
  tP_at _ _ _ n a

end Cert.Reference4Ideal.Read
end
-- ==== Proof.ProjClaim.lean ====
/-
  The odd layers' projection: the kernel's result is the reference's.
-/
module

public import proofs.«01_k».proof.Defs
public import proofs.«01_k».proof.Proof.ProjState
public import proofs.«01_k».proof.Proof.ProjRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.Proj
open Cert.Norm Cert.Attn

/-- The reference runs, leaves its arguments as they were, and has no counter that could end off zero. -/
theorem reference_frame : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

/-- The result of the kernel is the result of the reference. -/
theorem algebraic : Cert.algebraic_Kernel4Ideal_Reference4Ideal (hKernel4Ideal := Cert.Kernel4Ideal.Gen.facts)
    (hReference4Ideal := Cert.Reference4Ideal.Gen.facts) := by
  intro m g m' g' _ hargs
  have e0 := fun c => congrArg nat2 (hargs c).1
  have e1 := fun c => congrArg row (hargs c).2.1
  have e2 := fun c => congrArg wide (hargs c).2.2
  have hp : ∀ c, Cert.Reference4Ideal.Read.termP m' c = (Cert.Kernel4Ideal.Gen.dats m 0 c).arrAt 3 Cert.Kernel4Ideal.cfg0.N := fun c => by
    refine funext fun i => (congrArg _ (eq_ix2 (a := 8192) (b := 4096) i)).trans ?_
    refine (Cert.Reference4Ideal.Read.result m' c (i 0) (i 1)).trans (Eq.trans ?_ (congrFun (Cert.Kernel4Ideal.Point.array m c) i).symm)
    rw [e0 c, e1 c, e2 c]
  refine ⟨fun c => (Cert.Kernel4Ideal.Gen.dats m 0 c).arrAt 3 Cert.Kernel4Ideal.cfg0.N, ?_, ?_⟩
  · exact Cert.Kernel4Ideal.Value.run_blocks m g
  · exact (θ_run _ _ _).mono (fun r h c => ⟨(h c).1.trans (hp c), (h c).2⟩) (Cert.Reference4Ideal.Value.run m' g')

end Cert.Proj
end
-- ==== Proof.Gate.lean ====
/-
  The gated output product `x + (o * silu(gate)) @ w` and its gradients, as functions of numbers.
-/
module

public import proofs.«01_k».proof.Proof.Norm

@[expose] public section

noncomputable section

open Idealize.ShloMosaic

namespace Cert.Gate

open Finset

/-- A gate's value times its logistic. -/
def silu (z : EReal) : EReal := z * Ideal.logistic z

/-- The gated row. -/
def gated (O G : ℕ → ℕ → EReal) (n k : ℕ) : EReal := O n k * silu (G n k)

/-- The gated row times the weights, added to the row. -/
def out (X O G W : ℕ → ℕ → EReal) (n a : ℕ) : EReal := X n a + ∑ k : Fin 1024, gated O G n k * W k a

/-- The gradient of the gated row. -/
def backG (D W : ℕ → ℕ → EReal) (n c : ℕ) : EReal := ∑ k : Fin 1024, D n k * W c k

/-- The gradient of what is gated. -/
def gradO (D G W : ℕ → ℕ → EReal) (n c : ℕ) : EReal := backG D W n c * silu (G n c)

/-- The gradient of the gate. -/
def gradG (D O G W : ℕ → ℕ → EReal) (n c : ℕ) : EReal :=
  O n c * backG D W n c * Ideal.logistic (G n c)
    + G n c * (O n c * backG D W n c) * (Ideal.logistic (G n c) * (1 - Ideal.logistic (G n c)))

/-- What a row adds to the gradient of the weights. -/
def termW (D O G : ℕ → ℕ → EReal) (c a n : ℕ) : EReal := gated O G n c * D n a

/-- Weights in slots of `B` rows, as one matrix. -/
def tall {J B N : ℕ} (w : (⟨3, ![J, B, N]⟩ : Shape).Idx → EReal) (c a : ℕ) : EReal :=
  if h : c / B < J ∧ c % B < B ∧ a < N then w (ix3 ⟨c / B, h.1⟩ ⟨c % B, h.2.1⟩ ⟨a, h.2.2⟩) else 0

/-- An entry of a slot is an entry of the matrix. -/
theorem tall_at {J B N : ℕ} (w : (⟨3, ![J, B, N]⟩ : Shape).Idx → EReal) (j : Fin J) (r : Fin B) (k : Fin N) (c a : ℕ)
    (hc : B * j + r = c) (ha : k.val = a) : w (ix3 j r k) = tall w c a := by
  subst hc ha
  have h1 : (B * j.val + r.val) / B = j := by
    rw [Nat.mul_add_div (by have := r.isLt; omega), Nat.div_eq_of_lt r.isLt, Nat.add_zero]
  have h2 : (B * j.val + r.val) % B = r := by rw [Nat.mul_add_mod, Nat.mod_eq_of_lt r.isLt]
  rw [tall, dif_pos ⟨by rw [h1]; exact j.isLt, by rw [h2]; exact r.isLt, k.isLt⟩]
  congr 1
  have e1 : j = ⟨(B * j.val + r.val) / B, by rw [h1]; exact j.isLt⟩ := Fin.ext h1.symm
  have e2 : r = ⟨(B * j.val + r.val) % B, by rw [h2]; exact r.isLt⟩ := Fin.ext h2.symm
  rw [← e1, ← e2]

end Cert.Gate
end
-- ==== Proof.OutBody.lean ====
/-
  What the gradient of the attention's output product computes at one grid point, 512 rows.
-/
module

public import proofs.«01_k».proof.Proof.Gate
public import proofs.«01_k».proof.Proof.Gen.Kernel5Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel5Ideal.Body

open Cert.Kernel5Ideal Cert.Kernel5Ideal.Gen Cert.Norm Cert.Gate Finset

/-- What a point's body reads: 512 rows of the incoming gradient, of the attention's output and of the gate, and the weights. -/
structure Reads (D O G W : ℕ → ℕ → EReal) (i : ℕ) (x0 x1 x2 : Vec Ideal S512x1024 .f32) (x3 : Vec Ideal S8x128x1024 .f32) : Prop where
  d : ∀ (q : Fin 512) (l : Fin 1024), x0 (ix2 q l) = D (512 * i + q) l
  o : ∀ (q : Fin 512) (l : Fin 1024), x1 (ix2 q l) = O (512 * i + q) l
  g : ∀ (q : Fin 512) (l : Fin 1024), x2 (ix2 q l) = G (512 * i + q) l
  w : ∀ (j : Fin 8) (r : Fin 128) (k : Fin 1024), x3 (ix3 j r k) = W (128 * j + r) k

variable {D O G W : ℕ → ℕ → EReal} {i : ℕ} {x0 x1 x2 : Vec Ideal S512x1024 .f32} {x3 : Vec Ideal S8x128x1024 .f32}

/-- The gradient of the gated rows. -/
theorem back_block (H : Reads D O G W i x0 x1 x2 x3) (q : Fin 512) (l : Fin 1024) :
    k0_pay3 x0 x3 (ix2 q l) = backG D W (512 * i + q) l := by
  pointwise [k0_pay3]
  refine sum_mul_eq _ _ _ _ (fun k => H.d q k) (fun k => (H.w _ _ _).trans (congrArg (fun z => W z k) ?_))
  show 128 * (l.val / 128) + l.val % 128 = l
  omega

/-- The gate times its logistic. -/
theorem silu_block (H : Reads D O G W i x0 x1 x2 x3) (q : Fin 512) (l : Fin 1024) :
    k0_pay2 x2 (ix2 q l) = silu (G (512 * i + q) l) := by
  pointwise [k0_pay2, k0_pay1]
  rw [H.g]
  rfl

/-- The block of gradients of the attention's output. -/
theorem gradO_block (H : Reads D O G W i x0 x1 x2 x3) (q : Fin 512) (l : Fin 1024) :
    k0_pay4 x0 x2 x3 (ix2 q l) = gradO D G W (512 * i + q) l := by
  pointwise [k0_pay4]
  rw [back_block H, silu_block H]
  rfl

/-- The block of gradients of the gate. -/
theorem gradG_block (H : Reads D O G W i x0 x1 x2 x3) (q : Fin 512) (l : Fin 1024) :
    k0_pay5 x0 x1 x2 x3 (ix2 q l) = gradG D O G W (512 * i + q) l := by
  pointwise [k0_pay5, k0_pay1]
  simp only [back_block H, H.o, H.g]
  rfl

/-- The zeros that the gradient of the weights begins with. -/
theorem weight_zero (c a : Fin 1024) : k0_pay6 (F := Ideal) (ix2 c a) = (0 : EReal) := by
  pointwise [k0_pay6]

/-- The gradient of the weights so far, with what the 512 rows add. -/
theorem weight_block (H : Reads D O G W i x0 x1 x2 x3) (old : Vec Ideal S1024x1024 .f32) (c a : Fin 1024) :
    k0_pay7 x0 x1 x2 old (ix2 c a) = old (ix2 c a) + ∑ q : Fin 512, termW D O G c a (512 * i + q) := by
  pointwise [k0_pay7]
  refine congrArg (fun z : EReal => old (ix2 c a) + z) (sum_mul_eq _ _ _ _ (fun q => ?_) (fun q => H.d q a))
  rw [silu_block H, H.o]
  rfl

end Cert.Kernel5Ideal.Body
end
-- ==== Proof.OutState.lean ====
/-
  The gradients that the attention's output product leaves in its result arrays.
-/
module

public import proofs.«01_k».proof.Proof.OutBody
public import proofs.«01_k».proof.Proof.Gen.Kernel5Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel5Ideal.Point
open Cert.Kernel5Ideal Cert.Kernel5Ideal.Gen Cert.Kernel5Ideal.Body Cert.Norm Cert.Gate Cert.Attn Finset

variable (m : (ℓ : Loc nD τ sig) → Buf (Elt Ideal) ℓ) (c : Dev nD)

/-- The incoming gradient. -/
abbrev D : ℕ → ℕ → EReal := nat2 (m (c.tc.loc main_arg0))
/-- The attention's output. -/
abbrev O : ℕ → ℕ → EReal := nat2 (m (c.tc.loc main_arg1))
/-- The gate, the last quarter of the projection. -/
abbrev G : ℕ → ℕ → EReal := fun n k => nat2 (m (c.tc.loc main_arg2)) n (3072 + k)
/-- The weights. -/
abbrev W : ℕ → ℕ → EReal := tall (m (c.tc.loc main_arg3))

/-- The block that each operand's window gives a point. -/
theorem window_index : ∀ t : Fin cfg0.N, win0_0.index t = ![t.val, 0] ∧ win0_1.index t = ![t.val, 0] ∧ win0_2.index t = ![t.val, 3]
    ∧ win0_3.index t = ![0, 0, 0]
    ∧ win0_4.index t = ![t.val, 0] ∧ win0_5.index t = ![t.val, 0] ∧ win0_6.index t = ![0, 0] := by
  decide +kernel

/-- There are sixteen points. -/
theorem point_lt (t : Fin cfg0.N) : t.val < 16 := t.isLt

/-- The first operand's block of rows. -/
theorem iblk_0 (t : Fin cfg0.N) (q : Fin 512) (l : Fin 1024) : iblk m c 0 t (ix2 q l) = D m c (512 * t.val + q) l := by
  have ht := point_lt t
  refine Eq.trans ?_ (nat2_apply (m (c.tc.loc main_arg0)) ⟨512 * t.val + q, by omega⟩ l)
  blk_ext [iblk, V_main_arg0, window_index t]

/-- The block of the attention's output. -/
theorem iblk_1 (t : Fin cfg0.N) (q : Fin 512) (l : Fin 1024) : iblk m c 1 t (ix2 q l) = O m c (512 * t.val + q) l := by
  have ht := point_lt t
  refine Eq.trans ?_ (nat2_apply (m (c.tc.loc main_arg1)) ⟨512 * t.val + q, by omega⟩ l)
  blk_ext [iblk, V_main_arg1, window_index t]

/-- The block of the gate. -/
theorem iblk_2 (t : Fin cfg0.N) (q : Fin 512) (l : Fin 1024) : iblk m c 2 t (ix2 q l) = G m c (512 * t.val + q) l := by
  have ht := point_lt t
  refine Eq.trans ?_ (nat2_apply (m (c.tc.loc main_arg2)) ⟨512 * t.val + q, by omega⟩ ⟨3072 + l, by omega⟩)
  blk_ext [iblk, V_main_arg2, window_index t]

/-- The weights. -/
theorem iblk_3 (t : Fin cfg0.N) (j : Fin 8) (r : Fin 128) (k : Fin 1024) : iblk m c 3 t (ix3 j r k) = W m c (128 * j + r) k := by
  refine Eq.trans ?_ (tall_at (m (c.tc.loc main_arg3)) j r k _ _ rfl rfl)
  blk_ext [iblk, V_main_arg3, window_index t]

/-- What a point's body computes with. -/
theorem reads (t : Fin cfg0.N) : Reads (D m c) (O m c) (G m c) (W m c) t.val (iblk m c 0 t) (iblk m c 1 t) (iblk m c 2 t) (iblk m c 3 t) where
  d := iblk_0 m c t
  o := iblk_1 m c t
  g := iblk_2 m c t
  w := iblk_3 m c t

/-- The block of gradients of the attention's output of every point. -/
theorem outO (t : Fin cfg0.N) (q : Fin 512) (l : Fin 1024) : (outsAt0 m c t.val t.isLt).1 (ix2 q l)
    = gradO (D m c) (G m c) (W m c) (512 * t.val + q) l := by
  by_cases h0 : t.val % 16 = 0
  · rw [outsAt0_A m c t h0]; frame_out
    exact gradO_block (reads m c t) q l
  · rw [outsAt0_B m c t h0]; frame_out
    exact gradO_block (reads m c t) q l

/-- The array of gradients of the attention's output. -/
theorem array_o : (dats m 0 c).arrAt 4 cfg0.N = fun i : S8192x1024.Idx => gradO (D m c) (G m c) (W m c) (i 0) (i 1) := by
  refine (dats m 0 c).arrAt_eq_of_covers 4 _ (by decide +kernel) fun t hf y => ?_
  blk_simp [window_index t]
  rw [after0_4]
  exact (congrArg _ (eq_ix2 (a := 512) (b := 1024) y)).trans ((outO m c t (y 0) (y 1)).trans (by rw [Nat.mul_comm]))

/-- The block of gradients of the gate of every point. -/
theorem outG (t : Fin cfg0.N) (q : Fin 512) (l : Fin 1024) : (outsAt0 m c t.val t.isLt).2.1 (ix2 q l)
    = gradG (D m c) (O m c) (G m c) (W m c) (512 * t.val + q) l := by
  by_cases h0 : t.val % 16 = 0
  · rw [outsAt0_A m c t h0]; frame_out
    exact gradG_block (reads m c t) q l
  · rw [outsAt0_B m c t h0]; frame_out
    exact gradG_block (reads m c t) q l

/-- The array of gradients of the gate. -/
theorem array_g : (dats m 0 c).arrAt 5 cfg0.N = fun i : S8192x1024.Idx => gradG (D m c) (O m c) (G m c) (W m c) (i 0) (i 1) := by
  refine (dats m 0 c).arrAt_eq_of_covers 5 _ (by decide +kernel) fun t hf y => ?_
  blk_simp [window_index t]
  rw [after0_5]
  exact (congrArg _ (eq_ix2 (a := 512) (b := 1024) y)).trans ((outG m c t (y 0) (y 1)).trans (by rw [Nat.mul_comm]))

/-- The gradient of the weights holds the sum over the row tiles before tile `i`. -/
def WeightTo (v : Vec Ideal S1024x1024 .f32) (i : ℕ) : Prop :=
  ∀ r a : Fin 1024, v (ix2 r a) = ∑ n ∈ range (512 * i), termW (D m c) (O m c) (G m c) r a n

/-- After every point the gradient of the weights has taken in the row tiles up to the point's own. -/
theorem state : ∀ (n : ℕ) (h : n < cfg0.N), WeightTo m c (outsAt0 m c n h).2.2 (n + 1) := by
  intro n
  induction n with
  | zero =>
    intro h r a
    rw [outsAt0_A m c ⟨0, h⟩ rfl]
    frame_out
    exact tile_step _ 512 0 _ _ (weight_zero r a) (weight_block (reads m c ⟨0, h⟩) _ r a)
  | succ n ih =>
    intro h r a
    have hn := point_lt ⟨n + 1, h⟩
    rw [outsAt0_B m c ⟨n + 1, h⟩ (by simp only at hn ⊢; omega)]
    frame_out
    exact tile_step _ 512 (n + 1) _ _ (ih (by omega) r a) (weight_block (reads m c ⟨n + 1, h⟩) _ r a)

/-- The gradient of the weights. -/
theorem array_w : (dats m 0 c).arrAt 6 cfg0.N
    = fun i : S1024x1024.Idx => ∑ n ∈ range 8192, termW (D m c) (O m c) (G m c) (i 0) (i 1) n := by
  refine (dats m 0 c).arrAt_eq_of_covers 6 _ (by decide +kernel) fun t hf y => ?_
  blk_simp [window_index t]
  rw [after0_6]
  have ht : t.val + 1 = 16 := by have := (flush0_6 t).mp hf; have := point_lt t; omega
  have h := state m c t.val t.isLt (y 0) (y 1)
  rw [ht] at h
  exact (congrArg _ (eq_ix2 (a := 1024) (b := 1024) y)).trans h

end Cert.Kernel5Ideal.Point
end
-- ==== Proof.OutRef.lean ====
/-
  What the reference's gradients of the attention's output product are, stage by stage and entry by entry.
-/
module

public import proofs.«01_k».proof.Proof.Gate
public import proofs.«01_k».proof.Proof.Gen.Reference5Ideal.Run
public import Idealize.ShloMosaic.Lib.Pointwise

@[expose] public section
set_option maxRecDepth 16384
noncomputable section
open Idealize.ShloMosaic Idealize.ShloMosaic.TcCoe Idealize.SL.Sem
namespace Cert.Reference5Ideal.Read
open Cert.Reference5Ideal Cert.Reference5Ideal.Gen Cert.Reference5Ideal.Value Cert.Norm Cert.Gate Cert.Attn Finset

/-- An array of rows. -/
abbrev Rows := FVec Idealize.ShloMosaic.Ideal S8192x1024 .f32
/-- The projected rows: queries, keys, values and gate. -/
abbrev Wide := FVec Idealize.ShloMosaic.Ideal S8192x4096 .f32
/-- The weights in slots of rows. -/
abbrev Slots := FVec Idealize.ShloMosaic.Ideal S8x128x1024 .f32

/-- The gate. -/
def tGate (q : Wide) : Rows := extractStridedSlice S8192x1024 ![0, 3072] q slices_S8192x4096_S8192x1024_0_3072

/-- The logistic of every entry. -/
def tL (z : Rows) : Rows :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf z)))

/-- The gated rows. -/
def tU (o z : Rows) : Rows := mulf o (mulf z (tL z))

/-- The weights as one matrix. -/
def tW (w : Slots) : FVec Idealize.ShloMosaic.Ideal S1024x1024 .f32 := shapeCast _ w shapeCasts_S8x128x1024_S1024x1024

/-- The gate's columns of the projection. -/
abbrev gate (q : Wide) (n k : ℕ) : EReal := nat2 q n (3072 + k)

/-- An entry of the gate. -/
theorem tGate_at (q : Wide) (n : Fin 8192) (k : Fin 1024) : (tGate q (ix2 n k) : EReal) = gate q n k := by
  pointwise [tGate]
  exact nat2_at q _ _ _ _ rfl rfl

/-- An entry of the logistic. -/
theorem tL_at (z : Rows) (n : Fin 8192) (k : Fin 1024) : (tL z (ix2 n k) : EReal) = Ideal.logistic (z (ix2 n k)) := by
  pointwise [tL]
  rfl

/-- An entry of the gated rows. -/
theorem tU_at (o : Rows) (q : Wide) (n : Fin 8192) (k : Fin 1024) : (tU o (tGate q) (ix2 n k) : EReal) = gated (nat2 o) (gate q) n k := by
  refine congrArg₂ (fun a b : EReal => a * b) (nat2_apply o n k) ?_
  refine (congrArg₂ (fun a b : EReal => a * b) (tGate_at q n k) (tL_at _ n k)).trans ?_
  rw [tGate_at]
  rfl

/-- An entry of the weights as one matrix. -/
theorem tW_at (w : Slots) (r a : Fin 1024) : (tW w (ix2 r a) : EReal) = tall w r a := by
  pointwise [tW]
  exact tall_at w _ _ _ _ _ (by show 128 * (r.val / 128) + r.val % 128 = r; omega) rfl

/-- The gradient of the gated rows. -/
def tE (d : Rows) (w : FVec Idealize.ShloMosaic.Ideal S1024x1024 .f32) : Rows :=
  Host.dotGeneral dot_S8192x1024_S1024x1024_S8192x1024_1_1_0_0_n_n none d w

/-- The gradient of the gate. -/
def tDg (o e z : Rows) : Rows :=
  addf (mulf (mulf o e) (tL z)) (mulf (mulf z (mulf o e)) (mulf (tL z) (subf (broadcastInDim S8192x1024 ![] bcast_S_S8192x1024 (constant S_ .f32 0x3F800000#32)) (tL z))))

/-- The gradient of the weights. -/
def tDw (d u : Rows) : FVec Idealize.ShloMosaic.Ideal S1024x1024 .f32 :=
  transpose S1024x1024 [1, 0] (Host.dotGeneral dot_S8192x1024_S8192x1024_S1024x1024_0_0_1_1_n_n none d u) transposes_S1024x1024_S1024x1024_1_0

/-- An entry of the gradient of the gated rows. -/
theorem tE_at (d : Rows) (w : Slots) (n : Fin 8192) (l : Fin 1024) : (tE d (tW w) (ix2 n l) : EReal) = backG (nat2 d) (tall w) n l := by
  pointwise [tE]
  exact sum_mul_eq _ _ _ _ (fun k => nat2_apply d n k) (fun k => tW_at w l k)

/-- An entry of the gradient of what is gated. -/
theorem tDo_at (d : Rows) (q : Wide) (w : Slots) (n : Fin 8192) (l : Fin 1024) :
    (mulf (tE d (tW w)) (mulf (tGate q) (tL (tGate q))) (ix2 n l) : EReal) = gradO (nat2 d) (gate q) (tall w) n l := by
  refine congrArg₂ (fun a b : EReal => a * b) (tE_at d w n l) ?_
  refine (congrArg₂ (fun a b : EReal => a * b) (tGate_at q n l) (tL_at _ n l)).trans ?_
  rw [tGate_at]
  rfl

/-- An entry of the gradient of the gate. -/
theorem tDg_at (d o : Rows) (q : Wide) (w : Slots) (n : Fin 8192) (l : Fin 1024) :
    (tDg o (tE d (tW w)) (tGate q) (ix2 n l) : EReal) = gradG (nat2 d) (nat2 o) (gate q) (tall w) n l := by
  pointwise [tDg]
  rw [tE_at, tL_at, tGate_at, nat2_at o n l n l rfl rfl]
  rfl

/-- An entry of the gradient of the weights. -/
theorem tDw_at (d o : Rows) (q : Wide) (r a : Fin 1024) :
    (tDw d (tU o (tGate q)) (ix2 r a) : EReal) = ∑ n ∈ range 8192, termW (nat2 d) (nat2 o) (gate q) r a n := by
  pointwise [tDw]
  exact (prod_swap (fun n : Fin 8192 => tU_at o q n r) (fun n => nat2_apply d n a)).trans
    (Fin.sum_univ_eq_sum_range (fun n => termW (nat2 d) (nat2 o) (gate q) r a n) 8192)

variable (m : (ℓ : Loc nD τ sig) → Buf (Elt Idealize.ShloMosaic.Ideal) ℓ) (c : Dev nD)

/-- The reference's gradient of the attention's output. -/
def termO : Rows :=
  mulf (tE (m (c.tc.loc main_arg0)) (tW (m (c.tc.loc main_arg3)))) (mulf (tGate (m (c.tc.loc main_arg2))) (tL (tGate (m (c.tc.loc main_arg2)))))

/-- The reference's gradient of the gate. -/
def termG : Rows :=
  tDg (m (c.tc.loc main_arg1)) (tE (m (c.tc.loc main_arg0)) (tW (m (c.tc.loc main_arg3)))) (tGate (m (c.tc.loc main_arg2)))

/-- The reference's gradient of the weights. -/
def termDw : FVec Idealize.ShloMosaic.Ideal S1024x1024 .f32 :=
  tDw (m (c.tc.loc main_arg0)) (tU (m (c.tc.loc main_arg1)) (tGate (m (c.tc.loc main_arg2))))

end Cert.Reference5Ideal.Read
end
-- ==== Proof.OutClaim.lean ====
/-
  The gradients of the attention's output product: the kernel's results are the reference's.
-/
module

public import proofs.«01_k».proof.Defs
public import proofs.«01_k».proof.Proof.OutState
public import proofs.«01_k».proof.Proof.OutRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.OutClaim
open Cert.Norm Cert.Gate Cert.Attn

/-- The reference runs, leaves its arguments as they were, and has no counter that could end off zero. -/
theorem reference_frame : Cert.quiescent_Reference5Ideal (hReference5Ideal := Cert.Reference5Ideal.Gen.facts) := fun m g _ =>
  (θ_run _ _ _).mono (fun r h => ⟨fun c => (h c).2.2.2, sem_eq_zero_of_no_sems rfl r.2⟩) (Cert.Reference5Ideal.Value.run m g)

/-- The results of the kernel are the results of the reference. -/
theorem algebraic : Cert.algebraic_Kernel5Ideal_Reference5Ideal (hKernel5Ideal := Cert.Kernel5Ideal.Gen.facts)
    (hReference5Ideal := Cert.Reference5Ideal.Gen.facts) := by
  intro m g m' g' _ hargs
  have e0 := fun c => congrArg nat2 (hargs c).1
  have e1 := fun c => congrArg nat2 (hargs c).2.1
  have e2 := fun c => congrArg (fun z n k => nat2 z n (3072 + k)) (hargs c).2.2.1
  have e3 := fun c => congrArg tall (hargs c).2.2.2
  have ho : ∀ c, Cert.Reference5Ideal.Read.termO m' c = (Cert.Kernel5Ideal.Gen.dats m 0 c).arrAt 4 Cert.Kernel5Ideal.cfg0.N := fun c => by
    refine funext fun i => (congrArg _ (eq_ix2 (a := 8192) (b := 1024) i)).trans ?_
    refine (Cert.Reference5Ideal.Read.tDo_at _ _ _ (i 0) (i 1)).trans (Eq.trans ?_ (congrFun (Cert.Kernel5Ideal.Point.array_o m c) i).symm)
    exact congrFun (congrFun (congr (congr (congrArg gradO (e0 c)) (e2 c)) (e3 c)) _) _
  have hg : ∀ c, Cert.Reference5Ideal.Read.termG m' c = (Cert.Kernel5Ideal.Gen.dats m 0 c).arrAt 5 Cert.Kernel5Ideal.cfg0.N := fun c => by
    refine funext fun i => (congrArg _ (eq_ix2 (a := 8192) (b := 1024) i)).trans ?_
    refine (Cert.Reference5Ideal.Read.tDg_at _ _ _ _ (i 0) (i 1)).trans (Eq.trans ?_ (congrFun (Cert.Kernel5Ideal.Point.array_g m c) i).symm)
    exact congrFun (congrFun (congr (congr (congr (congrArg gradG (e0 c)) (e1 c)) (e2 c)) (e3 c)) _) _
  have hw : ∀ c, Cert.Reference5Ideal.Read.termDw m' c = (Cert.Kernel5Ideal.Gen.dats m 0 c).arrAt 6 Cert.Kernel5Ideal.cfg0.N := fun c => by
    refine funext fun i => (congrArg _ (eq_ix2 (a := 1024) (b := 1024) i)).trans ?_
    refine (Cert.Reference5Ideal.Read.tDw_at _ _ _ (i 0) (i 1)).trans (Eq.trans ?_ (congrFun (Cert.Kernel5Ideal.Point.array_w m c) i).symm)
    exact Finset.sum_congr rfl fun n _ => congrFun (congrFun (congrFun (congr (congr (congrArg Cert.Gate.termW (e0 c)) (e1 c)) (e2 c)) _) _) _
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    fun c => (Cert.Kernel5Ideal.Gen.dats m 0 c).arrAt 6 Cert.Kernel5Ideal.cfg0.N, ?_, ?_⟩
  · exact Cert.Kernel5Ideal.Value.run_blocks m g
  · exact (θ_run _ _ _).mono (fun r h c => ⟨(h c).1.trans (ho c), (h c).2.1.trans (hg c), (h c).2.2.1.trans (hw c), (h c).2.2.2⟩)
      (Cert.Reference5Ideal.Value.run m' g')

end Cert.OutClaim
end
-- ==== Proof.Cross.lean ====
/-
  Cross-attention with a gate, as functions of numbers: what a row of the input, the gain, the two weights and the memory's
  keys and values give.
-/
module

public import proofs.«01_k».proof.Proof.Norm
public import proofs.«01_k».proof.Proof.Gate
public import Idealize.ShloMosaic.PureOps.Ideal

@[expose] public section

noncomputable section

open Idealize.ShloMosaic

namespace Cert.Cross

open Finset Cert.Norm Cert.Gate

/-- What a maximum starts from. -/
def lowest : EReal := Ideal.ofBits .f32 0xFF800000#32
/-- What the scores are multiplied by. -/
def scale : EReal := Ideal.ofBits .f32 0x3D800000#32

/-- The scores of a query against 256 keys. -/
def score (q : Fin 256 → EReal) (K : Fin 256 → Fin 256 → EReal) (j : Fin 256) : EReal := (∑ d : Fin 256, q d * K j d) * scale

/-- The exponential of a score less the greatest score. -/
def expo (s : Fin 256 → EReal) (j : Fin 256) : EReal := Ideal.exp (s j - Finset.fold max lowest s Finset.univ)

/-- The values weighed by the softmax of the scores. -/
def mix (s : Fin 256 → EReal) (V : Fin 256 → Fin 256 → EReal) (d : Fin 256) : EReal :=
  ∑ j : Fin 256, Ideal.div (expo s j) (∑ k : Fin 256, expo s k) * V j d

/-- An entry of one head's attention; the keys are the first 1024 columns of the memory, the values the last. -/
def head (Z M : ℕ → ℕ → EReal) (h n : ℕ) (d : Fin 256) : EReal :=
  mix (score (fun e => Z n (256 * h + e)) (fun j e => M j (256 * h + e))) (fun j e => M j (1024 + 256 * h + e)) d

/-- The heads side by side. -/
def heads (Z M : ℕ → ℕ → EReal) (n k : ℕ) : EReal := head Z M (k / 256) n ⟨k % 256, Nat.mod_lt _ (by decide)⟩

/-- A column of a head is a column of the heads side by side. -/
theorem heads_at (Z M : ℕ → ℕ → EReal) (n h : ℕ) (d : Fin 256) (k : ℕ) (e : 256 * h + d = k) : head Z M h n d = heads Z M n k := by
  subst e
  have h1 : (256 * h + d.val) / 256 = h := by omega
  have h2 : (⟨(256 * h + d.val) % 256, Nat.mod_lt _ (by decide)⟩ : Fin 256) = d := Fin.ext (by simp only; omega)
  unfold heads
  rw [h2, h1]

/-- The gated heads times the weights, added to the row; the gate is the last 1024 columns of the projection. -/
def out (X Z M W : ℕ → ℕ → EReal) (n a : ℕ) : EReal := X n a + ∑ k : Fin 1024, heads Z M n k * silu (Z n (1024 + k)) * W k a

/-- Only the projection's 2048 columns of the row matter. -/
theorem out_congr (X Z Z' M W : ℕ → ℕ → EReal) (n a : ℕ) (h : ∀ k < 2048, Z n k = Z' n k) : out X Z M W n a = out X Z' M W n a := by
  have hh : ∀ k : Fin 1024, heads Z M n k = heads Z' M n k := fun k => by
    have e : (fun e : Fin 256 => Z n (256 * (k.val / 256) + e)) = fun e : Fin 256 => Z' n (256 * (k.val / 256) + e) :=
      funext fun e => h _ (by omega)
    unfold heads head
    rw [e]
  unfold out
  refine congrArg (fun z : EReal => X n a + z) (Finset.sum_congr rfl fun k _ => ?_)
  rw [hh k, h _ (by omega)]

end Cert.Cross
end
-- ==== Proof.CrossBody.lean ====
/-
  A point of the cross-attention: what its body computes from the blocks that it reads, head by head.
-/
module

public import proofs.«01_k».proof.Proof.Cross
public import proofs.«01_k».proof.Proof.Gen.Kernel6Ideal.Skeleton
public import Idealize.ShloMosaic.Lib.Pointwise

@[expose] public section

set_option maxRecDepth 16384

noncomputable section

open Idealize.ShloMosaic

namespace Cert.Kernel6Ideal.Body

open Cert.Kernel6Ideal Cert.Kernel6Ideal.Gen Cert.Norm Finset
open Cert.Gate (silu)
open Cert.Cross (score expo mix)

/-- What a point's body reads: 512 rows of the input, the gain, the memory's keys and values, and the two weights. -/
structure Reads (X M Wq Wo : ℕ → ℕ → EReal) (g : ℕ → EReal) (i : ℕ) (x0 : Vec Ideal S512x1024 .f32) (x1 : Vec Ideal S1x1024 .f32)
    (x2 : Vec Ideal S256x2048 .f32) (x3 : Vec Ideal S8x1024x256 .f32) (x4 : Vec Ideal S8x128x1024 .f32) : Prop where
  x : ∀ (q : Fin 512) (l : Fin 1024), x0 (ix2 q l) = X (512 * i + q) l
  g : ∀ (l : Fin 1024), x1 (ix2 0 l) = g l
  m : ∀ (j : Fin 256) (l : Fin 2048), x2 (ix2 j l) = M j l
  q : ∀ (j : Fin 8) (c : Fin 1024) (k : Fin 256), x3 (ix3 j c k) = Wq c (256 * j + k)
  o : ∀ (j : Fin 8) (r : Fin 128) (k : Fin 1024), x4 (ix3 j r k) = Wo (128 * j + r) k

/-- The scores of a head's queries. -/
def kS (q : FVec Ideal S512x256 .f32) (k : FVec Ideal S256x256 .f32) : FVec Ideal S512x256 .f32 :=
  mulf (matmul dot_S512x256_S256x256_S512x256_1_1_0_0_n_n none (truncf .bf16 q bitsLt_bf16_f32) (truncf .bf16 k bitsLt_bf16_f32)
    (constant S512x256 .f32 0x00000000#32)) (broadcast S512x256 (Scalar.ofBits .f32 0x3D800000#32))

/-- The exponentials of the scores less each row's greatest. -/
def kE (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The values weighed by the exponentials divided by each row's sum. -/
def kO (e : FVec Ideal S512x256 .f32) (v : FVec Ideal S256x256 .f32) : FVec Ideal S512x256 .f32 :=
  matmul dot_S512x256_S256x256_S512x256_1_0_0_1_n_n none
    (truncf .bf16 (divf e (broadcastTo S512x256 (shapeCast S512x1 (multiReduction .add [1] S512 e 0x00000000#32 reduces_S512x256_S512 (.inl rfl) rfl)
      shapeCasts_S512_S512x1) broadcasts_S512x1_S512x256)) bitsLt_bf16_f32)
    (truncf .bf16 v bitsLt_bf16_f32) (constant S512x256 .f32 0x00000000#32)

/-- A row's scores. -/
theorem kS_at (q : FVec Ideal S512x256 .f32) (k : FVec Ideal S256x256 .f32) (r : Fin 512) (Q : Fin 256 → EReal)
    (K : Fin 256 → Fin 256 → EReal) (hq : ∀ d, q (ix2 r d) = Q d) (hk : ∀ j d, k (ix2 j d) = K j d) (j : Fin 256) :
    kS q k (ix2 r j) = score Q K j := by
  pointwise [kS]
  exact congrArg (fun z : EReal => z * Cert.Cross.scale) (sum_mul_eq _ _ _ _ hq (hk j))

/-- A row's exponentials. -/
theorem kE_at (s : FVec Ideal S512x256 .f32) (r : Fin 512) (S : Fin 256 → EReal) (hs : ∀ j, s (ix2 r j) = S j) (j : Fin 256) :
    kE s (ix2 r j) = expo S j := by
  pointwise [kE]
  simp only [hs]
  rfl

/-- A row of a head's output. -/
theorem kO_at (e : FVec Ideal S512x256 .f32) (v : FVec Ideal S256x256 .f32) (r : Fin 512) (S : Fin 256 → EReal)
    (V : Fin 256 → Fin 256 → EReal) (he : ∀ j, e (ix2 r j) = expo S j) (hv : ∀ j d, v (ix2 j d) = V j d) (d : Fin 256) :
    kO e v (ix2 r d) = mix S V d := by
  pointwise [kO]
  refine sum_mul_eq _ _ _ _ (fun j => ?_) (fun j => hv j d)
  simp only [he]

variable {X M Wq Wo : ℕ → ℕ → EReal} {g : ℕ → EReal} {i : ℕ} {x0 : Vec Ideal S512x1024 .f32} {x1 : Vec Ideal S1x1024 .f32}
  {x2 : Vec Ideal S256x2048 .f32} {x3 : Vec Ideal S8x1024x256 .f32} {x4 : Vec Ideal S8x128x1024 .f32}

/-- The normalised rows. -/
theorem hid_block (H : Reads X M Wq Wo g i x0 x1 x2 x3 x4) (q : Fin 512) (l : Fin 1024) :
    k0_pay3 x0 x1 (ix2 q l) = hid X g (512 * i + q) l := by
  pointwise [k0_pay3]
  simp only [H.x, H.g]
  rfl

/-- The projection of a point's rows. -/
def kZ (x0 : Vec Ideal S512x1024 .f32) (x1 : Vec Ideal S1x1024 .f32) (x3 : Vec Ideal S8x1024x256 .f32) : FVec Ideal S512x2048 .f32 :=
  k0_pay9 x3 (k0_pay3 x0 x1) (k0_pay4 x0 x1 x3) (k0_pay5 x0 x1 x3) (k0_pay6 x0 x1 x3) (k0_pay7 x0 x1 x3) (k0_pay8 x3)

/-- An entry of the projection. -/
theorem kZ_at (H : Reads X M Wq Wo g i x0 x1 x2 x3 x4) (q : Fin 512) (a : Fin 2048) :
    kZ x0 x1 x3 (ix2 q a) = proj X g Wq (512 * i + q) a := by
  pointwise [kZ, k0_pay9, k0_pay4, k0_pay5, k0_pay6, k0_pay7, k0_pay8]
  unfold proj
  split_ifs <;> refine sum_mul_eq _ _ _ _ (fun l => hid_block H q l) (fun l => (H.q _ l _).trans (congrArg (Wq l) ?_)) <;> simp <;> omega

/-- The first head. -/
def kH0 (x0 : Vec Ideal S512x1024 .f32) (x1 : Vec Ideal S1x1024 .f32) (x2 : Vec Ideal S256x2048 .f32) (x3 : Vec Ideal S8x1024x256 .f32) :
    FVec Ideal S512x256 .f32 :=
  kO (kE (kS (extractStridedSlice S512x256 ![0, 0] (kZ x0 x1 x3) slices_S512x2048_o0_0_S512x256) (extractStridedSlice S256x256 ![0, 0] x2 slices_S256x2048_o0_0_S256x256)))
    (extractStridedSlice S256x256 ![0, 1024] x2 slices_S256x2048_o0_1024_S256x256)

/-- An entry of it. -/
theorem kH0_at (H : Reads X M Wq Wo g i x0 x1 x2 x3 x4) (r : Fin 512) (d : Fin 256) :
    kH0 x0 x1 x2 x3 (ix2 r d) = Cert.Cross.head (proj X g Wq) M 0 (512 * i + r) d := by
  refine kO_at _ _ r _ _ (fun j => kE_at _ r _ (fun j => kS_at _ _ r _ _ (fun e => ?_) (fun j e => ?_) j) j) (fun j e => ?_) d
  · pointwise
    exact (kZ_at H r _).trans (congrArg (proj X g Wq _) (by simp <;> omega))
  · pointwise
    exact (H.m j _).trans (congrArg (M j) (by simp <;> omega))
  · pointwise
    exact (H.m j _).trans (congrArg (M j) (by simp <;> omega))

/-- The second head. -/
def kH1 (x0 : Vec Ideal S512x1024 .f32) (x1 : Vec Ideal S1x1024 .f32) (x2 : Vec Ideal S256x2048 .f32) (x3 : Vec Ideal S8x1024x256 .f32) :
    FVec Ideal S512x256 .f32 :=
  kO (kE (kS (extractStridedSlice S512x256 ![0, 256] (kZ x0 x1 x3) slices_S512x2048_o0_256_S512x256) (extractStridedSlice S256x256 ![0, 256] x2 slices_S256x2048_o0_256_S256x256)))
    (extractStridedSlice S256x256 ![0, 1280] x2 slices_S256x2048_o0_1280_S256x256)

/-- An entry of it. -/
theorem kH1_at (H : Reads X M Wq Wo g i x0 x1 x2 x3 x4) (r : Fin 512) (d : Fin 256) :
    kH1 x0 x1 x2 x3 (ix2 r d) = Cert.Cross.head (proj X g Wq) M 1 (512 * i + r) d := by
  refine kO_at _ _ r _ _ (fun j => kE_at _ r _ (fun j => kS_at _ _ r _ _ (fun e => ?_) (fun j e => ?_) j) j) (fun j e => ?_) d
  · pointwise
    exact (kZ_at H r _).trans (congrArg (proj X g Wq _) (by simp <;> omega))
  · pointwise
    exact (H.m j _).trans (congrArg (M j) (by simp <;> omega))
  · pointwise
    exact (H.m j _).trans (congrArg (M j) (by simp <;> omega))

/-- The third head. -/
def kH2 (x0 : Vec Ideal S512x1024 .f32) (x1 : Vec Ideal S1x1024 .f32) (x2 : Vec Ideal S256x2048 .f32) (x3 : Vec Ideal S8x1024x256 .f32) :
    FVec Ideal S512x256 .f32 :=
  kO (kE (kS (extractStridedSlice S512x256 ![0, 512] (kZ x0 x1 x3) slices_S512x2048_o0_512_S512x256) (extractStridedSlice S256x256 ![0, 512] x2 slices_S256x2048_o0_512_S256x256)))
    (extractStridedSlice S256x256 ![0, 1536] x2 slices_S256x2048_o0_1536_S256x256)

/-- An entry of it. -/
theorem kH2_at (H : Reads X M Wq Wo g i x0 x1 x2 x3 x4) (r : Fin 512) (d : Fin 256) :
    kH2 x0 x1 x2 x3 (ix2 r d) = Cert.Cross.head (proj X g Wq) M 2 (512 * i + r) d := by
  refine kO_at _ _ r _ _ (fun j => kE_at _ r _ (fun j => kS_at _ _ r _ _ (fun e => ?_) (fun j e => ?_) j) j) (fun j e => ?_) d
  · pointwise
    exact (kZ_at H r _).trans (congrArg (proj X g Wq _) (by simp <;> omega))
  · pointwise
    exact (H.m j _).trans (congrArg (M j) (by simp <;> omega))
  · pointwise
    exact (H.m j _).trans (congrArg (M j) (by simp <;> omega))

/-- The fourth head. -/
def kH3 (x0 : Vec Ideal S512x1024 .f32) (x1 : Vec Ideal S1x1024 .f32) (x2 : Vec Ideal S256x2048 .f32) (x3 : Vec Ideal S8x1024x256 .f32) :
    FVec Ideal S512x256 .f32 :=
  kO (kE (kS (extractStridedSlice S512x256 ![0, 768] (kZ x0 x1 x3) slices_S512x2048_o0_768_S512x256) (extractStridedSlice S256x256 ![0, 768] x2 slices_S256x2048_o0_768_S256x256)))
    (extractStridedSlice S256x256 ![0, 1792] x2 slices_S256x2048_o0_1792_S256x256)

/-- An entry of it. -/
theorem kH3_at (H : Reads X M Wq Wo g i x0 x1 x2 x3 x4) (r : Fin 512) (d : Fin 256) :
    kH3 x0 x1 x2 x3 (ix2 r d) = Cert.Cross.head (proj X g Wq) M 3 (512 * i + r) d := by
  refine kO_at _ _ r _ _ (fun j => kE_at _ r _ (fun j => kS_at _ _ r _ _ (fun e => ?_) (fun j e => ?_) j) j) (fun j e => ?_) d
  · pointwise
    exact (kZ_at H r _).trans (congrArg (proj X g Wq _) (by simp <;> omega))
  · pointwise
    exact (H.m j _).trans (congrArg (M j) (by simp <;> omega))
  · pointwise
    exact (H.m j _).trans (congrArg (M j) (by simp <;> omega))

/-- The heads side by side. -/
def kC (h0 h1 h2 h3 : FVec Ideal S512x256 .f32) : FVec Ideal S512x1024 .f32 :=
  concatenate S512x1024 1 [⟨S512x256, h0⟩, ⟨S512x256, h1⟩, ⟨S512x256, h2⟩, ⟨S512x256, h3⟩]
    concatenates_S512x256_S512x256_S512x256_S512x256_S512x1024_d1

/-- The gate of a point's rows. -/
def kG (z : FVec Ideal S512x2048 .f32) : FVec Ideal S512x1024 .f32 :=
  mulf (extractStridedSlice S512x1024 ![0, 1024] z slices_S512x2048_o0_1024_S512x1024)
    (logistic (extractStridedSlice S512x1024 ![0, 1024] z slices_S512x2048_o0_1024_S512x1024))

/-- The gated heads times the weights, added to the rows. -/
def kF (x0 : Vec Ideal S512x1024 .f32) (w : FVec Ideal S1024x1024 .f32) (u v : FVec Ideal S512x1024 .f32) : FVec Ideal S512x1024 .f32 :=
  addf x0 (matmul dot_S512x1024_S1024x1024_S512x1024_1_0_0_1_n_n none
    (truncf .bf16 (mulf u v) bitsLt_bf16_f32) (truncf .bf16 w bitsLt_bf16_f32) (constant S512x1024 .f32 0x00000000#32))

/-- An entry of the heads side by side. -/
theorem kC_at (Z K : ℕ → ℕ → EReal) (n : ℕ) (h0 h1 h2 h3 : FVec Ideal S512x256 .f32) (q : Fin 512)
    (e0 : ∀ d, h0 (ix2 q d) = Cert.Cross.head Z K 0 n d) (e1 : ∀ d, h1 (ix2 q d) = Cert.Cross.head Z K 1 n d)
    (e2 : ∀ d, h2 (ix2 q d) = Cert.Cross.head Z K 2 n d) (e3 : ∀ d, h3 (ix2 q d) = Cert.Cross.head Z K 3 n d) (l : Fin 1024) :
    kC h0 h1 h2 h3 (ix2 q l) = Cert.Cross.heads Z K n l := by
  pointwise [kC]
  split_ifs <;> first
    | exact (e0 _).trans (Cert.Cross.heads_at _ _ _ _ _ _ (by dsimp only; omega))
    | exact (e1 _).trans (Cert.Cross.heads_at _ _ _ _ _ _ (by dsimp only; omega))
    | exact (e2 _).trans (Cert.Cross.heads_at _ _ _ _ _ _ (by dsimp only; omega))
    | exact (e3 _).trans (Cert.Cross.heads_at _ _ _ _ _ _ (by dsimp only; omega))

/-- An entry of the gate. -/
theorem kG_at (f : ℕ → EReal) (z : FVec Ideal S512x2048 .f32) (q : Fin 512) (hz : ∀ a : Fin 2048, z (ix2 q a) = f a) (l : Fin 1024) :
    kG z (ix2 q l) = silu (f (1024 + l)) := by
  pointwise [kG]
  simp only [hz]
  exact congrArg (fun k => silu (f k)) (by simp <;> omega)

/-- An entry of the result. -/
theorem kF_at (x0 : Vec Ideal S512x1024 .f32) (w : FVec Ideal S1024x1024 .f32) (u v : FVec Ideal S512x1024 .f32) (q : Fin 512) (a : Fin 1024) :
    kF x0 w u v (ix2 q a) = x0 (ix2 q a) + ∑ l : Fin 1024, u (ix2 q l) * v (ix2 q l) * w (ix2 l a) := by
  pointwise [kF]

/-- An entry of the weights as one matrix. -/
theorem kW_at (H : Reads X M Wq Wo g i x0 x1 x2 x3 x4) (l a : Fin 1024) : k0_pay2 x4 (ix2 l a) = Wo l a := by
  pointwise [k0_pay2]
  refine (H.o _ _ _).trans (congrArg (fun z => Wo z a) ?_)
  show 128 * (l.val / 128) + l.val % 128 = l
  omega

/-- What the body stores. -/
abbrev stored (x0 : Vec Ideal S512x1024 .f32) (x1 : Vec Ideal S1x1024 .f32) (x2 : Vec Ideal S256x2048 .f32) (x3 : Vec Ideal S8x1024x256 .f32)
    (x4 : Vec Ideal S8x128x1024 .f32) : FVec Ideal S512x1024 .f32 :=
  k0_pay1 x0 (k0_pay2 x4) (kZ x0 x1 x3)
    (k0_pay10 x2 x3 (k0_pay3 x0 x1) (k0_pay4 x0 x1 x3) (k0_pay5 x0 x1 x3) (k0_pay6 x0 x1 x3) (k0_pay7 x0 x1 x3) (k0_pay8 x3))
    (k0_pay14 (k0_pay11 x2) (k0_pay12 x2 x3 (k0_pay3 x0 x1) (k0_pay4 x0 x1 x3) (k0_pay5 x0 x1 x3) (k0_pay6 x0 x1 x3) (k0_pay7 x0 x1 x3) (k0_pay8 x3)) k0_pay13)
    (k0_pay15 x2 (kZ x0 x1 x3)) (k0_pay16 x2) (k0_pay17 x2 (kZ x0 x1 x3)) (k0_pay18 x2 (kZ x0 x1 x3))

/-- It is made of the heads. -/
theorem stored_eq (x0 : Vec Ideal S512x1024 .f32) (x1 : Vec Ideal S1x1024 .f32) (x2 : Vec Ideal S256x2048 .f32) (x3 : Vec Ideal S8x1024x256 .f32)
    (x4 : Vec Ideal S8x128x1024 .f32) : stored x0 x1 x2 x3 x4
      = kF x0 (k0_pay2 x4) (kC (kH0 x0 x1 x2 x3) (kH1 x0 x1 x2 x3) (kH2 x0 x1 x2 x3) (kH3 x0 x1 x2 x3)) (kG (kZ x0 x1 x3)) := rfl

/-- An entry of what the body stores. -/
theorem out_block (H : Reads X M Wq Wo g i x0 x1 x2 x3 x4) (q : Fin 512) (a : Fin 1024) :
    stored x0 x1 x2 x3 x4 (ix2 q a) = Cert.Cross.out X (proj X g Wq) M Wo (512 * i + q) a := by
  rw [stored_eq, kF_at]
  unfold Cert.Cross.out
  refine congrArg₂ (fun a b : EReal => a + b) (H.x q a) (Finset.sum_congr rfl fun l _ => ?_)
  rw [kC_at (proj X g Wq) M (512 * i + q) _ _ _ _ q (kH0_at H q) (kH1_at H q) (kH2_at H q) (kH3_at H q) l,
    kG_at (proj X g Wq (512 * i + q)) _ q (kZ_at H q) l, kW_at H l a]

end Cert.Kernel6Ideal.Body
end
-- ==== Proof.CrossState.lean ====
/-
  The result array of the cross-attention.
-/
module

public import proofs.«01_k».proof.Proof.CrossBody
public import proofs.«01_k».proof.Proof.Gen.Kernel6Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel6Ideal.Point
open Cert.Kernel6Ideal Cert.Kernel6Ideal.Gen Cert.Kernel6Ideal.Body Cert.Norm Cert.Attn Finset
open Cert.Gate (tall tall_at)

variable (m : (ℓ : Loc nD τ sig) → Buf (Elt Ideal) ℓ) (c : Dev nD)

/-- The input rows. -/
abbrev X : ℕ → ℕ → EReal := nat2 (m (c.tc.loc main_arg0))
/-- The gain. -/
abbrev g : ℕ → EReal := row (m (c.tc.loc main_arg1))
/-- The memory's keys and values. -/
abbrev M : ℕ → ℕ → EReal := nat2 (m (c.tc.loc main_arg2))
/-- The weights of the queries and the gate. -/
abbrev Wq : ℕ → ℕ → EReal := wide (m (c.tc.loc main_arg3))
/-- The weights of the output. -/
abbrev Wo : ℕ → ℕ → EReal := tall (m (c.tc.loc main_arg4))

/-- The block that each operand's window gives a point. -/
theorem window_index : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] := by
  decide +kernel

/-- There are sixteen points. -/
theorem point_lt (t : Fin cfg0.N) : t.val < 16 := t.isLt

/-- The block of input rows. -/
theorem iblk_0 (t : Fin cfg0.N) (q : Fin 512) (l : Fin 1024) : iblk m c 0 t (ix2 q l) = X m c (512 * t.val + q) l := by
  have ht := point_lt t
  refine Eq.trans ?_ (nat2_apply (m (c.tc.loc main_arg0)) ⟨512 * t.val + q, by omega⟩ l)
  blk_ext [iblk, V_main_arg0, window_index t]

/-- The gain. -/
theorem iblk_1 (t : Fin cfg0.N) (l : Fin 1024) : iblk m c 1 t (ix2 0 l) = g m c l := by
  refine Eq.trans ?_ (row_at (m (c.tc.loc main_arg1)) l l rfl)
  blk_ext [iblk, V_main_arg1, window_index t]

/-- The memory. -/
theorem iblk_2 (t : Fin cfg0.N) (j : Fin 256) (l : Fin 2048) : iblk m c 2 t (ix2 j l) = M m c j l := by
  refine Eq.trans ?_ (nat2_apply (m (c.tc.loc main_arg2)) j l)
  blk_ext [iblk, V_main_arg2, window_index t]

/-- The weights of the queries and the gate. -/
theorem iblk_3 (t : Fin cfg0.N) (j : Fin 8) (r : Fin 1024) (k : Fin 256) : iblk m c 3 t (ix3 j r k) = Wq m c r (256 * j + k) := by
  refine Eq.trans ?_ (wide_at (m (c.tc.loc main_arg3)) j r k _ _ rfl rfl)
  blk_ext [iblk, V_main_arg3, window_index t]

/-- The weights of the output. -/
theorem iblk_4 (t : Fin cfg0.N) (j : Fin 8) (r : Fin 128) (k : Fin 1024) : iblk m c 4 t (ix3 j r k) = Wo m c (128 * j + r) k := by
  refine Eq.trans ?_ (tall_at (m (c.tc.loc main_arg4)) j r k _ _ rfl rfl)
  blk_ext [iblk, V_main_arg4, window_index t]

/-- What a point's body computes with. -/
theorem reads (t : Fin cfg0.N) :
    Reads (X m c) (M m c) (Wq m c) (Wo m c) (g m c) t.val (iblk m c 0 t) (iblk m c 1 t) (iblk m c 2 t) (iblk m c 3 t) (iblk m c 4 t) where
  x := iblk_0 m c t
  g := iblk_1 m c t
  m := iblk_2 m c t
  q := iblk_3 m c t
  o := iblk_4 m c t

/-- The block of every point. -/
theorem out (t : Fin cfg0.N) (q : Fin 512) (a : Fin 1024) :
    out0_5 (iblk m c 0 t) (iblk m c 1 t) (iblk m c 2 t) (iblk m c 3 t) (iblk m c 4 t) (ix2 q a)
      = Cert.Cross.out (X m c) (proj (X m c) (g m c) (Wq m c)) (M m c) (Wo m c) (512 * t.val + q) a := by
  unfold_out out0_5
  frame_out
  exact out_block (reads m c t) q a

/-- The rows with the attention added. -/
theorem array : (dats m 0 c).arrAt 5 cfg0.N
    = fun i : S8192x1024.Idx => Cert.Cross.out (X m c) (proj (X m c) (g m c) (Wq m c)) (M m c) (Wo m c) (i 0) (i 1) := by
  refine (dats m 0 c).arrAt_eq_of_covers 5 _ (by decide +kernel) fun t hf y => ?_
  blk_simp [window_index t]
  rw [after0_5]
  exact (congrArg _ (eq_ix2 (a := 512) (b := 1024) y)).trans ((out m c t (y 0) (y 1)).trans (by rw [Nat.mul_comm]))

end Cert.Kernel6Ideal.Point
end
-- ==== Proof.CrossRef.lean ====
/-
  What the reference's cross-attention computes, stage by stage and entry by entry.
-/
module

public import proofs.«01_k».proof.Proof.Cross
public import proofs.«01_k».proof.Proof.Row
public import proofs.«01_k».proof.Proof.Gen.Reference6Ideal.Run
public import Idealize.ShloMosaic.Lib.Pointwise

@[expose] public section
set_option maxRecDepth 16384
noncomputable section
open Idealize.ShloMosaic Idealize.ShloMosaic.TcCoe Idealize.SL.Sem
namespace Cert.Reference6Ideal.Read
open Cert.Reference6Ideal Cert.Reference6Ideal.Gen Cert.Reference6Ideal.Value Cert.Norm Finset
open Cert.Attn (nat2 nat2_apply ofBits_neg_inf)
open Cert.Gate (silu tall tall_at)

/-- An array of rows. -/
abbrev Rows := FVec Idealize.ShloMosaic.Ideal S8192x1024 .f32

/-- The weights as one matrix. -/
def tW (w : FVec Idealize.ShloMosaic.Ideal S8x1024x256 .f32) : FVec Idealize.ShloMosaic.Ideal S1024x2048 .f32 :=
  shapeCast _ (transpose S1024x8x256 [1, 0, 2] w transposes_S8x1024x256_S1024x8x256_1_0_2) shapeCasts_S1024x8x256_S1024x2048

/-- The gain, on every row. -/
def tG (g : FVec Idealize.ShloMosaic.Ideal S1x1024 .f32) : Rows :=
  broadcastInDim S8192x1024 ![0, 1] bcast_S1x1024_S8192x1024_0_1 (broadcastInDim S1x1024 ![1] bcast_S1024_S1x1024_1 (shapeCast _ g shapeCasts_S1x1024_S1024))

/-- The mean of each row's squares, with the small number added. -/
def tM (x : Rows) : FVec Idealize.ShloMosaic.Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
def tN (x : Rows) (M : FVec Idealize.ShloMosaic.Ideal S8192x1 .f32) : Rows :=
  mulf x (broadcastInDim S8192x1024 ![0, 1] bcast_S8192x1_S8192x1024_0_1 (Host.rsqrt M))

/-- The projection. -/
def tP (h : Rows) (w : FVec Idealize.ShloMosaic.Ideal S1024x2048 .f32) : FVec Idealize.ShloMosaic.Ideal S8192x2048 .f32 :=
  Host.dotGeneral dot_S8192x1024_S1024x2048_S8192x2048_1_0_0_1_n_n none h w

/-- An entry of the weights as one matrix. -/
theorem tW_at (w : FVec Idealize.ShloMosaic.Ideal S8x1024x256 .f32) (r : Fin 1024) (a : Fin 2048) : (tW w (ix2 r a) : EReal) = wide w r a := by
  pointwise [tW]
  exact wide_at w _ r _ _ _ rfl (by show 256 * (a.val / 256) + a.val % 256 = a; omega)

/-- An entry of the gain. -/
theorem tG_at (g : FVec Idealize.ShloMosaic.Ideal S1x1024 .f32) (n : Fin 8192) (l : Fin 1024) : (tG g (ix2 n l) : EReal) = row g l := by
  pointwise [tG]
  exact row_at g l l rfl

/-- The mean of a row's squares. -/
theorem tM_at (x : Rows) (n : Fin 8192) : (tM x (ix2 n 0) : EReal) = ms (nat2 x) n := by
  pointwise [tM]
  exact congrArg (fun z : EReal => Ideal.div z width + small) (sum_mul_eq _ _ _ _ (fun k => nat2_apply x n k) (fun k => nat2_apply x n k))

/-- An entry of a row divided by its root mean square. -/
theorem tN_at (x : Rows) (n : Fin 8192) (l : Fin 1024) : (tN x (tM x) (ix2 n l) : EReal) = nat2 x n l * inv (nat2 x) n := by
  pointwise [tN]
  exact congrArg₂ (fun a b : EReal => a * Ideal.rsqrt b) (nat2_apply x n l) (tM_at x n)

/-- An entry of a normalised row. -/
theorem tH_at (x : Rows) (g : FVec Idealize.ShloMosaic.Ideal S1x1024 .f32) (n : Fin 8192) (l : Fin 1024) :
    (mulf (tN x (tM x)) (tG g) (ix2 n l) : EReal) = hid (nat2 x) (row g) n l := by
  exact congrArg₂ (fun a b : EReal => a * b) (tN_at x n l) (tG_at g n l)

/-- An entry of the projection. -/
theorem tP_at (x : Rows) (g : FVec Idealize.ShloMosaic.Ideal S1x1024 .f32) (w : FVec Idealize.ShloMosaic.Ideal S8x1024x256 .f32)
    (n : Fin 8192) (a : Fin 2048) :
    (tP (mulf (tN x (tM x)) (tG g)) (tW w) (ix2 n a) : EReal) = proj (nat2 x) (row g) (wide w) n a := by
  pointwise [tP]
  exact sum_mul_eq _ _ _ _ (fun k => tH_at x g n k) (fun k => tW_at w k a)

/-- The projected rows. -/
abbrev Wide := FVec Idealize.ShloMosaic.Ideal S8192x2048 .f32
/-- The memory's keys and values. -/
abbrev Mem := FVec Idealize.ShloMosaic.Ideal S256x2048 .f32
/-- Keys or values, head by head. -/
abbrev Heads := FVec Idealize.ShloMosaic.Ideal S256x4x256 .f32
/-- Scores, head by head. -/
abbrev Scores := FVec Idealize.ShloMosaic.Ideal S4x8192x256 .f32

/-- The queries, head by head. -/
def tQ (z : Wide) : FVec Idealize.ShloMosaic.Ideal S8192x4x256 .f32 :=
  shapeCast _ (extractStridedSlice S8192x1024 ![0, 0] z slices_S8192x2048_S8192x1024_0_0) shapeCasts_S8192x1024_S8192x4x256

/-- The keys, head by head. -/
def tK (v : Mem) : Heads := shapeCast _ (extractStridedSlice S256x1024 ![0, 0] v slices_S256x2048_S256x1024_0_0) shapeCasts_S256x1024_S256x4x256

/-- The values, head by head. -/
def tV (v : Mem) : Heads := shapeCast _ (extractStridedSlice S256x1024 ![0, 1024] v slices_S256x2048_S256x1024_0_1024) shapeCasts_S256x1024_S256x4x256

/-- The gate. -/
def tGate (z : Wide) : Rows := extractStridedSlice S8192x1024 ![0, 1024] z slices_S8192x2048_S8192x1024_0_1024

/-- The scores. -/
def tS (q : FVec Idealize.ShloMosaic.Ideal S8192x4x256 .f32) (k : Heads) : Scores :=
  mulf (Host.dotGeneral dot_S8192x4x256_S256x4x256_S4x8192x256_2_2_0_0_1_1 none q k) (broadcastInDim S4x8192x256 ![] bcast_S_S4x8192x256 (constant S_ .f32 0x3D800000#32))

/-- The maximum of each row of the scores. -/
def tMax (s : Scores) : FVec Idealize.ShloMosaic.Ideal S4x8192 .f32 :=
  Host.reduce FloatOps.maximumf s (constant S_ .f32 0xFF800000#32) reducesTo_S4x8192x256_S4x8192_d2 h_S_

/-- The greatest score of each row. -/
def tTop (s : Scores) : FVec Idealize.ShloMosaic.Ideal S4x8192 .f32 :=
  maximumf (broadcastInDim S4x8192 ![] bcast_S_S4x8192 (constant S_ .f32 0xFF800000#32)) (tMax s)

/-- A value of each row, over the row's columns. -/
def tSpread (v : FVec Idealize.ShloMosaic.Ideal S4x8192 .f32) : Scores :=
  broadcastInDim S4x8192x256 ![0, 1, 2] bcast_S4x8192x1_S4x8192x256_0_1_2 (broadcastInDim S4x8192x1 ![0, 1] bcast_S4x8192_S4x8192x1_0_1 v)

/-- The exponentials of the scores less each row's greatest. -/
def tE (s : Scores) : Scores := Host.exp (subf s (tSpread (tTop s)))

/-- The softmax. -/
def tA (e : Scores) : Scores := Host.divf e (tSpread (Host.reduceAdd e (constant S_ .f32 0x00000000#32) reducesTo_S4x8192x256_S4x8192_d2 h_S_))

/-- The values weighed by the softmax, the heads side by side. -/
def tO (v : Heads) (p : Scores) : Rows :=
  shapeCast _ (transpose S8192x4x256 [2, 0, 1] (Host.dotGeneral dot_S256x4x256_S4x8192x256_S4x256x8192_0_2_2_1_1_0 none v p) transposes_S4x256x8192_S8192x4x256_2_0_1) shapeCasts_S8192x4x256_S8192x1024

/-- The logistic of every entry. -/
def tL (z : Rows) : Rows :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf z)))

/-- The weights of the output as one matrix. -/
def tWo (w : FVec Idealize.ShloMosaic.Ideal S8x128x1024 .f32) : FVec Idealize.ShloMosaic.Ideal S1024x1024 .f32 := shapeCast _ w shapeCasts_S8x128x1024_S1024x1024

/-- The rows with the product added. -/
def tOut (x u : Rows) (w : FVec Idealize.ShloMosaic.Ideal S1024x1024 .f32) : Rows :=
  addf x (Host.dotGeneral dot_S8192x1024_S1024x1024_S8192x1024_1_0_0_1_n_n none u w)

/-- An entry of the queries. -/
theorem tQ_at (z : Wide) (n : Fin 8192) (h : Fin 4) (d : Fin 256) : (tQ z (ix3 n h d) : EReal) = nat2 z n (256 * h + d) := by
  pointwise [tQ]
  exact nat2_at z _ _ _ _ (by simp <;> omega) (by simp <;> omega)

/-- An entry of the keys. -/
theorem tK_at (v : Mem) (j : Fin 256) (h : Fin 4) (d : Fin 256) : (tK v (ix3 j h d) : EReal) = nat2 v j (256 * h + d) := by
  pointwise [tK]
  exact nat2_at v _ _ _ _ (by simp <;> omega) (by simp <;> omega)

/-- An entry of the values. -/
theorem tV_at (v : Mem) (j : Fin 256) (h : Fin 4) (d : Fin 256) : (tV v (ix3 j h d) : EReal) = nat2 v j (1024 + 256 * h + d) := by
  pointwise [tV]
  exact nat2_at v _ _ _ _ (by simp <;> omega) (by simp <;> omega)

/-- A row's scores. -/
theorem tS_at (z : Wide) (v : Mem) (h : Fin 4) (n : Fin 8192) (j : Fin 256) : (tS (tQ z) (tK v) (ix3 h n j) : EReal)
    = Cert.Cross.score (fun e => nat2 z n (256 * h + e)) (fun j e => nat2 v j (256 * h + e)) j := by
  pointwise [tS]
  exact congrArg (fun z : EReal => z * Cert.Cross.scale) (sum_mul_eq _ _ _ _ (fun e => tQ_at z n h e) (fun e => tK_at v j h e))

/-- The maximum with the constant, at an index. -/
theorem floor_at (a : FVec Idealize.ShloMosaic.Ideal S4x8192 .f32) (i : S4x8192.Idx) :
    maximumf (broadcastInDim S4x8192 ![] bcast_S_S4x8192 (constant S_ .f32 0xFF800000#32)) a i = max (Ideal.ofBits .f32 0xFF800000#32) (a i : EReal) := rfl

/-- A maximum that starts from minus infinity is not changed by it. -/
theorem floor_eq (a b : EReal) (h : a = b) : max (Ideal.ofBits .f32 0xFF800000#32 : EReal) a = b := by
  rw [ofBits_neg_inf, max_eq_right bot_le, h]

/-- The maximum of a row of the scores. -/
theorem row_max (s : Scores) (h : Fin 4) (n : Fin 8192) :
    (tMax s (ix2 h n) : EReal)
      = Finset.fold max (Ideal.ofBits .f32 0xFF800000#32 : EReal) (fun j : Fin 256 => (s (ix3 h n j) : EReal)) Finset.univ := by
  pointwise [tMax]

/-- The greatest score of a row. -/
theorem tTop_at (s : Scores) (h : Fin 4) (n : Fin 8192) :
    (tTop s (ix2 h n) : EReal) = Finset.fold max Cert.Cross.lowest (fun j : Fin 256 => (s (ix3 h n j) : EReal)) Finset.univ := by
  unfold tTop Cert.Cross.lowest
  exact (floor_at _ _).trans (floor_eq _ _ (row_max s h n))

/-- A row's value, at a column. -/
theorem tSpread_at (v : FVec Idealize.ShloMosaic.Ideal S4x8192 .f32) (h : Fin 4) (n : Fin 8192) (j : Fin 256) :
    (tSpread v (ix3 h n j) : EReal) = v (ix2 h n) := by
  pointwise [tSpread]

/-- A row's exponentials. -/
theorem tE_at (s : Scores) (h : Fin 4) (n : Fin 8192) (S : Fin 256 → EReal) (hs : ∀ j, (s (ix3 h n j) : EReal) = S j) (j : Fin 256) :
    (tE s (ix3 h n j) : EReal) = Cert.Cross.expo S j := by
  refine congrArg₂ (fun a b : EReal => Ideal.exp (a - b)) (hs j) ((tSpread_at _ h n j).trans ((tTop_at s h n).trans ?_))
  exact congrArg (fun f => Finset.fold max Cert.Cross.lowest f Finset.univ) (funext hs)

/-- A row's softmax. -/
theorem tA_at (e : Scores) (h : Fin 4) (n : Fin 8192) (S : Fin 256 → EReal) (he : ∀ j, (e (ix3 h n j) : EReal) = Cert.Cross.expo S j) (j : Fin 256) :
    (tA e (ix3 h n j) : EReal) = Ideal.div (Cert.Cross.expo S j) (∑ k : Fin 256, Cert.Cross.expo S k) := by
  refine congrArg₂ (fun a b : EReal => Ideal.div a b) (he j) ((tSpread_at _ h n j).trans ?_)
  pointwise
  exact Finset.sum_congr rfl fun k _ => he k

/-- An entry of the heads side by side. -/
theorem tO_at (z : Wide) (v : Mem) (n : Fin 8192) (l : Fin 1024) :
    (tO (tV v) (tA (tE (tS (tQ z) (tK v)))) (ix2 n l) : EReal) = Cert.Cross.heads (nat2 z) (nat2 v) n l := by
  have hd : 256 * (l.val / 256) + l.val % 256 = l := by omega
  refine Eq.trans ?_ (Cert.Cross.heads_at (nat2 z) (nat2 v) n (l.val / 256) ⟨l.val % 256, Nat.mod_lt _ (by decide)⟩ l hd)
  pointwise [tO]
  exact prod_swap (fun j => tA_at _ ⟨l.val / 256, by omega⟩ n _ (fun j => tE_at _ _ n _ (fun j => tS_at z v _ n j) j) j)
    (fun j => tV_at v j _ _)

/-- An entry of the gate. -/
theorem tGate_at (z : Wide) (n : Fin 8192) (l : Fin 1024) : (tGate z (ix2 n l) : EReal) = nat2 z n (1024 + l) := by
  pointwise [tGate]
  exact nat2_at z _ _ _ _ rfl rfl

/-- An entry of the logistic. -/
theorem tL_at (z : Rows) (n : Fin 8192) (l : Fin 1024) : (tL z (ix2 n l) : EReal) = Ideal.logistic (z (ix2 n l)) := by
  pointwise [tL]
  rfl

/-- An entry of the output's weights. -/
theorem tWo_at (w : FVec Idealize.ShloMosaic.Ideal S8x128x1024 .f32) (r a : Fin 1024) : (tWo w (ix2 r a) : EReal) = tall w r a := by
  pointwise [tWo]
  exact tall_at w _ _ _ _ _ (by show 128 * (r.val / 128) + r.val % 128 = r; omega) rfl

/-- An entry of the gated heads. -/
theorem tU_at (z : Wide) (v : Mem) (n : Fin 8192) (l : Fin 1024) :
    (mulf (tO (tV v) (tA (tE (tS (tQ z) (tK v))))) (mulf (tGate z) (tL (tGate z))) (ix2 n l) : EReal)
      = Cert.Cross.heads (nat2 z) (nat2 v) n l * silu (nat2 z n (1024 + l)) := by
  refine congrArg₂ (fun a b : EReal => a * b) (tO_at z v n l) ?_
  refine (congrArg₂ (fun a b : EReal => a * b) (tGate_at z n l) (tL_at _ n l)).trans ?_
  rw [tGate_at]
  rfl

/-- An entry of the result. -/
theorem tOut_at (x : Rows) (z : Wide) (v : Mem) (w : FVec Idealize.ShloMosaic.Ideal S8x128x1024 .f32) (n : Fin 8192) (a : Fin 1024) :
    (tOut x (mulf (tO (tV v) (tA (tE (tS (tQ z) (tK v))))) (mulf (tGate z) (tL (tGate z)))) (tWo w) (ix2 n a) : EReal)
      = Cert.Cross.out (nat2 x) (nat2 z) (nat2 v) (tall w) n a := by
  pointwise [tOut]
  exact congrArg₂ (fun a b : EReal => a + b) (nat2_apply x n a) (sum_mul_eq _ _ _ _ (fun k => tU_at z v n k) (fun k => tWo_at w k a))

variable (m : (ℓ : Loc nD τ sig) → Buf (Elt Idealize.ShloMosaic.Ideal) ℓ) (c : Dev nD)

/-- The reference's projection. -/
def termZ : Wide :=
  tP (mulf (tN (m (c.tc.loc main_arg0)) (tM (m (c.tc.loc main_arg0)))) (tG (m (c.tc.loc main_arg1)))) (tW (m (c.tc.loc main_arg3)))

/-- The reference's result. -/
def term : Rows :=
  tOut (m (c.tc.loc main_arg0)) (mulf (tO (tV (m (c.tc.loc main_arg2))) (tA (tE (tS (tQ (termZ m c)) (tK (m (c.tc.loc main_arg2)))))))
    (mulf (tGate (termZ m c)) (tL (tGate (termZ m c))))) (tWo (m (c.tc.loc main_arg4)))

/-- The stages are the printed program's. -/
theorem term_eq : res_main_v45 m c = term m c := rfl

/-- An entry of the reference's projection. -/
theorem termZ_at (n : Fin 8192) (k : ℕ) (hk : k < 2048) : nat2 (termZ m c) n k
    = proj (nat2 (m (c.tc.loc main_arg0))) (row (m (c.tc.loc main_arg1))) (wide (m (c.tc.loc main_arg3))) n k :=
  (nat2_apply (termZ m c) n ⟨k, hk⟩).symm.trans (tP_at _ _ _ n ⟨k, hk⟩)

/-- The rows with the attention added. -/
theorem result (n : Fin 8192) (a : Fin 1024) : (res_main_v45 m c (ix2 n a) : EReal)
    = Cert.Cross.out (nat2 (m (c.tc.loc main_arg0)))
        (proj (nat2 (m (c.tc.loc main_arg0))) (row (m (c.tc.loc main_arg1))) (wide (m (c.tc.loc main_arg3))))
        (nat2 (m (c.tc.loc main_arg2))) (tall (m (c.tc.loc main_arg4))) n a := by
  rw [term_eq]
  exact (tOut_at _ _ _ _ n a).trans (Cert.Cross.out_congr _ _ _ _ _ n a (termZ_at m c n))

end Cert.Reference6Ideal.Read
end
-- ==== Proof.CrossClaim.lean ====
/-
  The cross-attention: the kernel's result is the reference's.
-/
module

public import proofs.«01_k».proof.Defs
public import proofs.«01_k».proof.Proof.CrossState
public import proofs.«01_k».proof.Proof.CrossRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.CrossClaim
open Cert.Norm Cert.Attn
open Cert.Gate (tall)

/-- The reference runs, leaves its arguments as they were, and has no counter that could end off zero. -/
theorem reference_frame : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

/-- The result of the kernel is the result of the reference. -/
theorem algebraic : Cert.algebraic_Kernel6Ideal_Reference6Ideal (hKernel6Ideal := Cert.Kernel6Ideal.Gen.facts)
    (hReference6Ideal := Cert.Reference6Ideal.Gen.facts) := by
  intro m g m' g' _ hargs
  have e0 := fun c => congrArg nat2 (hargs c).1
  have e1 := fun c => congrArg row (hargs c).2.1
  have e2 := fun c => congrArg nat2 (hargs c).2.2.1
  have e3 := fun c => congrArg wide (hargs c).2.2.2.1
  have e4 := fun c => congrArg tall (hargs c).2.2.2.2
  have hp : ∀ c, Cert.Reference6Ideal.Value.res_main_v45 m' c = (Cert.Kernel6Ideal.Gen.dats m 0 c).arrAt 5 Cert.Kernel6Ideal.cfg0.N := fun c => by
    refine funext fun i => (congrArg _ (eq_ix2 (a := 8192) (b := 1024) i)).trans ?_
    refine (Cert.Reference6Ideal.Read.result m' c (i 0) (i 1)).trans (Eq.trans ?_ (congrFun (Cert.Kernel6Ideal.Point.array m c) i).symm)
    rw [e0 c, e1 c, e2 c, e3 c, e4 c]
  refine ⟨fun c => (Cert.Kernel6Ideal.Gen.dats m 0 c).arrAt 5 Cert.Kernel6Ideal.cfg0.N, ?_, ?_⟩
  · exact Cert.Kernel6Ideal.Value.run_blocks m g
  · exact (θ_run _ _ _).mono (fun r h c => ⟨(h c).1.trans (hp c), (h c).2⟩) (Cert.Reference6Ideal.Value.run m' g')

end Cert.CrossClaim
end
-- ==== Proof.EvenProjBody.lean ====
/-
  What the even layers' projection computes at one grid point, 512 rows: the normalised rows times the weights.
-/
module

public import proofs.«01_k».proof.Proof.Norm
public import proofs.«01_k».proof.Proof.Gen.Kernel7Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel7Ideal.Body

open Cert.Kernel7Ideal Cert.Kernel7Ideal.Gen Cert.Norm Finset

/-- What a point's body reads: 512 rows of the input, the gain and the weights. -/
structure Reads (X W : ℕ → ℕ → EReal) (g : ℕ → EReal) (i : ℕ) (x0 : Vec Ideal S512x1024 .f32) (x1 : Vec Ideal S1x1024 .f32)
    (x2 : Vec Ideal S1024x2560 .f32) : Prop where
  x : ∀ (q : Fin 512) (l : Fin 1024), x0 (ix2 q l) = X (512 * i + q) l
  g : ∀ (l : Fin 1024), x1 (ix2 0 l) = g l
  w : ∀ (c : Fin 1024) (a : Fin 2560), x2 (ix2 c a) = W c a

variable {X W : ℕ → ℕ → EReal} {g : ℕ → EReal} {i : ℕ} {x0 : Vec Ideal S512x1024 .f32} {x1 : Vec Ideal S1x1024 .f32}
  {x2 : Vec Ideal S1024x2560 .f32}

/-- The normalised rows times the weights. -/
theorem proj_block (H : Reads X W g i x0 x1 x2) (q : Fin 512) (a : Fin 2560) :
    k0_pay1 x0 x1 x2 (ix2 q a) = proj X g W (512 * i + q) a := by
  pointwise [k0_pay1]
  simp only [H.x, H.g, H.w]
  rfl

end Cert.Kernel7Ideal.Body
end
-- ==== Proof.EvenProjState.lean ====
/-
  The result array of the even layers' projection.
-/
module

public import proofs.«01_k».proof.Proof.EvenProjBody
public import proofs.«01_k».proof.Proof.Gen.Kernel7Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel7Ideal.Point
open Cert.Kernel7Ideal Cert.Kernel7Ideal.Gen Cert.Kernel7Ideal.Body Cert.Norm Cert.Attn Finset

variable (m : (ℓ : Loc nD τ sig) → Buf (Elt Ideal) ℓ) (c : Dev nD)

/-- The input rows. -/
abbrev X : ℕ → ℕ → EReal := nat2 (m (c.tc.loc main_arg0))
/-- The gain. -/
abbrev g : ℕ → EReal := row (m (c.tc.loc main_arg1))
/-- The weights. -/
abbrev W : ℕ → ℕ → EReal := nat2 (m (c.tc.loc main_arg2))

/-- The block that each operand's window gives a point. -/
theorem window_index : ∀ t : Fin cfg0.N, win0_0.index t = ![t.val, 0] ∧ win0_1.index t = ![0, 0] ∧ win0_2.index t = ![0, 0]
    ∧ win0_3.index t = ![t.val, 0] := by
  decide +kernel

/-- There are sixteen points. -/
theorem point_lt (t : Fin cfg0.N) : t.val < 16 := t.isLt

/-- The block of input rows. -/
theorem iblk_0 (t : Fin cfg0.N) (q : Fin 512) (l : Fin 1024) : iblk m c 0 t (ix2 q l) = X m c (512 * t.val + q) l := by
  have ht := point_lt t
  refine Eq.trans ?_ (nat2_apply (m (c.tc.loc main_arg0)) ⟨512 * t.val + q, by omega⟩ l)
  blk_ext [iblk, V_main_arg0, window_index t]

/-- The gain. -/
theorem iblk_1 (t : Fin cfg0.N) (l : Fin 1024) : iblk m c 1 t (ix2 0 l) = g m c l := by
  refine Eq.trans ?_ (row_at (m (c.tc.loc main_arg1)) l l rfl)
  blk_ext [iblk, V_main_arg1, window_index t]

/-- The weights. -/
theorem iblk_2 (t : Fin cfg0.N) (r : Fin 1024) (a : Fin 2560) : iblk m c 2 t (ix2 r a) = W m c r a := by
  refine Eq.trans ?_ (nat2_apply (m (c.tc.loc main_arg2)) r a)
  blk_ext [iblk, V_main_arg2, window_index t]

/-- What a point's body computes with. -/
theorem reads (t : Fin cfg0.N) : Reads (X m c) (W m c) (g m c) t.val (iblk m c 0 t) (iblk m c 1 t) (iblk m c 2 t) where
  x := iblk_0 m c t
  g := iblk_1 m c t
  w := iblk_2 m c t

/-- The block of every point. -/
theorem out (t : Fin cfg0.N) (q : Fin 512) (a : Fin 2560) :
    out0_3 (iblk m c 0 t) (iblk m c 1 t) (iblk m c 2 t) (ix2 q a) = proj (X m c) (g m c) (W m c) (512 * t.val + q) a := by
  unfold out0_3
  frame_out
  exact proj_block (reads m c t) q a

/-- The projected rows. -/
theorem array : (dats m 0 c).arrAt 3 cfg0.N = fun i : S8192x2560.Idx => proj (X m c) (g m c) (W m c) (i 0) (i 1) := by
  refine (dats m 0 c).arrAt_eq_of_covers 3 _ (by decide +kernel) fun t hf y => ?_
  blk_simp [window_index t]
  rw [after0_3]
  exact (congrArg _ (eq_ix2 (a := 512) (b := 2560) y)).trans ((out m c t (y 0) (y 1)).trans (by rw [Nat.mul_comm]))

end Cert.Kernel7Ideal.Point
end
-- ==== Proof.EvenProjRef.lean ====
/-
  What the reference of the even layers' projection computes, stage by stage and entry by entry.
-/
module

public import proofs.«01_k».proof.Proof.Norm
public import proofs.«01_k».proof.Proof.Gen.Reference7Ideal.Run
public import Idealize.ShloMosaic.Lib.Pointwise

@[expose] public section
set_option maxRecDepth 16384
noncomputable section
open Idealize.ShloMosaic Idealize.ShloMosaic.TcCoe Idealize.SL.Sem
namespace Cert.Reference7Ideal.Read
open Cert.Reference7Ideal Cert.Reference7Ideal.Gen Cert.Reference7Ideal.Value Cert.Norm Cert.Attn Finset

/-- An array of rows. -/
abbrev Rows := FVec Idealize.ShloMosaic.Ideal S8192x1024 .f32

/-- The gain, on every row. -/
def tG (g : FVec Idealize.ShloMosaic.Ideal S1x1024 .f32) : Rows :=
  broadcastInDim S8192x1024 ![0, 1] bcast_S1x1024_S8192x1024_0_1 (broadcastInDim S1x1024 ![1] bcast_S1024_S1x1024_1 (shapeCast _ g shapeCasts_S1x1024_S1024))

/-- The mean of each row's squares, with the small number added. -/
def tM (x : Rows) : FVec Idealize.ShloMosaic.Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
def tN (x : Rows) (M : FVec Idealize.ShloMosaic.Ideal S8192x1 .f32) : Rows :=
  mulf x (broadcastInDim S8192x1024 ![0, 1] bcast_S8192x1_S8192x1024_0_1 (Host.rsqrt M))

/-- The projection. -/
def tP (h : Rows) (w : FVec Idealize.ShloMosaic.Ideal S1024x2560 .f32) : FVec Idealize.ShloMosaic.Ideal S8192x2560 .f32 :=
  Host.dotGeneral dot_S8192x1024_S1024x2560_S8192x2560_1_0_0_1_n_n none h w

/-- An entry of the gain. -/
theorem tG_at (g : FVec Idealize.ShloMosaic.Ideal S1x1024 .f32) (n : Fin 8192) (l : Fin 1024) : (tG g (ix2 n l) : EReal) = row g l := by
  pointwise [tG]
  exact row_at g l l rfl

/-- The mean of a row's squares. -/
theorem tM_at (x : Rows) (n : Fin 8192) : (tM x (ix2 n 0) : EReal) = ms (nat2 x) n := by
  pointwise [tM]
  exact congrArg (fun z : EReal => Ideal.div z width + small) (sum_mul_eq _ _ _ _ (fun k => nat2_apply x n k) (fun k => nat2_apply x n k))

/-- An entry of a row divided by its root mean square. -/
theorem tN_at (x : Rows) (n : Fin 8192) (l : Fin 1024) : (tN x (tM x) (ix2 n l) : EReal) = nat2 x n l * inv (nat2 x) n := by
  pointwise [tN]
  exact congrArg₂ (fun a b : EReal => a * Ideal.rsqrt b) (nat2_apply x n l) (tM_at x n)

/-- An entry of a normalised row. -/
theorem tH_at (x : Rows) (g : FVec Idealize.ShloMosaic.Ideal S1x1024 .f32) (n : Fin 8192) (l : Fin 1024) :
    (mulf (tN x (tM x)) (tG g) (ix2 n l) : EReal) = hid (nat2 x) (row g) n l := by
  exact congrArg₂ (fun a b : EReal => a * b) (tN_at x n l) (tG_at g n l)

/-- An entry of the projection. -/
theorem tP_at (x : Rows) (g : FVec Idealize.ShloMosaic.Ideal S1x1024 .f32) (w : FVec Idealize.ShloMosaic.Ideal S1024x2560 .f32)
    (n : Fin 8192) (a : Fin 2560) :
    (tP (mulf (tN x (tM x)) (tG g)) w (ix2 n a) : EReal) = proj (nat2 x) (row g) (nat2 w) n a := by
  pointwise [tP]
  exact sum_mul_eq _ _ _ _ (fun k => tH_at x g n k) (fun k => nat2_apply w k a)

variable (m : (ℓ : Loc nD τ sig) → Buf (Elt Idealize.ShloMosaic.Ideal) ℓ) (c : Dev nD)

/-- The reference's result. -/
def termP : FVec Idealize.ShloMosaic.Ideal S8192x2560 .f32 :=
  tP (mulf (tN (m (c.tc.loc main_arg0)) (tM (m (c.tc.loc main_arg0)))) (tG (m (c.tc.loc main_arg1)))) (m (c.tc.loc main_arg2))

/-- The projected rows. -/
theorem result (n : Fin 8192) (a : Fin 2560) : (termP m c (ix2 n a) : EReal)
    = proj (nat2 (m (c.tc.loc main_arg0))) (row (m (c.tc.loc main_arg1))) (nat2 (m (c.tc.loc main_arg2))) n a :=
  tP_at _ _ _ n a

end Cert.Reference7Ideal.Read
end
-- ==== Proof.EvenProjClaim.lean ====
/-
  The even layers' projection: the kernel's result is the reference's.
-/
module

public import proofs.«01_k».proof.Defs
public import proofs.«01_k».proof.Proof.EvenProjState
public import proofs.«01_k».proof.Proof.EvenProjRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.EvenProj
open Cert.Norm Cert.Attn

/-- The reference runs, leaves its arguments as they were, and has no counter that could end off zero. -/
theorem reference_frame : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

/-- The result of the kernel is the result of the reference. -/
theorem algebraic : Cert.algebraic_Kernel7Ideal_Reference7Ideal (hKernel7Ideal := Cert.Kernel7Ideal.Gen.facts)
    (hReference7Ideal := Cert.Reference7Ideal.Gen.facts) := by
  intro m g m' g' _ hargs
  have e0 := fun c => congrArg nat2 (hargs c).1
  have e1 := fun c => congrArg row (hargs c).2.1
  have e2 := fun c => congrArg nat2 (hargs c).2.2
  have hp : ∀ c, Cert.Reference7Ideal.Read.termP m' c = (Cert.Kernel7Ideal.Gen.dats m 0 c).arrAt 3 Cert.Kernel7Ideal.cfg0.N := fun c => by
    refine funext fun i => (congrArg _ (eq_ix2 (a := 8192) (b := 2560) i)).trans ?_
    refine (Cert.Reference7Ideal.Read.result m' c (i 0) (i 1)).trans (Eq.trans ?_ (congrFun (Cert.Kernel7Ideal.Point.array m c) i).symm)
    rw [e0 c, e1 c, e2 c]
  refine ⟨fun c => (Cert.Kernel7Ideal.Gen.dats m 0 c).arrAt 3 Cert.Kernel7Ideal.cfg0.N, ?_, ?_⟩
  · exact Cert.Kernel7Ideal.Value.run_blocks m g
  · exact (θ_run _ _ _).mono (fun r h c => ⟨(h c).1.trans (hp c), (h c).2⟩) (Cert.Reference7Ideal.Value.run m' g')

end Cert.EvenProj
end
-- ==== Proof.GateBody.lean ====
/-
  What the attention's output product computes at one grid point, 512 rows.
-/
module

public import proofs.«01_k».proof.Proof.Gate
public import proofs.«01_k».proof.Proof.Gen.Kernel8Ideal.Skeleton
public import Idealize.ShloMosaic.Lib.Pointwise
public import Idealize.ShloMosaic.PureOps.IdealRules
public import Idealize.ShloMosaic.Lib.Tactic.WordOmega

@[expose] public section

noncomputable section

open Idealize.ShloMosaic

namespace Cert.Kernel8Ideal.Body

open Cert.Kernel8Ideal Cert.Kernel8Ideal.Gen Cert.Norm Cert.Gate Finset

/-- What a point's body reads: 512 rows of the layer's input, of the attention's output and of the gate, and the weights. -/
structure Reads (X O G W : ℕ → ℕ → EReal) (i : ℕ) (x0 x1 x2 : Vec Ideal S512x1024 .f32) (x3 : Vec Ideal S8x128x1024 .f32) : Prop where
  x : ∀ (q : Fin 512) (l : Fin 1024), x0 (ix2 q l) = X (512 * i + q) l
  o : ∀ (q : Fin 512) (l : Fin 1024), x1 (ix2 q l) = O (512 * i + q) l
  g : ∀ (q : Fin 512) (l : Fin 1024), x2 (ix2 q l) = G (512 * i + q) l
  w : ∀ (j : Fin 8) (r : Fin 128) (k : Fin 1024), x3 (ix3 j r k) = W (128 * j + r) k

variable {X O G W : ℕ → ℕ → EReal} {i : ℕ} {x0 x1 x2 : Vec Ideal S512x1024 .f32} {x3 : Vec Ideal S8x128x1024 .f32}

/-- The gated rows times the weights, added to the rows. -/
theorem out_block (H : Reads X O G W i x0 x1 x2 x3) (q : Fin 512) (a : Fin 1024) :
    k0_pay1 x0 x1 x2 x3 (ix2 q a) = out X O G W (512 * i + q) a := by
  pointwise [k0_pay1]
  unfold out
  refine congrArg₂ (fun a b : EReal => a + b) (H.x q a) (sum_mul_eq _ _ _ _ (fun l => ?_) (fun l => ?_))
  · rw [H.o, H.g]; rfl
  · refine (H.w _ _ _).trans (congrArg (fun z => W z a) ?_)
    show 128 * (l.val / 128) + l.val % 128 = l
    omega

end Cert.Kernel8Ideal.Body
end
-- ==== Proof.GateState.lean ====
/-
  The result array of the attention's output product.
-/
module

public import proofs.«01_k».proof.Proof.GateBody
public import proofs.«01_k».proof.Proof.Gen.Kernel8Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel8Ideal.Point
open Cert.Kernel8Ideal Cert.Kernel8Ideal.Gen Cert.Kernel8Ideal.Body Cert.Norm Cert.Gate Cert.Attn Finset

variable (m : (ℓ : Loc nD τ sig) → Buf (Elt Ideal) ℓ) (c : Dev nD)

/-- The layer's input. -/
abbrev X : ℕ → ℕ → EReal := nat2 (m (c.tc.loc main_arg0))
/-- The attention's output. -/
abbrev O : ℕ → ℕ → EReal := nat2 (m (c.tc.loc main_arg1))
/-- The gate, the last quarter of the projection. -/
abbrev G : ℕ → ℕ → EReal := fun n k => nat2 (m (c.tc.loc main_arg2)) n (3072 + k)
/-- The weights. -/
abbrev W : ℕ → ℕ → EReal := tall (m (c.tc.loc main_arg3))

/-- The block that each operand's window gives a point. -/
theorem window_index : ∀ t : Fin cfg0.N, win0_0.index t = ![t.val, 0] ∧ win0_1.index t = ![t.val, 0] ∧ win0_2.index t = ![t.val, 3]
    ∧ win0_3.index t = ![0, 0, 0]
    ∧ win0_4.index t = ![t.val, 0] := by
  decide +kernel

/-- There are sixteen points. -/
theorem point_lt (t : Fin cfg0.N) : t.val < 16 := t.isLt

/-- The first operand's block of rows. -/
theorem iblk_0 (t : Fin cfg0.N) (q : Fin 512) (l : Fin 1024) : iblk m c 0 t (ix2 q l) = X m c (512 * t.val + q) l := by
  have ht := point_lt t
  refine Eq.trans ?_ (nat2_apply (m (c.tc.loc main_arg0)) ⟨512 * t.val + q, by omega⟩ l)
  blk_ext [iblk, V_main_arg0, window_index t]

/-- The block of the attention's output. -/
theorem iblk_1 (t : Fin cfg0.N) (q : Fin 512) (l : Fin 1024) : iblk m c 1 t (ix2 q l) = O m c (512 * t.val + q) l := by
  have ht := point_lt t
  refine Eq.trans ?_ (nat2_apply (m (c.tc.loc main_arg1)) ⟨512 * t.val + q, by omega⟩ l)
  blk_ext [iblk, V_main_arg1, window_index t]

/-- The block of the gate. -/
theorem iblk_2 (t : Fin cfg0.N) (q : Fin 512) (l : Fin 1024) : iblk m c 2 t (ix2 q l) = G m c (512 * t.val + q) l := by
  have ht := point_lt t
  refine Eq.trans ?_ (nat2_apply (m (c.tc.loc main_arg2)) ⟨512 * t.val + q, by omega⟩ ⟨3072 + l, by omega⟩)
  blk_ext [iblk, V_main_arg2, window_index t]

/-- The weights. -/
theorem iblk_3 (t : Fin cfg0.N) (j : Fin 8) (r : Fin 128) (k : Fin 1024) : iblk m c 3 t (ix3 j r k) = W m c (128 * j + r) k := by
  refine Eq.trans ?_ (tall_at (m (c.tc.loc main_arg3)) j r k _ _ rfl rfl)
  blk_ext [iblk, V_main_arg3, window_index t]

/-- What a point's body computes with. -/
theorem reads (t : Fin cfg0.N) : Reads (X m c) (O m c) (G m c) (W m c) t.val (iblk m c 0 t) (iblk m c 1 t) (iblk m c 2 t) (iblk m c 3 t) where
  x := iblk_0 m c t
  o := iblk_1 m c t
  g := iblk_2 m c t
  w := iblk_3 m c t

/-- The block of every point. -/
theorem out (t : Fin cfg0.N) (q : Fin 512) (a : Fin 1024) :
    out0_4 (iblk m c 0 t) (iblk m c 1 t) (iblk m c 2 t) (iblk m c 3 t) (ix2 q a)
      = Cert.Gate.out (X m c) (O m c) (G m c) (W m c) (512 * t.val + q) a := by
  unfold out0_4
  frame_out
  exact out_block (reads m c t) q a

/-- The rows with the gated product added. -/
theorem array : (dats m 0 c).arrAt 4 cfg0.N
    = fun i : S8192x1024.Idx => Cert.Gate.out (X m c) (O m c) (G m c) (W m c) (i 0) (i 1) := by
  refine (dats m 0 c).arrAt_eq_of_covers 4 _ (by decide +kernel) fun t hf y => ?_
  blk_simp [window_index t]
  rw [after0_4]
  exact (congrArg _ (eq_ix2 (a := 512) (b := 1024) y)).trans ((out m c t (y 0) (y 1)).trans (by rw [Nat.mul_comm]))

end Cert.Kernel8Ideal.Point
end
-- ==== Proof.GateRef.lean ====
/-
  What the reference of the attention's output product computes, stage by stage and entry by entry.
-/
module

public import proofs.«01_k».proof.Proof.Gate
public import proofs.«01_k».proof.Proof.Gen.Reference8Ideal.Run
public import Idealize.ShloMosaic.Lib.Pointwise

@[expose] public section
set_option maxRecDepth 16384
noncomputable section
open Idealize.ShloMosaic Idealize.ShloMosaic.TcCoe Idealize.SL.Sem
namespace Cert.Reference8Ideal.Read
open Cert.Reference8Ideal Cert.Reference8Ideal.Gen Cert.Reference8Ideal.Value Cert.Norm Cert.Gate Cert.Attn Finset

/-- An array of rows. -/
abbrev Rows := FVec Idealize.ShloMosaic.Ideal S8192x1024 .f32
/-- The projected rows: queries, keys, values and gate. -/
abbrev Wide := FVec Idealize.ShloMosaic.Ideal S8192x4096 .f32
/-- The weights in slots of rows. -/
abbrev Slots := FVec Idealize.ShloMosaic.Ideal S8x128x1024 .f32

/-- The gate. -/
def tGate (q : Wide) : Rows := extractStridedSlice S8192x1024 ![0, 3072] q slices_S8192x4096_S8192x1024_0_3072

/-- The logistic of every entry. -/
def tL (z : Rows) : Rows :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf z)))

/-- The gated rows. -/
def tU (o z : Rows) : Rows := mulf o (mulf z (tL z))

/-- The weights as one matrix. -/
def tW (w : Slots) : FVec Idealize.ShloMosaic.Ideal S1024x1024 .f32 := shapeCast _ w shapeCasts_S8x128x1024_S1024x1024

/-- The gate's columns of the projection. -/
abbrev gate (q : Wide) (n k : ℕ) : EReal := nat2 q n (3072 + k)

/-- An entry of the gate. -/
theorem tGate_at (q : Wide) (n : Fin 8192) (k : Fin 1024) : (tGate q (ix2 n k) : EReal) = gate q n k := by
  pointwise [tGate]
  exact nat2_at q _ _ _ _ rfl rfl

/-- An entry of the logistic. -/
theorem tL_at (z : Rows) (n : Fin 8192) (k : Fin 1024) : (tL z (ix2 n k) : EReal) = Ideal.logistic (z (ix2 n k)) := by
  pointwise [tL]
  rfl

/-- An entry of the gated rows. -/
theorem tU_at (o : Rows) (q : Wide) (n : Fin 8192) (k : Fin 1024) : (tU o (tGate q) (ix2 n k) : EReal) = gated (nat2 o) (gate q) n k := by
  refine congrArg₂ (fun a b : EReal => a * b) (nat2_apply o n k) ?_
  refine (congrArg₂ (fun a b : EReal => a * b) (tGate_at q n k) (tL_at _ n k)).trans ?_
  rw [tGate_at]
  rfl

/-- An entry of the weights as one matrix. -/
theorem tW_at (w : Slots) (r a : Fin 1024) : (tW w (ix2 r a) : EReal) = tall w r a := by
  pointwise [tW]
  exact tall_at w _ _ _ _ _ (by show 128 * (r.val / 128) + r.val % 128 = r; omega) rfl

variable (m : (ℓ : Loc nD τ sig) → Buf (Elt Idealize.ShloMosaic.Ideal) ℓ) (c : Dev nD)

/-- The rows with the product added. -/
def tOut (x u : Rows) (w : FVec Idealize.ShloMosaic.Ideal S1024x1024 .f32) : Rows :=
  addf x (Host.dotGeneral dot_S8192x1024_S1024x1024_S8192x1024_1_0_0_1_n_n none u w)

/-- An entry of it. -/
theorem tOut_at (x o : Rows) (q : Wide) (w : Slots) (n : Fin 8192) (a : Fin 1024) :
    (tOut x (tU o (tGate q)) (tW w) (ix2 n a) : EReal) = out (nat2 x) (nat2 o) (gate q) (tall w) n a := by
  pointwise [tOut]
  exact congrArg₂ (fun a b : EReal => a + b) (nat2_apply x n a) (sum_mul_eq _ _ _ _ (fun k => tU_at o q n k) (fun k => tW_at w k a))

/-- The reference's result. -/
def term : Rows :=
  tOut (m (c.tc.loc main_arg0)) (tU (m (c.tc.loc main_arg1)) (tGate (m (c.tc.loc main_arg2)))) (tW (m (c.tc.loc main_arg3)))

/-- The rows with the gated product added. -/
theorem result (n : Fin 8192) (a : Fin 1024) : (term m c (ix2 n a) : EReal)
    = out (nat2 (m (c.tc.loc main_arg0))) (nat2 (m (c.tc.loc main_arg1))) (gate (m (c.tc.loc main_arg2))) (tall (m (c.tc.loc main_arg3))) n a :=
  tOut_at _ _ _ _ n a

end Cert.Reference8Ideal.Read
end
-- ==== Proof.GateClaim.lean ====
/-
  The attention's output product: the kernel's result is the reference's.
-/
module

public import proofs.«01_k».proof.Defs
public import proofs.«01_k».proof.Proof.GateState
public import proofs.«01_k».proof.Proof.GateRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.GateClaim
open Cert.Norm Cert.Gate Cert.Attn

/-- The reference runs, leaves its arguments as they were, and has no counter that could end off zero. -/
theorem reference_frame : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run m g)

/-- The results of the kernel are the results of the reference. -/
theorem algebraic : Cert.algebraic_Kernel8Ideal_Reference8Ideal (hKernel8Ideal := Cert.Kernel8Ideal.Gen.facts)
    (hReference8Ideal := Cert.Reference8Ideal.Gen.facts) := by
  intro m g m' g' _ hargs
  have e0 := fun c => congrArg nat2 (hargs c).1
  have e1 := fun c => congrArg nat2 (hargs c).2.1
  have e2 := fun c => congrArg (fun z n k => nat2 z n (3072 + k)) (hargs c).2.2.1
  have e3 := fun c => congrArg tall (hargs c).2.2.2
  have hp : ∀ c, Cert.Reference8Ideal.Read.term m' c = (Cert.Kernel8Ideal.Gen.dats m 0 c).arrAt 4 Cert.Kernel8Ideal.cfg0.N := fun c => by
    refine funext fun i => (congrArg _ (eq_ix2 (a := 8192) (b := 1024) i)).trans ?_
    refine (Cert.Reference8Ideal.Read.result m' c (i 0) (i 1)).trans (Eq.trans ?_ (congrFun (Cert.Kernel8Ideal.Point.array m c) i).symm)
    exact congrFun (congrFun (congr (congr (congr (congrArg out (e0 c)) (e1 c)) (e2 c)) (e3 c)) _) _
  refine ⟨fun c => (Cert.Kernel8Ideal.Gen.dats m 0 c).arrAt 4 Cert.Kernel8Ideal.cfg0.N, ?_, ?_⟩
  · exact Cert.Kernel8Ideal.Value.run_blocks m g
  · exact (θ_run _ _ _).mono (fun r h c => ⟨(h c).1.trans (hp c), (h c).2⟩) (Cert.Reference8Ideal.Value.run m' g')

end Cert.GateClaim
end
-- ==== Proof.Mix.lean ====
/-
  The even layer's output product, as functions of numbers: the mixer's rows through the gelu and their own gate, the
  convolution's rows normalised, each times the silu of its gate, side by side, times the weights, added to the row.
-/
module

public import proofs.«01_k».proof.Proof.Norm
public import proofs.«01_k».proof.Proof.Gate
public import Idealize.ShloMosaic.PureOps.Ideal

@[expose] public section

noncomputable section

open Idealize.ShloMosaic

namespace Cert.Mix

open Finset Cert.Norm Cert.Gate

/-- One half. -/
def half : EReal := Ideal.ofBits .f32 0x3F000000#32
/-- One. -/
def one : EReal := Ideal.ofBits .f32 0x3F800000#32
/-- The root of two over pi, as the programs write it. -/
def root : EReal := Ideal.ofBits .f32 0x3F4C422A#32
/-- The factor of the cube. -/
def cubic : EReal := Ideal.ofBits .f32 0x3D372713#32
/-- The number of columns of a branch. -/
def columns : EReal := Ideal.ofBits .f32 0x44000000#32

/-- The gelu, with the hyperbolic tangent. -/
def gelu (y : EReal) : EReal := y * (half * (one + Ideal.tanh (root * (y + cubic * (y * (y * y))))))

/-- Four arrays of 128 columns side by side. -/
def beside4 (P Q R S : ℕ → ℕ → EReal) (n a : ℕ) : EReal :=
  if a < 128 then P n a
  else if a - 128 < 128 then Q n (a - 128)
  else if a - 128 - 128 < 128 then R n (a - 128 - 128)
  else S n (a - 128 - 128 - 128)

/-- What the mixer's gate is the logistic of. -/
def glu (Y W : ℕ → ℕ → EReal) (b : ℕ → EReal) (n k : ℕ) : EReal := (∑ l : Fin 512, gelu (Y n l) * W l k) + b k

/-- The mixer's branch. -/
def left (Y A W : ℕ → ℕ → EReal) (b : ℕ → EReal) (n k : ℕ) : EReal :=
  gelu (Y n k) * Ideal.logistic (glu Y W b n k) * silu (A n k)

/-- The mean of a row. -/
def mean (C : ℕ → ℕ → EReal) (n : ℕ) : EReal := Ideal.div (∑ k : Fin 512, C n k) columns

/-- The mean square of a row's distances from its mean. -/
def var (C : ℕ → ℕ → EReal) (n : ℕ) : EReal := Ideal.div (∑ k : Fin 512, (C n k - mean C n) * (C n k - mean C n)) columns

/-- The normalised row. -/
def norm (C : ℕ → ℕ → EReal) (g b : ℕ → EReal) (n k : ℕ) : EReal :=
  (C n k - mean C n) * Ideal.rsqrt (var C n + small) * g k + b k

/-- The convolution's branch. -/
def right (C B : ℕ → ℕ → EReal) (g b : ℕ → EReal) (n k : ℕ) : EReal := silu (norm C g b n k) * silu (B n k)

/-- The branches side by side. -/
def both (L R : ℕ → ℕ → EReal) (n k : ℕ) : EReal := if k < 512 then L n k else R n (k - 512)

/-- The branches times the weights, added to the row. -/
def out (X U W : ℕ → ℕ → EReal) (n a : ℕ) : EReal := X n a + ∑ k : Fin 1024, U n k * W k a

end Cert.Mix
end
-- ==== Proof.MixBody.lean ====
/-
  What the even layer's output product computes at one grid point, 512 rows.
-/
module

public import proofs.«01_k».proof.Proof.Mix
public import proofs.«01_k».proof.Proof.Gen.Kernel9Ideal.Skeleton
public import Idealize.ShloMosaic.Lib.Pointwise

@[expose] public section

set_option maxRecDepth 16384

noncomputable section

open Idealize.ShloMosaic

namespace Cert.Kernel9Ideal.Body

open Cert.Kernel9Ideal Cert.Kernel9Ideal.Gen Cert.Norm Cert.Mix Finset
open Cert.Gate (silu)

/-- A block of 512 rows of a branch. -/
abbrev Half := FVec Ideal S512x512 .f32

/-- The gelu's rows times the logistic of their gate, times the silu of the branch's gate. -/
def kA (z a w : Half) (b : FVec Ideal S1x512 .f32) : Half :=
  mulf (mulf z (logistic (addf (addf (matmul dot_S512x512_S512x512_S512x512_1_0_0_1_n_n none (truncf .bf16 z bitsLt_bf16_f32)
    (truncf .bf16 w bitsLt_bf16_f32) (constant S512x512 .f32 0x00000000#32)) (broadcastTo S512x512 b broadcasts_S1x512_S512x512))
    (broadcast S512x512 (Scalar.ofBits .f32 0x00000000#32))))) (mulf a (logistic a))

/-- The mean of each row. -/
def kM (c : Half) : FVec Ideal S512x1 .f32 :=
  divf (shapeCast S512x1 (multiReduction .add [1] S512 c 0x00000000#32 reduces_S512x512_S512 (.inl rfl) rfl) shapeCasts_S512_S512x1)
    (broadcast S512x1 (Scalar.ofBits .f32 0x44000000#32))

/-- The rows less their means. -/
def kD (c : Half) (m : FVec Ideal S512x1 .f32) : Half := subf c (broadcastTo S512x512 m broadcasts_S512x1_S512x512)

/-- The normalised rows. -/
def kN (d : Half) (g b : FVec Ideal S1x512 .f32) : Half :=
  addf (mulf (mulf d (broadcastTo S512x512 (rsqrt (addf (kM (mulf d d)) (broadcast S512x1 (Scalar.ofBits .f32 0x358637BD#32)))) broadcasts_S512x1_S512x512))
    (broadcastTo S512x512 g broadcasts_S1x512_S512x512)) (broadcastTo S512x512 b broadcasts_S1x512_S512x512)

/-- The silu of the rows times the silu of the branch's gate. -/
def kB (n a : Half) : Half := mulf (mulf n (logistic n)) (mulf a (logistic a))

/-- The branches side by side. -/
def kU (p q : Half) : FVec Ideal S512x1024 .f32 :=
  concatenate S512x1024 1 [⟨S512x512, p⟩, ⟨S512x512, q⟩] concatenates_S512x512_S512x512_S512x1024_d1

/-- The branches times the weights, added to the rows. -/
def kF (x u : FVec Ideal S512x1024 .f32) (w : FVec Ideal S1024x1024 .f32) : FVec Ideal S512x1024 .f32 :=
  addf x (matmul dot_S512x1024_S1024x1024_S512x1024_1_0_0_1_n_n none (truncf .bf16 u bitsLt_bf16_f32)
    (truncf .bf16 w bitsLt_bf16_f32) (constant S512x1024 .f32 0x00000000#32))

/-- The stored block is made of these. -/
theorem stored (x : Vec Ideal S512x1024 .f32) (c a b y : Half) (gb lg lb : FVec Ideal S1x512 .f32) (gw : Half)
    (wo : FVec Ideal S1024x1024 .f32) (t h : Half) :
    k0_pay1 x c a b y gb lg lb gw wo t h = kF x (kU (kA (mulf y (mulf h t)) a gw gb) (kB (kN (kD c (kM c)) lg lb) b)) wo := rfl

/-- Four blocks side by side are a block of the arrays side by side. -/
theorem wide_block (P Q R S : ℕ → ℕ → EReal) (i : ℕ) (x1 x2 x3 x4 : Vec Ideal S512x128 .f32)
    (h1 : ∀ (q : Fin 512) (l : Fin 128), x1 (ix2 q l) = P (512 * i + q) l) (h2 : ∀ (q : Fin 512) (l : Fin 128), x2 (ix2 q l) = Q (512 * i + q) l)
    (h3 : ∀ (q : Fin 512) (l : Fin 128), x3 (ix2 q l) = R (512 * i + q) l) (h4 : ∀ (q : Fin 512) (l : Fin 128), x4 (ix2 q l) = S (512 * i + q) l)
    (q : Fin 512) (a : Fin 512) : k0_pay2 x1 x2 x3 x4 (ix2 q a) = beside4 P Q R S (512 * i + q) a := by
  pointwise [k0_pay2]
  unfold beside4
  simp only [h1, h2, h3, h4]
  split_ifs <;> first | rfl | omega

/-- The gelu of a block's entry. -/
theorem gelu_block (x1 x2 x3 x4 : Vec Ideal S512x128 .f32) (q a : Fin 512) (y : EReal) (h : k0_pay2 x1 x2 x3 x4 (ix2 q a) = y) :
    mulf (F := Ideal) (k0_pay2 x1 x2 x3 x4) (mulf (F := Ideal) (k0_pay6 (F := Ideal)) (k0_pay5 x1 x2 x3 x4)) (ix2 q a) = gelu y := by
  subst h
  rfl

/-- An entry of the mixer's branch. -/
theorem kA_at (z a w : Half) (b : FVec Ideal S1x512 .f32) (q : Fin 512) (n : ℕ) (Y A W : ℕ → ℕ → EReal) (B : ℕ → EReal)
    (hz : ∀ l : Fin 512, z (ix2 q l) = gelu (Y n l)) (ha : ∀ l : Fin 512, a (ix2 q l) = A n l)
    (hw : ∀ l k : Fin 512, w (ix2 l k) = W l k) (hb : ∀ l : Fin 512, b (ix2 0 l) = B l) (k : Fin 512) :
    kA z a w b (ix2 q k) = left Y A W B n k := by
  pointwise [kA]
  simp only [hz, ha, hw, hb]
  unfold left glu
  rfl

/-- The mean of a row. -/
theorem kM_at (c : Half) (q : Fin 512) (C : Fin 512 → EReal) (hc : ∀ l : Fin 512, c (ix2 q l) = C l) :
    kM c (ix2 q 0) = Ideal.div (∑ l : Fin 512, C l) columns := by
  pointwise [kM]
  simp only [hc]
  rfl

/-- A row less its mean. -/
theorem kD_at (c : Half) (q : Fin 512) (n : ℕ) (C : ℕ → ℕ → EReal) (hc : ∀ l : Fin 512, c (ix2 q l) = C n l) (k : Fin 512) :
    kD c (kM c) (ix2 q k) = C n k - mean C n := by
  have h := kM_at c q _ hc
  pointwise [kD]
  exact congrArg₂ (fun a b : EReal => a - b) (hc k) h

/-- A normalised row. -/
theorem kN_at (d : Half) (g b : FVec Ideal S1x512 .f32) (q : Fin 512) (n : ℕ) (C : ℕ → ℕ → EReal) (G B : ℕ → EReal)
    (hd : ∀ l : Fin 512, d (ix2 q l) = C n l - mean C n) (hg : ∀ l : Fin 512, g (ix2 0 l) = G l) (hb : ∀ l : Fin 512, b (ix2 0 l) = B l)
    (k : Fin 512) : kN d g b (ix2 q k) = norm C G B n k := by
  have h := kM_at (mulf d d) q (fun l => (C n l - mean C n) * (C n l - mean C n)) (fun l => congrArg₂ (fun a b : EReal => a * b) (hd l) (hd l))
  pointwise [kN]
  exact congrArg₂ (fun a b : EReal => a + b) (congrArg₂ (fun a b : EReal => a * b) (congrArg₂ (fun a b : EReal => a * Ideal.rsqrt (b + small)) (hd k) h) (hg k)) (hb k)

/-- An entry of the convolution's branch. -/
theorem kB_at (x a : Half) (q k : Fin 512) (u v : EReal) (hx : x (ix2 q k) = u) (ha : a (ix2 q k) = v) :
    kB x a (ix2 q k) = silu u * silu v := by
  subst hx ha
  rfl

/-- An entry of the branches side by side. -/
theorem kU_at (p r : Half) (q : Fin 512) (n : ℕ) (L R : ℕ → ℕ → EReal) (hp : ∀ l : Fin 512, p (ix2 q l) = L n l)
    (hr : ∀ l : Fin 512, r (ix2 q l) = R n l) (k : Fin 1024) : kU p r (ix2 q k) = both L R n k := by
  pointwise [kU]
  unfold both
  simp only [hp, hr]
  split_ifs <;> first | rfl | omega

/-- An entry of the result. -/
theorem kF_at (x u : FVec Ideal S512x1024 .f32) (w : FVec Ideal S1024x1024 .f32) (q : Fin 512) (n : ℕ) (X U W : ℕ → ℕ → EReal)
    (hx : ∀ l : Fin 1024, x (ix2 q l) = X n l) (hu : ∀ l : Fin 1024, u (ix2 q l) = U n l)
    (hw : ∀ l k : Fin 1024, w (ix2 l k) = W l k) (a : Fin 1024) : kF x u w (ix2 q a) = out X U W n a := by
  pointwise [kF]
  exact congrArg₂ (fun a b : EReal => a + b) (hx a) (sum_mul_eq _ _ _ _ hu (fun l => hw l a))

/-- What a point's body reads: 512 rows of the layer's input, the convolution, the two gates and the mixer's output, the rows
    of biases and gains, and the two weights. -/
structure Reads (X C A B Y Wg Wo : ℕ → ℕ → EReal) (gb lg lb : ℕ → EReal) (i : ℕ) (x0 : Vec Ideal S512x1024 .f32) (x1 x2 x3 : Vec Ideal S512x512 .f32)
    (x4 x5 x6 x7 : Vec Ideal S512x128 .f32) (x8 x9 x10 : Vec Ideal S1x512 .f32) (x11 : Vec Ideal S8x64x512 .f32)
    (x12 : Vec Ideal S8x128x1024 .f32) : Prop where
  x : ∀ (q : Fin 512) (l : Fin 1024), x0 (ix2 q l) = X (512 * i + q) l
  c : ∀ (q : Fin 512) (l : Fin 512), x1 (ix2 q l) = C (512 * i + q) l
  a : ∀ (q : Fin 512) (l : Fin 512), x2 (ix2 q l) = A (512 * i + q) l
  b : ∀ (q : Fin 512) (l : Fin 512), x3 (ix2 q l) = B (512 * i + q) l
  y : ∀ (q : Fin 512) (l : Fin 512), k0_pay2 x4 x5 x6 x7 (ix2 q l) = Y (512 * i + q) l
  gb : ∀ (l : Fin 512), x8 (ix2 0 l) = gb l
  lg : ∀ (l : Fin 512), x9 (ix2 0 l) = lg l
  lb : ∀ (l : Fin 512), x10 (ix2 0 l) = lb l
  wg : ∀ (j : Fin 8) (r : Fin 64) (k : Fin 512), x11 (ix3 j r k) = Wg (64 * j + r) k
  wo : ∀ (j : Fin 8) (r : Fin 128) (k : Fin 1024), x12 (ix3 j r k) = Wo (128 * j + r) k

variable {X C A B Y Wg Wo : ℕ → ℕ → EReal} {gb lg lb : ℕ → EReal} {i : ℕ} {x0 : Vec Ideal S512x1024 .f32} {x1 x2 x3 : Vec Ideal S512x512 .f32}
    {x4 x5 x6 x7 : Vec Ideal S512x128 .f32} {x8 x9 x10 : Vec Ideal S1x512 .f32} {x11 : Vec Ideal S8x64x512 .f32}
    {x12 : Vec Ideal S8x128x1024 .f32}

/-- The mixer gate's weights as one matrix. -/
theorem wg_block (H : Reads X C A B Y Wg Wo gb lg lb i x0 x1 x2 x3 x4 x5 x6 x7 x8 x9 x10 x11 x12) (r k : Fin 512) : k0_pay3 x11 (ix2 r k) = Wg r k := by
  pointwise [k0_pay3]
  refine (H.wg _ _ _).trans (congrArg (fun z => Wg z k) ?_)
  show 64 * (r.val / 64) + r.val % 64 = r
  omega

/-- The output weights as one matrix. -/
theorem wo_block (H : Reads X C A B Y Wg Wo gb lg lb i x0 x1 x2 x3 x4 x5 x6 x7 x8 x9 x10 x11 x12) (r k : Fin 1024) : k0_pay4 x12 (ix2 r k) = Wo r k := by
  pointwise [k0_pay4]
  refine (H.wo _ _ _).trans (congrArg (fun z => Wo z k) ?_)
  show 128 * (r.val / 128) + r.val % 128 = r
  omega

/-- The branches times the weights, added to the rows. -/
theorem out_block (H : Reads X C A B Y Wg Wo gb lg lb i x0 x1 x2 x3 x4 x5 x6 x7 x8 x9 x10 x11 x12) (q : Fin 512) (a : Fin 1024) :
    k0_pay1 x0 x1 x2 x3 (k0_pay2 x4 x5 x6 x7) x8 x9 x10 (k0_pay3 x11) (k0_pay4 x12) (k0_pay5 x4 x5 x6 x7) (k0_pay6 (F := Ideal)) (ix2 q a)
      = out X (both (left Y A Wg gb) (right C B lg lb)) Wo (512 * i + q) a := by
  rw [stored]
  exact kF_at _ _ _ q (512 * i + q) X (both (left Y A Wg gb) (right C B lg lb)) Wo (H.x q)
    (kU_at _ _ q (512 * i + q) (left Y A Wg gb) (right C B lg lb)
      (kA_at _ _ _ _ q (512 * i + q) Y A Wg gb (fun l => gelu_block _ _ _ _ q l _ (H.y q l)) (H.a q) (wg_block H) H.gb)
      (fun l => kB_at _ _ q l _ _ (kN_at _ _ _ q (512 * i + q) C lg lb (kD_at _ q _ C (H.c q)) H.lg H.lb l) (H.b q l))) (wo_block H) a

end Cert.Kernel9Ideal.Body
end
-- ==== Proof.MixState.lean ====
/-
  The result array of the even layer's output product.
-/
module

public import proofs.«01_k».proof.Proof.MixBody
public import proofs.«01_k».proof.Proof.Gen.Kernel9Ideal.Value
public import Idealize.ShloMosaic.Lib.Pipeline.ValueKit.Held
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
namespace Cert.Kernel9Ideal.Point
open Cert.Kernel9Ideal Cert.Kernel9Ideal.Gen Cert.Kernel9Ideal.Body Cert.Norm Cert.Gate Cert.Mix Cert.Attn Finset

variable (m : (ℓ : Loc nD τ sig) → Buf (Elt Ideal) ℓ) (c : Dev nD)

/-- The layer's input. -/
abbrev X : ℕ → ℕ → EReal := nat2 (m (c.tc.loc main_arg0))
/-- The mixer's output, four arrays side by side. -/
abbrev Y : ℕ → ℕ → EReal :=
  beside4 (nat2 (m (c.tc.loc main_arg1))) (nat2 (m (c.tc.loc main_arg2))) (nat2 (m (c.tc.loc main_arg3))) (nat2 (m (c.tc.loc main_arg4)))
/-- The convolution. -/
abbrev C : ℕ → ℕ → EReal := nat2 (m (c.tc.loc main_arg5))
/-- The mixer's gate, the second 512 columns of the projection. -/
abbrev A : ℕ → ℕ → EReal := fun n k => nat2 (m (c.tc.loc main_arg6)) n (512 + k)
/-- The convolution's gate, the last 512 columns of the projection. -/
abbrev B : ℕ → ℕ → EReal := fun n k => nat2 (m (c.tc.loc main_arg6)) n (2048 + k)
/-- The biases of the mixer's own gate. -/
abbrev gb : ℕ → EReal := row (m (c.tc.loc main_arg7))
/-- The gain of the convolution's norm. -/
abbrev lg : ℕ → EReal := row (m (c.tc.loc main_arg8))
/-- The biases of the convolution's norm. -/
abbrev lb : ℕ → EReal := row (m (c.tc.loc main_arg9))
/-- The weights of the mixer's own gate. -/
abbrev Wg : ℕ → ℕ → EReal := tall (m (c.tc.loc main_arg10))
/-- The output weights. -/
abbrev Wo : ℕ → ℕ → EReal := tall (m (c.tc.loc main_arg11))
/-- The two branches side by side. -/
abbrev U : ℕ → ℕ → EReal := both (left (Y m c) (A m c) (Wg m c) (gb m c)) (right (C m c) (B m c) (lg m c) (lb m c))

/-- The block that each operand's window gives a point. -/
theorem window_index : ∀ t : Fin cfg0.N, win0_0.index t = ![t.val, 0] ∧ win0_1.index t = ![t.val, 0] ∧ win0_2.index t = ![t.val, 1]
    ∧ win0_3.index t = ![t.val, 4] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0, 0] ∧ win0_12.index t = ![0, 0, 0] ∧ win0_13.index t = ![t.val, 0] := by
  decide +kernel

/-- There are sixteen points. -/
theorem point_lt (t : Fin cfg0.N) : t.val < 16 := t.isLt

/-- The block of the layer's input. -/
theorem iblk_0 (t : Fin cfg0.N) (q : Fin 512) (l : Fin 1024) : iblk m c 0 t (ix2 q l) = X m c (512 * t.val + q) l := by
  have ht := point_lt t
  refine Eq.trans ?_ (nat2_apply (m (c.tc.loc main_arg0)) ⟨512 * t.val + q, by omega⟩ l)
  blk_ext [iblk, V_main_arg0, window_index t]

/-- The block of the convolution. -/
theorem iblk_1 (t : Fin cfg0.N) (q : Fin 512) (l : Fin 512) : iblk m c 1 t (ix2 q l) = C m c (512 * t.val + q) l := by
  have ht := point_lt t
  refine Eq.trans ?_ (nat2_apply (m (c.tc.loc main_arg5)) ⟨512 * t.val + q, by omega⟩ l)
  blk_ext [iblk, V_main_arg5, window_index t]

/-- The block of the mixer's gate. -/
theorem iblk_2 (t : Fin cfg0.N) (q : Fin 512) (l : Fin 512) : iblk m c 2 t (ix2 q l) = A m c (512 * t.val + q) l := by
  have ht := point_lt t
  refine Eq.trans ?_ (nat2_apply (m (c.tc.loc main_arg6)) ⟨512 * t.val + q, by omega⟩ ⟨512 + l, by omega⟩)
  blk_ext [iblk, V_main_arg6, window_index t]

/-- The block of the convolution's gate. -/
theorem iblk_3 (t : Fin cfg0.N) (q : Fin 512) (l : Fin 512) : iblk m c 3 t (ix2 q l) = B m c (512 * t.val + q) l := by
  have ht := point_lt t
  refine Eq.trans ?_ (nat2_apply (m (c.tc.loc main_arg6)) ⟨512 * t.val + q, by omega⟩ ⟨2048 + l, by omega⟩)
  blk_ext [iblk, V_main_arg6, window_index t]

/-- The first block of the mixer's output. -/
theorem iblk_4 (t : Fin cfg0.N) (q : Fin 512) (l : Fin 128) : iblk m c 4 t (ix2 q l) = nat2 (m (c.tc.loc main_arg1)) (512 * t.val + q) l := by
  have ht := point_lt t
  refine Eq.trans ?_ (nat2_apply (m (c.tc.loc main_arg1)) ⟨512 * t.val + q, by omega⟩ l)
  blk_ext [iblk, V_main_arg1, window_index t]

/-- The second block. -/
theorem iblk_5 (t : Fin cfg0.N) (q : Fin 512) (l : Fin 128) : iblk m c 5 t (ix2 q l) = nat2 (m (c.tc.loc main_arg2)) (512 * t.val + q) l := by
  have ht := point_lt t
  refine Eq.trans ?_ (nat2_apply (m (c.tc.loc main_arg2)) ⟨512 * t.val + q, by omega⟩ l)
  blk_ext [iblk, V_main_arg2, window_index t]

/-- The third block. -/
theorem iblk_6 (t : Fin cfg0.N) (q : Fin 512) (l : Fin 128) : iblk m c 6 t (ix2 q l) = nat2 (m (c.tc.loc main_arg3)) (512 * t.val + q) l := by
  have ht := point_lt t
  refine Eq.trans ?_ (nat2_apply (m (c.tc.loc main_arg3)) ⟨512 * t.val + q, by omega⟩ l)
  blk_ext [iblk, V_main_arg3, window_index t]

/-- The fourth block. -/
theorem iblk_7 (t : Fin cfg0.N) (q : Fin 512) (l : Fin 128) : iblk m c 7 t (ix2 q l) = nat2 (m (c.tc.loc main_arg4)) (512 * t.val + q) l := by
  have ht := point_lt t
  refine Eq.trans ?_ (nat2_apply (m (c.tc.loc main_arg4)) ⟨512 * t.val + q, by omega⟩ l)
  blk_ext [iblk, V_main_arg4, window_index t]

/-- The biases of the mixer's own gate. -/
theorem iblk_8 (t : Fin cfg0.N) (l : Fin 512) : iblk m c 8 t (ix2 0 l) = gb m c l := by
  refine Eq.trans ?_ (row_at (m (c.tc.loc main_arg7)) l l rfl)
  blk_ext [iblk, V_main_arg7, window_index t]

/-- The gain of the convolution's norm. -/
theorem iblk_9 (t : Fin cfg0.N) (l : Fin 512) : iblk m c 9 t (ix2 0 l) = lg m c l := by
  refine Eq.trans ?_ (row_at (m (c.tc.loc main_arg8)) l l rfl)
  blk_ext [iblk, V_main_arg8, window_index t]

/-- The biases of the convolution's norm. -/
theorem iblk_10 (t : Fin cfg0.N) (l : Fin 512) : iblk m c 10 t (ix2 0 l) = lb m c l := by
  refine Eq.trans ?_ (row_at (m (c.tc.loc main_arg9)) l l rfl)
  blk_ext [iblk, V_main_arg9, window_index t]

/-- The weights of the mixer's own gate. -/
theorem iblk_11 (t : Fin cfg0.N) (j : Fin 8) (r : Fin 64) (k : Fin 512) : iblk m c 11 t (ix3 j r k) = Wg m c (64 * j + r) k := by
  refine Eq.trans ?_ (tall_at (m (c.tc.loc main_arg10)) j r k _ _ rfl rfl)
  blk_ext [iblk, V_main_arg10, window_index t]

/-- The output weights. -/
theorem iblk_12 (t : Fin cfg0.N) (j : Fin 8) (r : Fin 128) (k : Fin 1024) : iblk m c 12 t (ix3 j r k) = Wo m c (128 * j + r) k := by
  refine Eq.trans ?_ (tall_at (m (c.tc.loc main_arg11)) j r k _ _ rfl rfl)
  blk_ext [iblk, V_main_arg11, window_index t]

/-- What a point's body computes with. -/
theorem reads (t : Fin cfg0.N) : Reads (X m c) (C m c) (A m c) (B m c) (Y m c) (Wg m c) (Wo m c) (gb m c) (lg m c) (lb m c) t.val
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) where
  x := iblk_0 m c t
  c := iblk_1 m c t
  a := iblk_2 m c t
  b := iblk_3 m c t
  y := wide_block _ _ _ _ t.val _ _ _ _ (iblk_4 m c t) (iblk_5 m c t) (iblk_6 m c t) (iblk_7 m c t)
  gb := iblk_8 m c t
  lg := iblk_9 m c t
  lb := iblk_10 m c t
  wg := iblk_11 m c t
  wo := iblk_12 m c t

/-- The block of every point. -/
theorem out (t : Fin cfg0.N) (q : Fin 512) (a : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 q a)
      = Cert.Mix.out (X m c) (U m c) (Wo m c) (512 * t.val + q) a := by
  unfold out0_13
  frame_out
  exact out_block (reads m c t) q a

/-- The rows with the product of the branches added. -/
theorem array : (dats m 0 c).arrAt 13 cfg0.N
    = fun i : S8192x1024.Idx => Cert.Mix.out (X m c) (U m c) (Wo m c) (i 0) (i 1) := by
  refine (dats m 0 c).arrAt_eq_of_covers 13 _ (by decide +kernel) fun t hf y => ?_
  blk_simp [window_index t]
  rw [after0_13]
  exact (congrArg _ (eq_ix2 (a := 512) (b := 1024) y)).trans ((out m c t (y 0) (y 1)).trans (by rw [Nat.mul_comm]))

end Cert.Kernel9Ideal.Point
end
-- ==== Proof.MixRef.lean ====
/-
  What the reference of the even layer's output product computes, stage by stage and entry by entry.
-/
module

public import proofs.«01_k».proof.Proof.Mix
public import proofs.«01_k».proof.Proof.Gen.Reference9Ideal.Run
public import Idealize.ShloMosaic.Lib.Pointwise

@[expose] public section
set_option maxRecDepth 16384
noncomputable section
open Idealize.ShloMosaic Idealize.ShloMosaic.TcCoe Idealize.SL.Sem
namespace Cert.Reference9Ideal.Read
open Cert.Reference9Ideal Cert.Reference9Ideal.Gen Cert.Reference9Ideal.Value Cert.Norm Cert.Mix Cert.Attn Finset
open Cert.Gate (silu tall tall_at)

/-- An array of rows. -/
abbrev Rows := FVec Idealize.ShloMosaic.Ideal S8192x1024 .f32
/-- An array of 128 columns. -/
abbrev Quarter := FVec Idealize.ShloMosaic.Ideal S8192x128 .f32
/-- An array of 512 columns. -/
abbrev Half := FVec Idealize.ShloMosaic.Ideal S8192x512 .f32
/-- The projected rows. -/
abbrev Wide := FVec Idealize.ShloMosaic.Ideal S8192x2560 .f32
/-- One row of 512 columns. -/
abbrev One := FVec Idealize.ShloMosaic.Ideal S1x512 .f32
/-- One number for each row. -/
abbrev Col := FVec Idealize.ShloMosaic.Ideal S8192x1 .f32

/-- The mixer's output. -/
def tY (p q r s : Quarter) : Half :=
  concatenate S8192x512 1 [⟨S8192x128, p⟩, ⟨S8192x128, q⟩, ⟨S8192x128, r⟩, ⟨S8192x128, s⟩] concatenates_S8192x128_S8192x128_S8192x128_S8192x128_S8192x512_d1

/-- The gelu of every entry. -/
def tG (y : Half) : Half :=
  mulf y (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf y (mulf (broadcastInDim S8192x512 ![] bcast_S_S8192x512 (constant S_ .f32 0x3D372713#32)) (mulf (mulf y y) y)))))))

/-- The logistic of every entry. -/
def tL (z : Half) : Half :=
  Host.divf (broadcastInDim S8192x512 ![] bcast_S_S8192x512 (constant S_ .f32 0x3F800000#32)) (addf (broadcastInDim S8192x512 ![] bcast_S_S8192x512 (constant S_ .f32 0x3F800000#32)) (Host.exp (Host.negf z)))

/-- One row, on every row. -/
def tR (g : One) : Half :=
  broadcastInDim S8192x512 ![0, 1] bcast_S1x512_S8192x512_0_1 (broadcastInDim S1x512 ![1] bcast_S512_S1x512_1 (shapeCast _ g shapeCasts_S1x512_S512))

/-- What the mixer's own gate is the logistic of. -/
def tQ (z : Half) (w : FVec Idealize.ShloMosaic.Ideal S8x64x512 .f32) (b : One) : Half :=
  addf (Host.dotGeneral dot_S8192x512_S512x512_S8192x512_1_0_0_1_n_n none z (shapeCast _ w shapeCasts_S8x64x512_S512x512)) (tR b)

/-- The mixer's gate. -/
def tA (z : Wide) : Half := extractStridedSlice S8192x512 ![0, 512] z slices_S8192x2560_S8192x512_0_512

/-- The convolution's gate. -/
def tB (z : Wide) : Half := extractStridedSlice S8192x512 ![0, 2048] z slices_S8192x2560_S8192x512_0_2048

/-- The silu of every entry. -/
def tS (z : Half) : Half := mulf z (tL z)

/-- The mean of each row. -/
def tM (c : Half) : Col :=
  Host.divf (broadcastInDim S8192x1 ![0] bcast_S8192_S8192x1_0 (Host.reduceAdd c (constant S_ .f32 0x00000000#32) reducesTo_S8192x512_S8192_d1 h_S_)) (broadcastInDim S8192x1 ![] bcast_S_S8192x1 (constant S_ .f32 0x44000000#32))

/-- The rows less their means. -/
def tD (c : Half) (u : Col) : Half := subf c (broadcastInDim S8192x512 ![0, 1] bcast_S8192x1_S8192x512_0_1 u)

/-- The normalised rows. -/
def tN (d : Half) (v : Col) (g b : One) : Half :=
  addf (mulf (mulf d (broadcastInDim S8192x512 ![0, 1] bcast_S8192x1_S8192x512_0_1 (Host.rsqrt (addf v (broadcastInDim S8192x1 ![] bcast_S_S8192x1 (constant S_ .f32 0x358637BD#32)))))) (tR g)) (tR b)

/-- The branches side by side. -/
def tU (p q : Half) : Rows := concatenate S8192x1024 1 [⟨S8192x512, p⟩, ⟨S8192x512, q⟩] concatenates_S8192x512_S8192x512_S8192x1024_d1

/-- The output weights as one matrix. -/
def tW (w : FVec Idealize.ShloMosaic.Ideal S8x128x1024 .f32) : FVec Idealize.ShloMosaic.Ideal S1024x1024 .f32 := shapeCast _ w shapeCasts_S8x128x1024_S1024x1024

/-- The branches times the weights, added to the rows. -/
def tOut (x u : Rows) (w : FVec Idealize.ShloMosaic.Ideal S1024x1024 .f32) : Rows :=
  addf x (Host.dotGeneral dot_S8192x1024_S1024x1024_S8192x1024_1_0_0_1_n_n none u w)

/-- An entry of the mixer's output. -/
theorem tY_at (p q r s : Quarter) (n : Fin 8192) (k : Fin 512) :
    (tY p q r s (ix2 n k) : EReal) = beside4 (nat2 p) (nat2 q) (nat2 r) (nat2 s) n k := by
  pointwise [tY]
  unfold beside4
  repeat' split
  all_goals first | omega | exact nat2_at _ _ _ _ _ rfl rfl | exact nat2_at _ _ _ _ _ rfl (by show _ - _ = _ - _; omega)

/-- An entry of the gelu. -/
theorem tG_at (y : Half) (n : Fin 8192) (k : Fin 512) (v : EReal) (h : (y (ix2 n k) : EReal) = v) : (tG y (ix2 n k) : EReal) = gelu v := by
  subst h
  refine Eq.trans (b := y (ix2 n k) * (half * (one + Ideal.tanh (root * (y (ix2 n k) + cubic * (y (ix2 n k) * y (ix2 n k) * y (ix2 n k))))))) rfl ?_
  rw [mul_assoc (y (ix2 n k) : EReal) (y (ix2 n k)) (y (ix2 n k))]
  rfl

/-- An entry of the logistic. -/
theorem tL_at (z : Half) (n : Fin 8192) (k : Fin 512) : (tL z (ix2 n k) : EReal) = Ideal.logistic (z (ix2 n k)) := by
  pointwise [tL]
  rfl

/-- An entry of the silu. -/
theorem tS_at (z : Half) (n : Fin 8192) (k : Fin 512) (v : EReal) (h : (z (ix2 n k) : EReal) = v) : (tS z (ix2 n k) : EReal) = silu v := by
  subst h
  exact congrArg (fun a : EReal => z (ix2 n k) * a) (tL_at z n k)

/-- An entry of a row that stands on every row. -/
theorem tR_at (g : One) (n : Fin 8192) (k : Fin 512) : (tR g (ix2 n k) : EReal) = row g k := by
  pointwise [tR]
  exact row_at g k k rfl

/-- An entry of what the mixer's own gate is the logistic of. -/
theorem tQ_at (z : Half) (w : FVec Idealize.ShloMosaic.Ideal S8x64x512 .f32) (b : One) (n : Fin 8192) (Y : ℕ → ℕ → EReal)
    (hz : ∀ l : Fin 512, (z (ix2 n l) : EReal) = gelu (Y n l)) (k : Fin 512) : (tQ z w b (ix2 n k) : EReal) = glu Y (tall w) (row b) n k := by
  have hb := tR_at b n k
  pointwise [tQ]
  refine congrArg₂ (fun a b : EReal => a + b) (sum_mul_eq _ _ _ _ hz (fun l => ?_)) hb
  exact tall_at w _ _ _ _ _ (by show 64 * (l.val / 64) + l.val % 64 = l; omega) rfl

/-- An entry of the mixer's gate. -/
theorem tA_at (z : Wide) (n : Fin 8192) (k : Fin 512) : (tA z (ix2 n k) : EReal) = nat2 z n (512 + k) := by
  pointwise [tA]
  exact nat2_at z _ _ _ _ rfl rfl

/-- An entry of the convolution's gate. -/
theorem tB_at (z : Wide) (n : Fin 8192) (k : Fin 512) : (tB z (ix2 n k) : EReal) = nat2 z n (2048 + k) := by
  pointwise [tB]
  exact nat2_at z _ _ _ _ rfl rfl

/-- An entry of the mixer's branch. -/
theorem left_at (z q a : Half) (n : Fin 8192) (k : Fin 512) (Y A W : ℕ → ℕ → EReal) (b : ℕ → EReal)
    (hz : (z (ix2 n k) : EReal) = gelu (Y n k)) (hq : (q (ix2 n k) : EReal) = glu Y W b n k) (ha : (a (ix2 n k) : EReal) = A n k) :
    (mulf (mulf z (tL q)) (tS a) (ix2 n k) : EReal) = left Y A W b n k :=
  congrArg₂ (fun a b : EReal => a * b) (congrArg₂ (fun a b : EReal => a * b) hz ((tL_at q n k).trans (congrArg Ideal.logistic hq)))
    (tS_at a n k _ ha)

/-- The mean of a row. -/
theorem tM_at (c : Half) (n : Fin 8192) (C : Fin 512 → EReal) (h : ∀ l : Fin 512, (c (ix2 n l) : EReal) = C l) :
    (tM c (ix2 n 0) : EReal) = Ideal.div (∑ l : Fin 512, C l) columns := by
  pointwise [tM]
  simp only [h]
  rfl

/-- A row less its mean. -/
theorem tD_at (c : Half) (n : Fin 8192) (k : Fin 512) : (tD c (tM c) (ix2 n k) : EReal) = nat2 c n k - mean (nat2 c) n := by
  have h := tM_at c n (fun l => nat2 c n l) (fun l => nat2_apply c n l)
  pointwise [tD]
  exact congrArg₂ (fun a b : EReal => a - b) (nat2_apply c n k) h

/-- A normalised row. -/
theorem tN_at (d : Half) (g b : One) (n : Fin 8192) (C : ℕ → ℕ → EReal) (hd : ∀ l : Fin 512, (d (ix2 n l) : EReal) = C n l - mean C n)
    (k : Fin 512) : (tN d (tM (mulf d d)) g b (ix2 n k) : EReal) = norm C (row g) (row b) n k := by
  have h := tM_at (mulf d d) n (fun l => (C n l - mean C n) * (C n l - mean C n)) (fun l => congrArg₂ (fun a b : EReal => a * b) (hd l) (hd l))
  have hg := tR_at g n k
  have hb := tR_at b n k
  pointwise [tN]
  exact congrArg₂ (fun a b : EReal => a + b) (congrArg₂ (fun a b : EReal => a * b) (congrArg₂ (fun a b : EReal => a * Ideal.rsqrt (b + small)) (hd k) h) hg) hb

/-- An entry of the branches side by side. -/
theorem tU_at (p q : Half) (n : Fin 8192) (L R : ℕ → ℕ → EReal) (hp : ∀ l : Fin 512, (p (ix2 n l) : EReal) = L n l)
    (hq : ∀ l : Fin 512, (q (ix2 n l) : EReal) = R n l) (k : Fin 1024) : (tU p q (ix2 n k) : EReal) = both L R n k := by
  pointwise [tU]
  unfold both
  simp only [hp, hq]
  rfl

/-- An entry of the output weights. -/
theorem tW_at (w : FVec Idealize.ShloMosaic.Ideal S8x128x1024 .f32) (r a : Fin 1024) : (tW w (ix2 r a) : EReal) = tall w r a := by
  pointwise [tW]
  exact tall_at w _ _ _ _ _ (by show 128 * (r.val / 128) + r.val % 128 = r; omega) rfl

/-- An entry of the result. -/
theorem tOut_at (x u : Rows) (w : FVec Idealize.ShloMosaic.Ideal S8x128x1024 .f32) (n : Fin 8192) (U : ℕ → ℕ → EReal)
    (hu : ∀ l : Fin 1024, (u (ix2 n l) : EReal) = U n l) (a : Fin 1024) :
    (tOut x u (tW w) (ix2 n a) : EReal) = out (nat2 x) U (tall w) n a := by
  pointwise [tOut]
  exact congrArg₂ (fun a b : EReal => a + b) (nat2_apply x n a) (sum_mul_eq _ _ _ _ hu (fun k => tW_at w k a))

variable (m : (ℓ : Loc nD τ sig) → Buf (Elt Idealize.ShloMosaic.Ideal) ℓ) (c : Dev nD)

/-- The mixer's output. -/
abbrev aY : Half := tY (m (c.tc.loc main_arg1)) (m (c.tc.loc main_arg2)) (m (c.tc.loc main_arg3)) (m (c.tc.loc main_arg4))

/-- The mixer's branch. -/
abbrev aP : Half :=
  mulf (mulf (tG (aY m c)) (tL (tQ (tG (aY m c)) (m (c.tc.loc main_arg10)) (m (c.tc.loc main_arg7))))) (tS (tA (m (c.tc.loc main_arg6))))

/-- The convolution's rows less their means. -/
abbrev aD : Half := tD (m (c.tc.loc main_arg5)) (tM (m (c.tc.loc main_arg5)))

/-- The convolution's branch. -/
abbrev aQ : Half :=
  mulf (tS (tN (aD m c) (tM (mulf (aD m c) (aD m c))) (m (c.tc.loc main_arg8)) (m (c.tc.loc main_arg9)))) (tS (tB (m (c.tc.loc main_arg6))))

/-- The reference's result. -/
def term : Rows := tOut (m (c.tc.loc main_arg0)) (tU (aP m c) (aQ m c)) (tW (m (c.tc.loc main_arg11)))

/-- It is the one that the program ends with. -/
theorem term_eq : res_main_v66 m c = term m c := rfl

/-- The mixer's branch, by its numbers. -/
abbrev nP : ℕ → ℕ → EReal :=
  left (beside4 (nat2 (m (c.tc.loc main_arg1))) (nat2 (m (c.tc.loc main_arg2))) (nat2 (m (c.tc.loc main_arg3))) (nat2 (m (c.tc.loc main_arg4))))
    (fun n k => nat2 (m (c.tc.loc main_arg6)) n (512 + k)) (tall (m (c.tc.loc main_arg10))) (row (m (c.tc.loc main_arg7)))

/-- The convolution's branch, by its numbers. -/
abbrev nQ : ℕ → ℕ → EReal :=
  right (nat2 (m (c.tc.loc main_arg5))) (fun n k => nat2 (m (c.tc.loc main_arg6)) n (2048 + k)) (row (m (c.tc.loc main_arg8))) (row (m (c.tc.loc main_arg9)))

/-- An entry of the mixer's branch. -/
theorem aP_at (n : Fin 8192) (k : Fin 512) : (aP m c (ix2 n k) : EReal) = nP m c n k :=
  left_at _ _ _ n k _ _ _ _ (tG_at _ n k _ (tY_at _ _ _ _ n k)) (tQ_at _ _ _ n _ (fun l => tG_at _ n l _ (tY_at _ _ _ _ n l)) k) (tA_at _ n k)

/-- An entry of the convolution's branch. -/
theorem aQ_at (n : Fin 8192) (k : Fin 512) : (aQ m c (ix2 n k) : EReal) = nQ m c n k :=
  congrArg₂ (fun a b : EReal => a * b)
    (tS_at _ n k _ (tN_at _ _ _ n (nat2 (m (c.tc.loc main_arg5))) (fun l => tD_at _ n l) k)) (tS_at _ n k _ (tB_at _ n k))

/-- The rows with the product of the branches added. -/
theorem result (n : Fin 8192) (a : Fin 1024) : (term m c (ix2 n a) : EReal)
    = out (nat2 (m (c.tc.loc main_arg0))) (both (nP m c) (nQ m c)) (tall (m (c.tc.loc main_arg11))) n a :=
  tOut_at _ _ _ n _ (tU_at _ _ n _ _ (aP_at m c n) (aQ_at m c n)) a

end Cert.Reference9Ideal.Read
end
-- ==== Proof.MixClaim.lean ====
/-
  The even layer's output product: the kernel's result is the reference's.
-/
module

public import proofs.«01_k».proof.Defs
public import proofs.«01_k».proof.Proof.MixState
public import proofs.«01_k».proof.Proof.MixRef
public import Idealize.ShloMosaic.Lib.Quiescent
public import Idealize.ShloMosaic.Adequacy
public import Idealize.ShloMosaic.Init

@[expose] public section
set_option maxRecDepth 16384
noncomputable section
open Idealize.ShloMosaic Idealize.ShloMosaic.TcCoe Idealize.SL.Sem
namespace Cert.MixClaim
open Cert.Norm Cert.Mix Cert.Attn
open Cert.Gate (tall)

/-- The reference runs, leaves its arguments as they were, and has no counter that could end off zero. -/
theorem reference_frame : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)

/-- The results of the kernel are the results of the reference. -/
theorem algebraic : Cert.algebraic_Kernel9Ideal_Reference9Ideal (hKernel9Ideal := Cert.Kernel9Ideal.Gen.facts)
    (hReference9Ideal := Cert.Reference9Ideal.Gen.facts) := by
  intro m g m' g' _ hargs
  have e0 := fun c => congrArg nat2 (hargs c).1
  have e1 := fun c => congrArg nat2 (hargs c).2.1
  have e2 := fun c => congrArg nat2 (hargs c).2.2.1
  have e3 := fun c => congrArg nat2 (hargs c).2.2.2.1
  have e4 := fun c => congrArg nat2 (hargs c).2.2.2.2.1
  have e5 := fun c => congrArg nat2 (hargs c).2.2.2.2.2.1
  have e6 := fun c => congrArg (fun z n k => nat2 z n (512 + k)) (hargs c).2.2.2.2.2.2.1
  have e6' := fun c => congrArg (fun z n k => nat2 z n (2048 + k)) (hargs c).2.2.2.2.2.2.1
  have e7 := fun c => congrArg row (hargs c).2.2.2.2.2.2.2.1
  have e8 := fun c => congrArg row (hargs c).2.2.2.2.2.2.2.2.1
  have e9 := fun c => congrArg row (hargs c).2.2.2.2.2.2.2.2.2.1
  have e10 := fun c => congrArg tall (hargs c).2.2.2.2.2.2.2.2.2.2.1
  have e11 := fun c => congrArg tall (hargs c).2.2.2.2.2.2.2.2.2.2.2
  have eY := fun c => congr (congr (congr (congrArg beside4 (e1 c)) (e2 c)) (e3 c)) (e4 c)
  have eP := fun c => congr (congr (congr (congrArg left (eY c)) (e6 c)) (e10 c)) (e7 c)
  have eQ := fun c => congr (congr (congr (congrArg right (e5 c)) (e6' c)) (e8 c)) (e9 c)
  have hp : ∀ c, Cert.Reference9Ideal.Read.term m' c = (Cert.Kernel9Ideal.Gen.dats m 0 c).arrAt 13 Cert.Kernel9Ideal.cfg0.N := fun c => by
    refine funext fun i => (congrArg _ (eq_ix2 (a := 8192) (b := 1024) i)).trans ?_
    refine (Cert.Reference9Ideal.Read.result m' c (i 0) (i 1)).trans (Eq.trans ?_ (congrFun (Cert.Kernel9Ideal.Point.array m c) i).symm)
    exact congrFun (congrFun (congr (congr (congrArg out (e0 c)) (congr (congrArg both (eP c)) (eQ c))) (e11 c)) _) _
  refine ⟨fun c => (Cert.Kernel9Ideal.Gen.dats m 0 c).arrAt 13 Cert.Kernel9Ideal.cfg0.N, ?_, ?_⟩
  · exact Cert.Kernel9Ideal.Value.run_blocks m g
  · exact (θ_run _ _ _).mono (fun r h c => ⟨(h c).1.trans (hp c), (h c).2⟩) (Cert.Reference9Ideal.Value.run m' g')

end Cert.MixClaim
end
-- ==== Proof.lean ====
/-
  Eight launches of a training step against the plain mathematics: the gradients of the banded attention's queries, keys and
  values (where the queries, the keys and the biases are real numbers), the gradients of the odd and of the even layers'
  normalised projection, the two projections themselves, the attention's output product and its gradients, and the
  cross-attention. The programs' frames, the named constant, and the equality of the results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Arrays
public import proofs.«01_k».proof.Proof.RefResults
public import proofs.«01_k».proof.Proof.Finite
public import proofs.«01_k».proof.Proof.OddClaim
public import proofs.«01_k».proof.Proof.EvenClaim
public import proofs.«01_k».proof.Proof.ProjClaim
public import proofs.«01_k».proof.Proof.OutClaim
public import proofs.«01_k».proof.Proof.CrossClaim
public import proofs.«01_k».proof.Proof.EvenProjClaim
public import proofs.«01_k».proof.Proof.GateClaim
public import proofs.«01_k».proof.Proof.MixClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and has no counter that could end off zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems rfl r.2⟩) (Cert.ReferenceIdeal.Value.run m g)

/-- Arrays of two axes with equal entries are equal. -/
theorem ext2 {a b : ℕ} (x y : (⟨2, ![a, b]⟩ : Shape).Idx → EReal) (h : ∀ i j, x (ix2 i j) = y (ix2 i j)) : x = y := by
  funext k
  have e : k = ix2 (k 0) (k 1) := by
    funext z
    match z with
    | ⟨0, _⟩ => rfl
    | ⟨1, _⟩ => rfl
  rw [e]
  exact h _ _

/-- The three results of the kernel and the reference are equal. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.side) := by
  intro m g m' g' hpre hargs
  have R : ∀ c, Cert.Attn.Reals (Cert.KernelIdeal.Point.X m c) (Cert.KernelIdeal.Point.B m c) := fun c =>
    @Cert.Pre_finite.reals Cert.Pre_finite.side _ _ _ (hpre c)
  have eX : ∀ c, Cert.ReferenceIdeal.Read.X (StableHlo.launchContents m' c) = Cert.KernelIdeal.Point.X m c := fun c =>
    congrArg Cert.Attn.nat2 (hargs c).1
  have eG : ∀ c, Cert.ReferenceIdeal.Read.G (StableHlo.launchContents m' c) = Cert.KernelIdeal.Point.G m c := fun c =>
    congrArg Cert.Attn.nat2 (hargs c).2.1
  have eB : ∀ c, Cert.ReferenceIdeal.Read.B (StableHlo.launchContents m' c) = Cert.KernelIdeal.Point.B m c := fun c =>
    congrArg Cert.Attn.nat2 (hargs c).2.2
  have R' : ∀ c, Cert.Attn.Reals (Cert.ReferenceIdeal.Read.X (StableHlo.launchContents m' c)) (Cert.ReferenceIdeal.Read.B (StableHlo.launchContents m' c)) :=
    fun c => by rw [eX c, eB c]; exact R c
  have hq : ∀ c, Cert.ReferenceIdeal.Read.termQ (Cert.ReferenceIdeal.Value.res_main_v126 (StableHlo.launchContents m' c))
      (Cert.ReferenceIdeal.Value.res_main_v43 (StableHlo.launchContents m' c)) = Cert.KernelIdeal.Value.G5 m c := fun c =>
    ext2 _ _ fun i j => by
      refine (Cert.ReferenceIdeal.Read.result_q _ (R' c) i j).trans ?_
      rw [eX c, eG c, eB c]
      exact (Cert.KernelIdeal.Point.array_q m c (R c) i j).symm
  have hk : ∀ c, Cert.ReferenceIdeal.Read.termKV (Cert.ReferenceIdeal.Value.res_main_v184 (StableHlo.launchContents m' c))
      = Cert.KernelIdeal.Value.G6 m c := fun c =>
    ext2 _ _ fun i j => by
      refine (Cert.ReferenceIdeal.Read.result_k _ (R' c) i j).trans ?_
      rw [eX c, eG c, eB c]
      exact (Cert.KernelIdeal.Point.array_k m c (R c) i j).symm
  have hv : ∀ c, Cert.ReferenceIdeal.Read.termKV (Cert.ReferenceIdeal.Value.res_main_v157 (StableHlo.launchContents m' c))
      = Cert.KernelIdeal.Value.G7 m c := fun c =>
    ext2 _ _ fun i j => by
      refine (Cert.ReferenceIdeal.Read.result_v _ (R' c) i j).trans ?_
      rw [eX c, eG c, eB c]
      exact (Cert.KernelIdeal.Point.array_v m c (R c) i j).symm
  refine ⟨fun c => Cert.KernelIdeal.Value.G5 m c, fun c => Cert.KernelIdeal.Value.G6 m c, fun c => Cert.KernelIdeal.Value.G7 m c, ?_, ?_⟩
  · exact (θ_run _ _ _).mono (fun r h c => ⟨(h c).1, (h c).2.1, (h c).2.2.1, (h c).2.2.2.2.1, (h c).2.2.2.2.2.1, (h c).2.2.2.2.2.2⟩)
      (Cert.KernelIdeal.Value.run m g)
  · exact (θ_run _ _ _).mono (fun r h c => ⟨(h c).1.trans (hq c), (h c).2.1.trans (hk c), (h c).2.2.1.trans (hv c), (h c).2.2.2⟩)
      (Cert.ReferenceIdeal.Value.run m' g')

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.side,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  Cert.Odd.reference_frame,
  fun m ρ _ => Cert.Kernel3.Gen.frame m ρ,
  fun m ρ _ => Cert.Kernel3Ideal.Gen.frame m ρ,
  Cert.Even.reference_frame,
  fun m ρ _ => Cert.Kernel4.Gen.frame m ρ,
  fun m ρ _ => Cert.Kernel4Ideal.Gen.frame m ρ,
  Cert.Proj.reference_frame,
  fun m ρ _ => Cert.Kernel5.Gen.frame m ρ,
  fun m ρ _ => Cert.Kernel5Ideal.Gen.frame m ρ,
  Cert.OutClaim.reference_frame,
  fun m ρ _ => Cert.Kernel6.Gen.frame m ρ,
  fun m ρ _ => Cert.Kernel6Ideal.Gen.frame m ρ,
  Cert.CrossClaim.reference_frame,
  fun m ρ _ => Cert.Kernel7.Gen.frame m ρ,
  fun m ρ _ => Cert.Kernel7Ideal.Gen.frame m ρ,
  Cert.EvenProj.reference_frame,
  fun m ρ _ => Cert.Kernel8.Gen.frame m ρ,
  fun m ρ _ => Cert.Kernel8Ideal.Gen.frame m ρ,
  Cert.GateClaim.reference_frame,
  fun m ρ _ => Cert.Kernel9.Gen.frame m ρ,
  fun m ρ _ => Cert.Kernel9Ideal.Gen.frame m ρ,
  Cert.MixClaim.reference_frame,
  IdealRules.named_const.statement Cert.KernelIdeal.κ "mask" .f32 0xF149F2CA#32 ⊥ rfl,
  algebraic,
  trivial, Cert.Odd.algebraic,
  trivial, Cert.Even.algebraic,
  trivial, Cert.Proj.algebraic,
  trivial, Cert.OutClaim.algebraic,
  trivial, Cert.CrossClaim.algebraic,
  trivial, Cert.EvenProj.algebraic,
  trivial, Cert.GateClaim.algebraic,
  trivial, Cert.MixClaim.algebraic⟩

end Cert.Proof

end
